-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))) = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "dead" .f32 0xC2D40000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v20)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v71) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v11_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_0) = v0 c
          ∧ r.2.mem ((c.tc : Thread Cert.Kernel5Ideal.nD Cert.Kernel5Ideal.τ).loc Cert.Kernel5Ideal.main_v11_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v48) = v0 c
          ∧ r.2.mem ((c.tc : Thread Cert.Reference5Ideal.nD Cert.Reference5Ideal.τ).loc Cert.Reference5Ideal.main_v49) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v47)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v47) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v34) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v47)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v47) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v34) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_routed := hPre_routed)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S32768x3328 : Shape := ⟨2, ![32768, 3328]⟩
abbrev S_ : Shape := ⟨0, ![]⟩

class Facts : Prop where
  bcast_S_S32768x3328 : S_.BroadcastsInDim S32768x3328 (![] : Fin 0 → Fin S32768x3328.rank)

variable [Facts]

def fn {F : FTy → Type} [FloatOps F] (main_arg0 : FVec F S32768x3328 .f32) : IVec S32768x3328 1 :=
  let main_v0 : FVec F S32768x3328 .f32 := Host.absf main_arg0
  let main_cst : FVec F S_ .f32 := constant S_ .f32 0x7F800000#32
  let main_v1 : FVec F S32768x3328 .f32 := broadcastInDim S32768x3328 ![] bcast_S_S32768x3328 main_cst
  let main_v2 : IVec S32768x3328 1 := cmpf .olt main_v0 main_v1
  main_v2
-- ==== Pre_routed.lean ====
abbrev S147456x2048 : Shape := ⟨2, ![147456, 2048]⟩
abbrev S288 : Shape := ⟨1, ![288]⟩
abbrev S1 : Shape := ⟨1, ![1]⟩
abbrev S32x2048x2048 : Shape := ⟨3, ![32, 2048, 2048]⟩
abbrev S32x4096 : Shape := ⟨2, ![32, 4096]⟩
abbrev S32x2048 : Shape := ⟨2, ![32, 2048]⟩
abbrev S_ : Shape := ⟨0, ![]⟩

class Facts : Prop where
  bcast_S_S288 : S_.BroadcastsInDim S288 (![] : Fin 0 → Fin S288.rank)
  shapeCasts_S1_S_ : S1.ShapeCasts S_

variable [Facts]

def fn {F : FTy → Type} [FloatOps F] (main_arg0 : FVec F S147456x2048 .f32) (main_arg1 : IVec S288 32) (main_arg2 : IVec S1 32) (main_arg3 : FVec F S32x2048x2048 .f32) (main_arg4 : FVec F S32x2048x2048 .f32) (main_arg5 : FVec F S32x4096 .f32) (main_arg6 : FVec F S32x2048x2048 .f32) (main_arg7 : FVec F S32x2048 .f32) : IVec S288 1 :=
  let main_c : IVec S_ 32 := constantI S_ 32 0#32
  let main_v0 : IVec S288 32 := broadcastInDim S288 ![] bcast_S_S288 main_c
  let main_v1 : IVec S288 1 := cmpi .sge main_arg1 main_v0
  let main_c_0 : IVec S_ 32 := constantI S_ 32 32#32
  let main_v2 : IVec S288 32 := broadcastInDim S288 ![] bcast_S_S288 main_c_0
  let main_v3 : IVec S288 1 := cmpi .slt main_arg1 main_v2
  let main_v4 : IVec S288 1 := andi main_v1 main_v3
  let main_v5 : IVec S_ 32 := shapeCast S_ main_arg2 shapeCasts_S1_S_
  let main_c_1 : IVec S_ 32 := constantI S_ 32 1#32
  let main_v6 : IVec S_ 1 := cmpi .sge main_v5 main_c_1
  let main_v7 : IVec S288 1 := broadcastInDim S288 ![] bcast_S_S288 main_v6
  let main_v8 : IVec S288 1 := andi main_v4 main_v7
  main_v8
-- ==== Kernel.lean ====
abbrev S32768x3328 : Shape := ⟨2, ![32768, 3328]⟩
abbrev S32768x1024 : Shape := ⟨2, ![32768, 1024]⟩
abbrev S256x256 : Shape := ⟨2, ![256, 256]⟩
abbrev S8192x256 : Shape := ⟨2, ![8192, 256]⟩
abbrev S256x128 : Shape := ⟨2, ![256, 128]⟩
abbrev S256x1 : Shape := ⟨2, ![256, 1]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 3
  | .vmem => 8
  | .smem => 0
  | _ => 0

abbrev bufTy : (tb : Table) → Fin (tcTables nBuf tb) → BufTy
  | .hbm, ⟨0, _⟩ => ⟨S32768x3328, .f32⟩
  | .hbm, ⟨1, _⟩ => ⟨S32768x3328, .bf16⟩
  | .hbm, ⟨2, _⟩ => ⟨S32768x1024, .bf16⟩
  | .local _ .vmem, ⟨0, _⟩ => ⟨S256x256, .bf16⟩
  | .local _ .vmem, ⟨1, _⟩ => ⟨S256x256, .bf16⟩
  | .local _ .vmem, ⟨2, _⟩ => ⟨S8192x256, .bf16⟩
  | .local _ .vmem, ⟨3, _⟩ => ⟨S8192x256, .bf16⟩
  | .local _ .vmem, ⟨4, _⟩ => ⟨S8192x256, .bf16⟩
  | .local _ .vmem, ⟨5, _⟩ => ⟨S8192x256, .bf16⟩
  | .local _ .vmem, ⟨6, _⟩ => ⟨S256x256, .bf16⟩
  | .local _ .vmem, ⟨7, _⟩ => ⟨S256x256, .bf16⟩
  | _, _ => ⟨S32768x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 32], ![false, false, false]⟩

def k0_mult1 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c256_i32_19 : BitVec 32 := 256#32
  let v53 : BitVec 32 := Scalar.muli v17 c256_i32_19
  v53
def k0_off1 (i : grid0.Coords) : Fin 2 → Nat :=
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c256_i32_19 : BitVec 32 := 256#32
  let v53 : BitVec 32 := Scalar.muli v17 c256_i32_19
  let v54 : BitVec 32 := v53
  let v55 : Index := Scalar.indexCast v54
  let c0_20 : Index := 0#32
  ![v55.toNat, 0]
def k0_off2 (i : grid0.Coords) : Fin 2 → Nat :=
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c256_i32_19 : BitVec 32 := 256#32
  let v53 : BitVec 32 := Scalar.muli v17 c256_i32_19
  let v54 : BitVec 32 := v53
  let v59 : Index := Scalar.indexCast v54
  let c128_22 : Index := 128#32
  ![v59.toNat, 128]
def k0_mult2 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_17 : BitVec 32 := 1#32
  let v51 : BitVec 32 := Scalar.subi v17 c1_i32_17
  let c0_i32_18 : BitVec 32 := 0#32
  let v52 : BitVec 32 := Scalar.maxsi v51 c0_i32_18
  let c256_i32_40 : BitVec 32 := 256#32
  let v113 : BitVec 32 := Scalar.muli v52 c256_i32_40
  v113
def k0_off3 (i : grid0.Coords) (c1_i32_17 : BitVec 32) : Fin 2 → Nat :=
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let v51 : BitVec 32 := Scalar.subi v17 c1_i32_17
  let c0_i32_18 : BitVec 32 := 0#32
  let v52 : BitVec 32 := Scalar.maxsi v51 c0_i32_18
  let c256_i32_40 : BitVec 32 := 256#32
  let v113 : BitVec 32 := Scalar.muli v52 c256_i32_40
  let v114 : BitVec 32 := v113
  let v115 : Index := Scalar.indexCast v114
  let c0_41 : Index := 0#32
  ![v115.toNat, 0]
def k0_off4 (i : grid0.Coords) (c1_i32_17 : BitVec 32) : Fin 2 → Nat :=
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let v51 : BitVec 32 := Scalar.subi v17 c1_i32_17
  let c0_i32_18 : BitVec 32 := 0#32
  let v52 : BitVec 32 := Scalar.maxsi v51 c0_i32_18
  let c256_i32_40 : BitVec 32 := 256#32
  let v113 : BitVec 32 := Scalar.muli v52 c256_i32_40
  let v114 : BitVec 32 := v113
  let v119 : Index := Scalar.indexCast v114
  let c128_43 : Index := 128#32
  ![v119.toNat, 128]
def k0_mult3 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c2_i32 : BitVec 32 := 2#32
  let v165 : BitVec 32 := Scalar.subi v17 c2_i32
  let c0_i32_57 : BitVec 32 := 0#32
  let v166 : BitVec 32 := Scalar.maxsi v165 c0_i32_57
  let c256_i32_58 : BitVec 32 := 256#32
  let v167 : BitVec 32 := Scalar.muli v166 c256_i32_58
  v167
def k0_mult4 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c256_i32_63 : BitVec 32 := 256#32
  let v177 : BitVec 32 := Scalar.muli v17 c256_i32_63
  v177
def k0_mult5 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_17 : BitVec 32 := 1#32
  let v51 : BitVec 32 := Scalar.subi v17 c1_i32_17
  let c0_i32_18 : BitVec 32 := 0#32
  let v52 : BitVec 32 := Scalar.maxsi v51 c0_i32_18
  let c256_i32_72 : BitVec 32 := 256#32
  let v201 : BitVec 32 := Scalar.muli v52 c256_i32_72
  v201
def k0_mult6 (i : grid0.Coords) (arg7 : BitVec 32) : BitVec 32 :=
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c2_i32_83 : BitVec 32 := 2#32
  let v241 : BitVec 32 := Scalar.subi v17 c2_i32_83
  let v242 : BitVec 32 := Scalar.subi v241 arg7
  let c1_i32_84 : BitVec 32 := 1#32
  let v243 : BitVec 32 := Scalar.subi v242 c1_i32_84
  let c0_i32_85 : BitVec 32 := 0#32
  let v244 : BitVec 32 := Scalar.maxsi v243 c0_i32_85
  let c256_i32_86 : BitVec 32 := 256#32
  let v245 : BitVec 32 := Scalar.muli v244 c256_i32_86
  v245

def k0_off5 (i : grid0.Coords) (arg7 : BitVec 32) : Fin 2 → Nat :=
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c2_i32_83 : BitVec 32 := 2#32
  let v241 : BitVec 32 := Scalar.subi v17 c2_i32_83
  let v242 : BitVec 32 := Scalar.subi v241 arg7
  let c1_i32_84 : BitVec 32 := 1#32
  let v243 : BitVec 32 := Scalar.subi v242 c1_i32_84
  let c0_i32_85 : BitVec 32 := 0#32
  let v244 : BitVec 32 := Scalar.maxsi v243 c0_i32_85
  let c256_i32_86 : BitVec 32 := 256#32
  let v245 : BitVec 32 := Scalar.muli v244 c256_i32_86
  let v246 : BitVec 32 := v245
  let v247 : Index := Scalar.indexCast v246
  let c0_87 : Index := 0#32
  ![v247.toNat, 0]
def k0_off6 (i : grid0.Coords) (arg7 : BitVec 32) : Fin 2 → Nat :=
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c2_i32_83 : BitVec 32 := 2#32
  let v241 : BitVec 32 := Scalar.subi v17 c2_i32_83
  let v242 : BitVec 32 := Scalar.subi v241 arg7
  let c1_i32_84 : BitVec 32 := 1#32
  let v243 : BitVec 32 := Scalar.subi v242 c1_i32_84
  let c0_i32_85 : BitVec 32 := 0#32
  let v244 : BitVec 32 := Scalar.maxsi v243 c0_i32_85
  let c256_i32_86 : BitVec 32 := 256#32
  let v245 : BitVec 32 := Scalar.muli v244 c256_i32_86
  let v246 : BitVec 32 := v245
  let v251 : Index := Scalar.indexCast v246
  let c128_89 : Index := 128#32
  ![v251.toNat, 128]
def k0_mult7 (i : grid0.Coords) (arg7 : BitVec 32) : BitVec 32 :=
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c2_i32_83 : BitVec 32 := 2#32
  let v241 : BitVec 32 := Scalar.subi v17 c2_i32_83
  let v242 : BitVec 32 := Scalar.subi v241 arg7
  let c256_i32_103 : BitVec 32 := 256#32
  let v297 : BitVec 32 := Scalar.muli v242 c256_i32_103
  v297
def k0_off7 (i : grid0.Coords) (arg7 : BitVec 32) : Fin 2 → Nat :=
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c2_i32_83 : BitVec 32 := 2#32
  let v241 : BitVec 32 := Scalar.subi v17 c2_i32_83
  let v242 : BitVec 32 := Scalar.subi v241 arg7
  let c256_i32_103 : BitVec 32 := 256#32
  let v297 : BitVec 32 := Scalar.muli v242 c256_i32_103
  let v298 : BitVec 32 := v297
  let v302 : Index := Scalar.indexCast v298
  let c0_104 : Index := 0#32
  ![v302.toNat, 0]
def k0_off8 (i : grid0.Coords) (arg7 : BitVec 32) : Fin 2 → Nat :=
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c2_i32_83 : BitVec 32 := 2#32
  let v241 : BitVec 32 := Scalar.subi v17 c2_i32_83
  let v242 : BitVec 32 := Scalar.subi v241 arg7
  let c256_i32_103 : BitVec 32 := 256#32
  let v297 : BitVec 32 := Scalar.muli v242 c256_i32_103
  let v298 : BitVec 32 := v297
  let v312 : Index := Scalar.indexCast v298
  let c128_106 : Index := 128#32
  ![v312.toNat, 128]

def k0_chk1 (i : grid0.Coords) (arg7 : BitVec 32) : Prop :=
  (256 ∣ (k0_mult6 i arg7).toNat) ∧
  (∀ a, (k0_off5 i arg7) a + S256x128.size a ≤ S8192x256.size a) ∧
  (∀ a, (k0_off6 i arg7) a + S256x128.size a ≤ S8192x256.size a) ∧
  (256 ∣ (k0_mult7 i arg7).toNat) ∧
  (∀ a, (k0_off7 i arg7) a + S256x128.size a ≤ S8192x256.size a) ∧
  (∀ a, (k0_off8 i arg7) a + S256x128.size a ≤ S8192x256.size a)
theorem k0_mult6_dvd : ∀ (i : grid0.Coords) (arg7 : BitVec 32) (k0_hw1 : k0_chk1 i arg7), 256 ∣ (k0_mult6 i arg7).toNat := fun i arg7 k0_hw1 => k0_hw1.1
theorem k0_off5_inb : ∀ (i : grid0.Coords) (arg7 : BitVec 32) (k0_hw1 : k0_chk1 i arg7), ∀ a, (k0_off5 i arg7) a + S256x128.size a ≤ S8192x256.size a := fun i arg7 k0_hw1 => k0_hw1.2.1
theorem k0_off6_inb : ∀ (i : grid0.Coords) (arg7 : BitVec 32) (k0_hw1 : k0_chk1 i arg7), ∀ a, (k0_off6 i arg7) a + S256x128.size a ≤ S8192x256.size a := fun i arg7 k0_hw1 => k0_hw1.2.2.1
theorem k0_mult7_dvd : ∀ (i : grid0.Coords) (arg7 : BitVec 32) (k0_hw1 : k0_chk1 i arg7), 256 ∣ (k0_mult7 i arg7).toNat := fun i arg7 k0_hw1 => k0_hw1.2.2.2.1
theorem k0_off7_inb : ∀ (i : grid0.Coords) (arg7 : BitVec 32) (k0_hw1 : k0_chk1 i arg7), ∀ a, (k0_off7 i arg7) a + S256x128.size a ≤ S8192x256.size a := fun i arg7 k0_hw1 => k0_hw1.2.2.2.2.1
theorem k0_off8_inb : ∀ (i : grid0.Coords) (arg7 : BitVec 32) (k0_hw1 : k0_chk1 i arg7), ∀ a, (k0_off8 i arg7) a + S256x128.size a ≤ S8192x256.size a := fun i arg7 k0_hw1 => k0_hw1.2.2.2.2.2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c1_i32 : BitVec 32 := 1#32
  let v2 : BitVec 32 := Scalar.addi c1_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi c5_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.addi c9_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "dead" => some ⊥
  | "mask" => some ⊥
  | _ => none
-- ==== ReferenceIdeal.lean ====
abbrev S32768x3328 : Shape := ⟨2, ![32768, 3328]⟩
abbrev S4x8192x3328 : Shape := ⟨3, ![4, 8192, 3328]⟩
abbrev S4x8192x1024 : Shape := ⟨3, ![4, 8192, 1024]⟩
abbrev S4x8192x8x128 : Shape := ⟨4, ![4, 8192, 8, 128]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8x8192x8192 : Shape := ⟨4, ![4, 8, 8192, 8192]⟩
abbrev S_ : Shape := ⟨0, ![]⟩
abbrev S4x8x128x8192 : Shape := ⟨4, ![4, 8, 128, 8192]⟩
abbrev S32768x1024 : Shape := ⟨2, ![32768, 1024]⟩

abbrev nBuf : Space → Nat
  | .hbm => 55
  | .vmem => 0
  | .smem => 0
  | _ => 0

abbrev bufTy : (tb : Table) → Fin (tcTables nBuf tb) → BufTy
  | .hbm, ⟨0, _⟩ => ⟨S32768x3328, .f32⟩
  | .hbm, ⟨1, _⟩ => ⟨S4x8192x3328, .f32⟩
  | .hbm, ⟨2, _⟩ => ⟨S4x8192x1024, .f32⟩
  | .hbm, ⟨3, _⟩ => ⟨S4x8192x8x128, .f32⟩
  | .hbm, ⟨4, _⟩ => ⟨S4x8192x1024, .f32⟩
  | .hbm, ⟨5, _⟩ => ⟨S4x8192x8x128, .f32⟩
  | .hbm, ⟨6, _⟩ => ⟨S4x8192x1024, .f32⟩
  | .hbm, ⟨7, _⟩ => ⟨S4x8192x8x128, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S4x8x8192x8192, .f32⟩
  | .hbm, ⟨15, _⟩ => ⟨S_, .f32⟩
  | .hbm, ⟨16, _⟩ => ⟨S4x8x8192x8192, .f32⟩
  | .hbm, ⟨17, _⟩ => ⟨S4x8x8192x8192, .f32⟩
  | .hbm, ⟨18, _⟩ => ⟨S4x8x8192x8192, .f32⟩
  | .hbm, ⟨19, _⟩ => ⟨S_, .f32⟩
  | .hbm, ⟨20, _⟩ => ⟨S4x8x8192x8192, .f32⟩
  | .hbm, ⟨21, _⟩ => ⟨S4x8x8192x8192, .f32⟩
  | .hbm, ⟨22, _⟩ => ⟨S4x8x8192x8192, .f32⟩
  | .hbm, ⟨23, _⟩ => ⟨S4x8x8192x8192, .f32⟩
  | .hbm, ⟨24, _⟩ => ⟨S4x8x8192x8192, .i1⟩
  | .hbm, ⟨25, _⟩ => ⟨S4x8x8192x8192, .f32⟩
  | .hbm, ⟨26, _⟩ => ⟨S4x8x8192x8192, .f32⟩
  | .hbm, ⟨27, _⟩ => ⟨S4x8x8192x8192, .f32⟩
  | .hbm, ⟨28, _⟩ => ⟨S4x8x8192x8192, .f32⟩
  | .hbm, ⟨29, _⟩ => ⟨S4x8x8192x8192, .f32⟩
  | .hbm, ⟨30, _⟩ => ⟨S4x8x8192x8192, .f32⟩
  | .hbm, ⟨31, _⟩ => ⟨S4x8x8192x8192, .f32⟩
  | .hbm, ⟨32, _⟩ => ⟨S4x8x8192x8192, .f32⟩
  | .hbm, ⟨33, _⟩ => ⟨S4x8x8192x8192, .f32⟩
  | .hbm, ⟨34, _⟩ => ⟨S4x8x8192x8192, .f32⟩
  | .hbm, ⟨35, _⟩ => ⟨S_, .f32⟩
  | .hbm, ⟨36, _⟩ => ⟨S_, .f32⟩
  | .hbm, ⟨37, _⟩ => ⟨S4x8x8192x8192, .i1⟩
  | .hbm, ⟨38, _⟩ => ⟨S4x8x8192x8192, .f32⟩
  | .hbm, ⟨39, _⟩ => ⟨S4x8x8192x8192, .f32⟩
  | .hbm, ⟨40, _⟩ => ⟨S_, .f32⟩
  | .hbm, ⟨41, _⟩ => ⟨S_, .f32⟩
  | .hbm, ⟨42, _⟩ => ⟨S4x8x8192x8192, .f32⟩
  | .hbm, ⟨43, _⟩ => ⟨S4x8x8192x8192, .f32⟩
  | .hbm, ⟨44, _⟩ => ⟨S4x8x8192x8192, .f32⟩
  | .hbm, ⟨45, _⟩ => ⟨S4x8x8192x8192, .f32⟩
  | .hbm, ⟨46, _⟩ => ⟨S_, .f32⟩
  | .hbm, ⟨47, _⟩ => ⟨S_, .f32⟩
  | .hbm, ⟨48, _⟩ => ⟨S4x8x8192x8192, .i1⟩
  | .hbm, ⟨49, _⟩ => ⟨S4x8x8192x8192, .f32⟩
  | .hbm, ⟨50, _⟩ => ⟨S4x8x8192x8192, .f32⟩
  | .hbm, ⟨51, _⟩ => ⟨S4x8x128x8192, .f32⟩
  | .hbm, ⟨52, _⟩ => ⟨S4x8192x8x128, .f32⟩
  | .hbm, ⟨53, _⟩ => ⟨S32768x1024, .f32⟩
  | .hbm, ⟨54, _⟩ => ⟨S32768x1024, .bf16⟩
  | _, _ => ⟨S32768x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_cst : Ref sig .tc := ⟨.hbm, 15, rfl⟩
abbrev main_v14 : Ref sig .tc := ⟨.hbm, 16, rfl⟩
abbrev main_v15 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v16 : Ref sig .tc := ⟨.hbm, 33, rfl⟩
abbrev main_v17 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v18 : Ref sig .tc := ⟨.hbm, 39, rfl⟩
abbrev main_call2_cst : Ref sig .tc := ⟨.hbm, 40, rfl⟩
abbrev main_call2_v0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_1 : Ref sig .tc := ⟨.hbm, 46, rfl⟩
abbrev main_call3_v0 : Ref sig .tc := ⟨.hbm, 47, rfl⟩
abbrev main_call3_v1 : Ref sig .tc := ⟨.hbm, 48, rfl⟩
abbrev main_call3_v2 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩

abbrev nD : Nat := 1
abbrev τ : Topo := Topo.v7x

variable {F : FTy → Type} [FloatOps F]
-- ==== Kernel2.lean ====
abbrev S147456x2048 : Shape := ⟨2, ![147456, 2048]⟩
abbrev S288 : Shape := ⟨1, ![288]⟩
abbrev S1 : Shape := ⟨1, ![1]⟩
abbrev S32x2048x2048 : Shape := ⟨3, ![32, 2048, 2048]⟩
abbrev S32x4096 : Shape := ⟨2, ![32, 4096]⟩
abbrev S32x2048 : Shape := ⟨2, ![32, 2048]⟩
abbrev S32x1x2048 : Shape := ⟨3, ![32, 1, 2048]⟩
abbrev S_ : Shape := ⟨0, ![]⟩
abbrev S512x2048 : Shape := ⟨2, ![512, 2048]⟩
abbrev S1x2048x1024 : Shape := ⟨3, ![1, 2048, 1024]⟩
abbrev S1x1x1024 : Shape := ⟨3, ![1, 1, 1024]⟩
abbrev S1x1024x2048 : Shape := ⟨3, ![1, 1024, 2048]⟩
abbrev S1x1x2048 : Shape := ⟨3, ![1, 1, 2048]⟩
abbrev S2048x1024 : Shape := ⟨2, ![2048, 1024]⟩
abbrev S512x1024 : Shape := ⟨2, ![512, 1024]⟩
abbrev S1x1024 : Shape := ⟨2, ![1, 1024]⟩
abbrev S1024x2048 : Shape := ⟨2, ![1024, 2048]⟩
abbrev S1x2048 : Shape := ⟨2, ![1, 2048]⟩

abbrev nBuf : Space → Nat
  | .hbm => 30
  | .vmem => 18
  | .smem => 2
  | _ => 0

abbrev bufTy : (tb : Table) → Fin (tcTables nBuf tb) → BufTy
  | .hbm, ⟨0, _⟩ => ⟨S147456x2048, .f32⟩
  | .hbm, ⟨1, _⟩ => ⟨S288, .i32⟩
  | .hbm, ⟨2, _⟩ => ⟨S32x2048x2048, .f32⟩
  | .hbm, ⟨3, _⟩ => ⟨S32x2048x2048, .f32⟩
  | .hbm, ⟨4, _⟩ => ⟨S32x4096, .f32⟩
  | .hbm, ⟨5, _⟩ => ⟨S32x2048x2048, .f32⟩
  | .hbm, ⟨6, _⟩ => ⟨S32x2048, .f32⟩
  | .hbm, ⟨7, _⟩ => ⟨S32x2048, .f32⟩
  | .hbm, ⟨8, _⟩ => ⟨S32x1x2048, .f32⟩
  | .hbm, ⟨9, _⟩ => ⟨S32x2048, .f32⟩
  | .hbm, ⟨10, _⟩ => ⟨S32x1x2048, .f32⟩
  | .hbm, ⟨11, _⟩ => ⟨S32x2048x2048, .bf16⟩
  | .hbm, ⟨12, _⟩ => ⟨S32x2048x2048, .bf16⟩
  | .hbm, ⟨13, _⟩ => ⟨S32x2048x2048, .bf16⟩
  | .hbm, ⟨14, _⟩ => ⟨S32x1x2048, .f32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1, .i32⟩
  | .hbm, ⟨24, _⟩ => ⟨S288, .i32⟩
  | .hbm, ⟨25, _⟩ => ⟨S_, .i32⟩
  | .hbm, ⟨26, _⟩ => ⟨S288, .i32⟩
  | .hbm, ⟨27, _⟩ => ⟨S288, .i1⟩
  | .hbm, ⟨28, _⟩ => ⟨S288, .i32⟩
  | .hbm, ⟨29, _⟩ => ⟨S147456x2048, .f32⟩
  | .local _ .vmem, ⟨0, _⟩ => ⟨S512x2048, .f32⟩
  | .local _ .vmem, ⟨1, _⟩ => ⟨S512x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x2048, .bf16⟩
  | .local _ .vmem, ⟨11, _⟩ => ⟨S1x1024x2048, .bf16⟩
  | .local _ .vmem, ⟨12, _⟩ => ⟨S1x1x2048, .f32⟩
  | .local _ .vmem, ⟨13, _⟩ => ⟨S1x1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .f32⟩
  | .local _ .smem, ⟨0, _⟩ => ⟨S288, .i32⟩
  | .local _ .smem, ⟨1, _⟩ => ⟨S1, .i32⟩
  | _, _ => ⟨S147456x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v20 : Ref sig .tc := ⟨.hbm, 29, rfl⟩
abbrev main_v19 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![288, 2], ![false, false]⟩

abbrev pre0 : Pipeline.Prefetch sig := ⟨2, ![main_v19.idx, main_arg2.idx], fun | 0 => main_v19.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c1_i32 : BitVec 32 := 1#32
  let v6 : BitVec 1 := Scalar.cmpi .eq arg1 c1_i32
  let v7 : BitVec 1 := Scalar.andi v1 v6
  let v8 : BitVec 32 := Scalar.extui v7
  let c0_i32_1 : BitVec 32 := 0#32
  let v9 : BitVec 1 := Scalar.cmpi .ne v8 c0_i32_1
  v9

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v10 : BitVec 1 := Scalar.xori v1 v_true
  let arg1 : BitVec 32 := BitVec.ofNat 32 (i 1).val
  let c0_i32_2 : BitVec 32 := 0#32
  let v11 : BitVec 1 := Scalar.cmpi .eq arg1 c0_i32_2
  let v12 : BitVec 1 := Scalar.andi v10 v11
  let v13 : BitVec 32 := Scalar.extui v12
  let c0_i32_3 : BitVec 32 := 0#32
  let v14 : BitVec 1 := Scalar.cmpi .ne v13 c0_i32_3
  v14

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S288.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S288.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_4 (k0_off1_inb : ∀ i : grid0.Coords, ∀ a, (k0_off1 i) a + S1.size a ≤ S288.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_5 (k0_off1_inb : ∀ i : grid0.Coords, ∀ a, (k0_off1 i) a + S1.size a ≤ S288.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, v4.toNat, c0_i32.toNat]

def cc0_transform_6 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S147456x2048 : Shape := ⟨2, ![147456, 2048]⟩
abbrev S288 : Shape := ⟨1, ![288]⟩
abbrev S1 : Shape := ⟨1, ![1]⟩
abbrev S32x2048x2048 : Shape := ⟨3, ![32, 2048, 2048]⟩
abbrev S32x4096 : Shape := ⟨2, ![32, 4096]⟩
abbrev S32x2048 : Shape := ⟨2, ![32, 2048]⟩
abbrev S288x512x2048 : Shape := ⟨3, ![288, 512, 2048]⟩
abbrev S_ : Shape := ⟨0, ![]⟩
abbrev S288x1 : Shape := ⟨2, ![288, 1]⟩
abbrev S288x4096 : Shape := ⟨2, ![288, 4096]⟩
abbrev S288x2048x2048 : Shape := ⟨3, ![288, 2048, 2048]⟩
abbrev S288x2048 : Shape := ⟨2, ![288, 2048]⟩
abbrev S288x1x2048 : Shape := ⟨3, ![288, 1, 2048]⟩
abbrev S288x1x1 : Shape := ⟨3, ![288, 1, 1]⟩

abbrev nBuf : Space → Nat
  | .hbm => 106
  | .vmem => 0
  | .smem => 0
  | _ => 0

abbrev bufTy : (tb : Table) → Fin (tcTables nBuf tb) → BufTy
  | .hbm, ⟨0, _⟩ => ⟨S147456x2048, .f32⟩
  | .hbm, ⟨1, _⟩ => ⟨S288, .i32⟩
  | .hbm, ⟨2, _⟩ => ⟨S1, .i32⟩
  | .hbm, ⟨3, _⟩ => ⟨S32x2048x2048, .f32⟩
  | .hbm, ⟨4, _⟩ => ⟨S32x2048x2048, .f32⟩
  | .hbm, ⟨5, _⟩ => ⟨S32x4096, .f32⟩
  | .hbm, ⟨6, _⟩ => ⟨S32x2048x2048, .f32⟩
  | .hbm, ⟨7, _⟩ => ⟨S32x2048, .f32⟩
  | .hbm, ⟨8, _⟩ => ⟨S288x512x2048, .f32⟩
  | .hbm, ⟨9, _⟩ => ⟨S_, .i32⟩
  | .hbm, ⟨10, _⟩ => ⟨S288, .i32⟩
  | .hbm, ⟨11, _⟩ => ⟨S288, .i1⟩
  | .hbm, ⟨12, _⟩ => ⟨S_, .i32⟩
  | .hbm, ⟨13, _⟩ => ⟨S288, .i32⟩
  | .hbm, ⟨14, _⟩ => ⟨S288, .i32⟩
  | .hbm, ⟨15, _⟩ => ⟨S288, .i32⟩
  | .hbm, ⟨16, _⟩ => ⟨S288x1, .i32⟩
  | .hbm, ⟨17, _⟩ => ⟨S288x4096, .f32⟩
  | .hbm, ⟨18, _⟩ => ⟨S_, .i32⟩
  | .hbm, ⟨19, _⟩ => ⟨S288, .i32⟩
  | .hbm, ⟨20, _⟩ => ⟨S288, .i1⟩
  | .hbm, ⟨21, _⟩ => ⟨S_, .i32⟩
  | .hbm, ⟨22, _⟩ => ⟨S288, .i32⟩
  | .hbm, ⟨23, _⟩ => ⟨S288, .i32⟩
  | .hbm, ⟨24, _⟩ => ⟨S288, .i32⟩
  | .hbm, ⟨25, _⟩ => ⟨S288x1, .i32⟩
  | .hbm, ⟨26, _⟩ => ⟨S288x2048x2048, .f32⟩
  | .hbm, ⟨27, _⟩ => ⟨S288x512x2048, .f32⟩
  | .hbm, ⟨28, _⟩ => ⟨S288x2048, .f32⟩
  | .hbm, ⟨29, _⟩ => ⟨S288x1x2048, .f32⟩
  | .hbm, ⟨30, _⟩ => ⟨S288x512x2048, .f32⟩
  | .hbm, ⟨31, _⟩ => ⟨S288x512x2048, .f32⟩
  | .hbm, ⟨32, _⟩ => ⟨S_, .i32⟩
  | .hbm, ⟨33, _⟩ => ⟨S288, .i32⟩
  | .hbm, ⟨34, _⟩ => ⟨S288, .i1⟩
  | .hbm, ⟨35, _⟩ => ⟨S_, .i32⟩
  | .hbm, ⟨36, _⟩ => ⟨S288, .i32⟩
  | .hbm, ⟨37, _⟩ => ⟨S288, .i32⟩
  | .hbm, ⟨38, _⟩ => ⟨S288, .i32⟩
  | .hbm, ⟨39, _⟩ => ⟨S288x1, .i32⟩
  | .hbm, ⟨40, _⟩ => ⟨S288x2048x2048, .f32⟩
  | .hbm, ⟨41, _⟩ => ⟨S288x512x2048, .f32⟩
  | .hbm, ⟨42, _⟩ => ⟨S288x2048, .f32⟩
  | .hbm, ⟨43, _⟩ => ⟨S288x1x2048, .f32⟩
  | .hbm, ⟨44, _⟩ => ⟨S288x512x2048, .f32⟩
  | .hbm, ⟨45, _⟩ => ⟨S288x512x2048, .f32⟩
  | .hbm, ⟨46, _⟩ => ⟨S_, .f32⟩
  | .hbm, ⟨47, _⟩ => ⟨S288x512x2048, .f32⟩
  | .hbm, ⟨48, _⟩ => ⟨S288x512x2048, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S288x512x2048, .f32⟩
  | .hbm, ⟨53, _⟩ => ⟨S288x512x2048, .f32⟩
  | .hbm, ⟨54, _⟩ => ⟨S_, .f32⟩
  | .hbm, ⟨55, _⟩ => ⟨S288x512x2048, .f32⟩
  | .hbm, ⟨56, _⟩ => ⟨S288x512x2048, .f32⟩
  | .hbm, ⟨57, _⟩ => ⟨S_, .f32⟩
  | .hbm, ⟨58, _⟩ => ⟨S288x512x2048, .f32⟩
  | .hbm, ⟨59, _⟩ => ⟨S288x512x2048, .f32⟩
  | .hbm, ⟨60, _⟩ => ⟨S288x512x2048, .f32⟩
  | .hbm, ⟨61, _⟩ => ⟨S288x512x2048, .f32⟩
  | .hbm, ⟨62, _⟩ => ⟨S_, .f32⟩
  | .hbm, ⟨63, _⟩ => ⟨S288x512x2048, .f32⟩
  | .hbm, ⟨64, _⟩ => ⟨S288x512x2048, .f32⟩
  | .hbm, ⟨65, _⟩ => ⟨S_, .f32⟩
  | .hbm, ⟨66, _⟩ => ⟨S288x512x2048, .f32⟩
  | .hbm, ⟨67, _⟩ => ⟨S288x512x2048, .f32⟩
  | .hbm, ⟨68, _⟩ => ⟨S288x512x2048, .f32⟩
  | .hbm, ⟨69, _⟩ => ⟨S_, .f32⟩
  | .hbm, ⟨70, _⟩ => ⟨S288x512x2048, .f32⟩
  | .hbm, ⟨71, _⟩ => ⟨S288x512x2048, .f32⟩
  | .hbm, ⟨72, _⟩ => ⟨S288x512x2048, .f32⟩
  | .hbm, ⟨73, _⟩ => ⟨S_, .i32⟩
  | .hbm, ⟨74, _⟩ => ⟨S288, .i32⟩
  | .hbm, ⟨75, _⟩ => ⟨S288, .i1⟩
  | .hbm, ⟨76, _⟩ => ⟨S_, .i32⟩
  | .hbm, ⟨77, _⟩ => ⟨S288, .i32⟩
  | .hbm, ⟨78, _⟩ => ⟨S288, .i32⟩
  | .hbm, ⟨79, _⟩ => ⟨S288, .i32⟩
  | .hbm, ⟨80, _⟩ => ⟨S288x1, .i32⟩
  | .hbm, ⟨81, _⟩ => ⟨S288x2048x2048, .f32⟩
  | .hbm, ⟨82, _⟩ => ⟨S288x512x2048, .f32⟩
  | .hbm, ⟨83, _⟩ => ⟨S_, .i32⟩
  | .hbm, ⟨84, _⟩ => ⟨S288, .i32⟩
  | .hbm, ⟨85, _⟩ => ⟨S288, .i1⟩
  | .hbm, ⟨86, _⟩ => ⟨S_, .i32⟩
  | .hbm, ⟨87, _⟩ => ⟨S288, .i32⟩
  | .hbm, ⟨88, _⟩ => ⟨S288, .i32⟩
  | .hbm, ⟨89, _⟩ => ⟨S288, .i32⟩
  | .hbm, ⟨90, _⟩ => ⟨S288x1, .i32⟩
  | .hbm, ⟨91, _⟩ => ⟨S288x2048, .f32⟩
  | .hbm, ⟨92, _⟩ => ⟨S288x1x2048, .f32⟩
  | .hbm, ⟨93, _⟩ => ⟨S288x512x2048, .f32⟩
  | .hbm, ⟨94, _⟩ => ⟨S288x512x2048, .f32⟩
  | .hbm, ⟨95, _⟩ => ⟨S288, .i32⟩
  | .hbm, ⟨96, _⟩ => ⟨S_, .i32⟩
  | .hbm, ⟨97, _⟩ => ⟨S288, .i32⟩
  | .hbm, ⟨98, _⟩ => ⟨S288, .i1⟩
  | .hbm, ⟨99, _⟩ => ⟨S288x1x1, .i1⟩
  | .hbm, ⟨100, _⟩ => ⟨S_, .f32⟩
  | .hbm, ⟨101, _⟩ => ⟨S_, .f32⟩
  | .hbm, ⟨102, _⟩ => ⟨S288x512x2048, .i1⟩
  | .hbm, ⟨103, _⟩ => ⟨S288x512x2048, .f32⟩
  | .hbm, ⟨104, _⟩ => ⟨S288x512x2048, .f32⟩
  | .hbm, ⟨105, _⟩ => ⟨S147456x2048, .f32⟩
  | _, _ => ⟨S147456x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_cst_6 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_11 : Ref sig .tc := ⟨.hbm, 73, rfl⟩
abbrev main_v47 : Ref sig .tc := ⟨.hbm, 74, rfl⟩
abbrev main_v48 : Ref sig .tc := ⟨.hbm, 75, rfl⟩
abbrev main_c_12 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c_13 : Ref sig .tc := ⟨.hbm, 83, rfl⟩
abbrev main_v55 : Ref sig .tc := ⟨.hbm, 84, rfl⟩
abbrev main_v56 : Ref sig .tc := ⟨.hbm, 85, rfl⟩
abbrev main_c_14 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_15 : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_v70 : Ref sig .tc := ⟨.hbm, 104, rfl⟩
abbrev main_v71 : Ref sig .tc := ⟨.hbm, 105, rfl⟩

abbrev nD : Nat := 1
abbrev τ : Topo := Topo.v7x

variable {F : FTy → Type} [FloatOps F]
-- ==== Kernel3.lean ====
abbrev S32768x2048 : Shape := ⟨2, ![32768, 2048]⟩
abbrev S2048x9808 : Shape := ⟨2, ![2048, 9808]⟩
abbrev S2048x4096 : Shape := ⟨2, ![2048, 4096]⟩
abbrev S32768x4096 : Shape := ⟨2, ![32768, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S32768x2048, .f32⟩
  | .hbm, ⟨1, _⟩ => ⟨S2048x9808, .f32⟩
  | .hbm, ⟨2, _⟩ => ⟨S2048x9808, .bf16⟩
  | .hbm, ⟨3, _⟩ => ⟨S32768x2048, .bf16⟩
  | .hbm, ⟨4, _⟩ => ⟨S2048x4096, .bf16⟩
  | .hbm, ⟨5, _⟩ => ⟨S32768x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S32768x2048 : Shape := ⟨2, ![32768, 2048]⟩
abbrev S2048x9808 : Shape := ⟨2, ![2048, 9808]⟩
abbrev S32768x9808 : Shape := ⟨2, ![32768, 9808]⟩
abbrev S32768x4096 : Shape := ⟨2, ![32768, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x9808, .f32⟩
  | .hbm, ⟨2, _⟩ => ⟨S32768x9808, .f32⟩
  | .hbm, ⟨3, _⟩ => ⟨S32768x4096, .f32⟩
  | .hbm, ⟨4, _⟩ => ⟨S32768x4096, .f32⟩
  | .hbm, ⟨5, _⟩ => ⟨S32768x4096, .f32⟩
  | .hbm, ⟨6, _⟩ => ⟨S_, .f32⟩
  | .hbm, ⟨7, _⟩ => ⟨S32768x4096, .f32⟩
  | .hbm, ⟨8, _⟩ => ⟨S32768x4096, .f32⟩
  | .hbm, ⟨9, _⟩ => ⟨S_, .f32⟩
  | .hbm, ⟨10, _⟩ => ⟨S32768x4096, .f32⟩
  | .hbm, ⟨11, _⟩ => ⟨S32768x4096, .f32⟩
  | .hbm, ⟨12, _⟩ => ⟨S32768x4096, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel4.lean ====
abbrev S32768x2048 : Shape := ⟨2, ![32768, 2048]⟩
abbrev S2048x9808 : Shape := ⟨2, ![2048, 9808]⟩
abbrev S2048x3328 : Shape := ⟨2, ![2048, 3328]⟩
abbrev S32768x3328 : Shape := ⟨2, ![32768, 3328]⟩
abbrev S1024x2048 : Shape := ⟨2, ![1024, 2048]⟩
abbrev S2048x1664 : Shape := ⟨2, ![2048, 1664]⟩
abbrev S1024x1664 : Shape := ⟨2, ![1024, 1664]⟩

abbrev nBuf : Space → Nat
  | .hbm => 6
  | .vmem => 6
  | .smem => 0
  | _ => 0

abbrev bufTy : (tb : Table) → Fin (tcTables nBuf tb) → BufTy
  | .hbm, ⟨0, _⟩ => ⟨S32768x2048, .f32⟩
  | .hbm, ⟨1, _⟩ => ⟨S2048x9808, .f32⟩
  | .hbm, ⟨2, _⟩ => ⟨S2048x9808, .bf16⟩
  | .hbm, ⟨3, _⟩ => ⟨S32768x2048, .bf16⟩
  | .hbm, ⟨4, _⟩ => ⟨S2048x3328, .bf16⟩
  | .hbm, ⟨5, _⟩ => ⟨S32768x3328, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1664, .bf16⟩
  | .local _ .vmem, ⟨3, _⟩ => ⟨S2048x1664, .bf16⟩
  | .local _ .vmem, ⟨4, _⟩ => ⟨S1024x1664, .bf16⟩
  | .local _ .vmem, ⟨5, _⟩ => ⟨S1024x1664, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S32768x2048 : Shape := ⟨2, ![32768, 2048]⟩
abbrev S2048x9808 : Shape := ⟨2, ![2048, 9808]⟩
abbrev S32768x9808 : Shape := ⟨2, ![32768, 9808]⟩
abbrev S32768x3328 : Shape := ⟨2, ![32768, 3328]⟩

abbrev nBuf : Space → Nat
  | .hbm => 5
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x9808, .f32⟩
  | .hbm, ⟨2, _⟩ => ⟨S32768x9808, .f32⟩
  | .hbm, ⟨3, _⟩ => ⟨S32768x3328, .f32⟩
  | .hbm, ⟨4, _⟩ => ⟨S32768x3328, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S32768x1024 : Shape := ⟨2, ![32768, 1024]⟩
abbrev S32768x4096 : Shape := ⟨2, ![32768, 4096]⟩
abbrev S32768x2048 : Shape := ⟨2, ![32768, 2048]⟩
abbrev S1024x2048 : Shape := ⟨2, ![1024, 2048]⟩
abbrev S2048x2048 : Shape := ⟨2, ![2048, 2048]⟩
abbrev S2048 : Shape := ⟨1, ![2048]⟩
abbrev S4x2048 : Shape := ⟨2, ![4, 2048]⟩
abbrev S1x2048 : Shape := ⟨2, ![1, 2048]⟩
abbrev S4x1x2048 : Shape := ⟨3, ![4, 1, 2048]⟩
abbrev S256x1024 : Shape := ⟨2, ![256, 1024]⟩
abbrev S256x4096 : Shape := ⟨2, ![256, 4096]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 25
  | .vmem => 23
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x4096, .f32⟩
  | .hbm, ⟨3, _⟩ => ⟨S32768x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S4x2048, .f32⟩
  | .hbm, ⟨9, _⟩ => ⟨S2048, .f32⟩
  | .hbm, ⟨10, _⟩ => ⟨S4x2048, .f32⟩
  | .hbm, ⟨11, _⟩ => ⟨S4x2048, .f32⟩
  | .hbm, ⟨12, _⟩ => ⟨S32768x1024, .bf16⟩
  | .hbm, ⟨13, _⟩ => ⟨S32768x1024, .bf16⟩
  | .hbm, ⟨14, _⟩ => ⟨S32768x4096, .bf16⟩
  | .hbm, ⟨15, _⟩ => ⟨S1024x2048, .bf16⟩
  | .hbm, ⟨16, _⟩ => ⟨S1024x2048, .bf16⟩
  | .hbm, ⟨17, _⟩ => ⟨S2048x2048, .bf16⟩
  | .hbm, ⟨18, _⟩ => ⟨S1x2048, .f32⟩
  | .hbm, ⟨19, _⟩ => ⟨S4x1x2048, .f32⟩
  | .hbm, ⟨20, _⟩ => ⟨S1x2048, .f32⟩
  | .hbm, ⟨21, _⟩ => ⟨S4x1x2048, .f32⟩
  | .hbm, ⟨22, _⟩ => ⟨S4x1x2048, .f32⟩
  | .hbm, ⟨23, _⟩ => ⟨S32768x2048, .f32⟩
  | .hbm, ⟨24, _⟩ => ⟨S32768x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x4096, .bf16⟩
  | .local _ .vmem, ⟨5, _⟩ => ⟨S256x4096, .bf16⟩
  | .local _ .vmem, ⟨6, _⟩ => ⟨S256x2048, .f32⟩
  | .local _ .vmem, ⟨7, _⟩ => ⟨S256x2048, .f32⟩
  | .local _ .vmem, ⟨8, _⟩ => ⟨S1024x2048, .bf16⟩
  | .local _ .vmem, ⟨9, _⟩ => ⟨S1024x2048, .bf16⟩
  | .local _ .vmem, ⟨10, _⟩ => ⟨S2048x2048, .bf16⟩
  | .local _ .vmem, ⟨11, _⟩ => ⟨S1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x2048, .f32⟩
  | .local _ .vmem, ⟨15, _⟩ => ⟨S1x1x2048, .f32⟩
  | .local _ .vmem, ⟨16, _⟩ => ⟨S1x1x2048, .f32⟩
  | .local _ .vmem, ⟨17, _⟩ => ⟨S1x1x2048, .f32⟩
  | .local _ .vmem, ⟨18, _⟩ => ⟨S1x1x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S256x2048, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S32768x1024 : Shape := ⟨2, ![32768, 1024]⟩
abbrev S32768x4096 : Shape := ⟨2, ![32768, 4096]⟩
abbrev S32768x2048 : Shape := ⟨2, ![32768, 2048]⟩
abbrev S1024x2048 : Shape := ⟨2, ![1024, 2048]⟩
abbrev S2048x2048 : Shape := ⟨2, ![2048, 2048]⟩
abbrev S2048 : Shape := ⟨1, ![2048]⟩
abbrev S4x2048 : Shape := ⟨2, ![4, 2048]⟩
abbrev S4x8192x2048 : Shape := ⟨3, ![4, 8192, 2048]⟩
abbrev S4x1x2048 : Shape := ⟨3, ![4, 1, 2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩

abbrev nBuf : Space → Nat
  | .hbm => 69
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x4096, .f32⟩
  | .hbm, ⟨3, _⟩ => ⟨S32768x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S4x2048, .f32⟩
  | .hbm, ⟨9, _⟩ => ⟨S2048, .f32⟩
  | .hbm, ⟨10, _⟩ => ⟨S4x2048, .f32⟩
  | .hbm, ⟨11, _⟩ => ⟨S4x2048, .f32⟩
  | .hbm, ⟨12, _⟩ => ⟨S4x8192x2048, .f32⟩
  | .hbm, ⟨13, _⟩ => ⟨S32768x2048, .f32⟩
  | .hbm, ⟨14, _⟩ => ⟨S32768x2048, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S4x8192x2048, .f32⟩
  | .hbm, ⟨22, _⟩ => ⟨S4x1x2048, .f32⟩
  | .hbm, ⟨23, _⟩ => ⟨S4x8192x2048, .f32⟩
  | .hbm, ⟨24, _⟩ => ⟨S_, .f32⟩
  | .hbm, ⟨25, _⟩ => ⟨S4x8192, .f32⟩
  | .hbm, ⟨26, _⟩ => ⟨S4x8192x1, .f32⟩
  | .hbm, ⟨27, _⟩ => ⟨S_, .f32⟩
  | .hbm, ⟨28, _⟩ => ⟨S4x8192x1, .f32⟩
  | .hbm, ⟨29, _⟩ => ⟨S4x8192x1, .f32⟩
  | .hbm, ⟨30, _⟩ => ⟨S_, .f32⟩
  | .hbm, ⟨31, _⟩ => ⟨S4x8192x1, .f32⟩
  | .hbm, ⟨32, _⟩ => ⟨S4x8192x1, .f32⟩
  | .hbm, ⟨33, _⟩ => ⟨S4x8192x1, .f32⟩
  | .hbm, ⟨34, _⟩ => ⟨S4x8192x2048, .f32⟩
  | .hbm, ⟨35, _⟩ => ⟨S4x8192x2048, .f32⟩
  | .hbm, ⟨36, _⟩ => ⟨S1x1x2048, .f32⟩
  | .hbm, ⟨37, _⟩ => ⟨S4x8192x2048, .f32⟩
  | .hbm, ⟨38, _⟩ => ⟨S4x8192x2048, .f32⟩
  | .hbm, ⟨39, _⟩ => ⟨S4x8192x2048, .f32⟩
  | .hbm, ⟨40, _⟩ => ⟨S4x8192x2048, .f32⟩
  | .hbm, ⟨41, _⟩ => ⟨S4x8192x2048, .f32⟩
  | .hbm, ⟨42, _⟩ => ⟨S4x8192x2048, .f32⟩
  | .hbm, ⟨43, _⟩ => ⟨S_, .f32⟩
  | .hbm, ⟨44, _⟩ => ⟨S4x8192, .f32⟩
  | .hbm, ⟨45, _⟩ => ⟨S4x8192x1, .f32⟩
  | .hbm, ⟨46, _⟩ => ⟨S_, .f32⟩
  | .hbm, ⟨47, _⟩ => ⟨S4x8192x1, .f32⟩
  | .hbm, ⟨48, _⟩ => ⟨S4x8192x1, .f32⟩
  | .hbm, ⟨49, _⟩ => ⟨S_, .f32⟩
  | .hbm, ⟨50, _⟩ => ⟨S4x8192x1, .f32⟩
  | .hbm, ⟨51, _⟩ => ⟨S4x8192x1, .f32⟩
  | .hbm, ⟨52, _⟩ => ⟨S4x8192x1, .f32⟩
  | .hbm, ⟨53, _⟩ => ⟨S4x8192x2048, .f32⟩
  | .hbm, ⟨54, _⟩ => ⟨S4x8192x2048, .f32⟩
  | .hbm, ⟨55, _⟩ => ⟨S1x1x2048, .f32⟩
  | .hbm, ⟨56, _⟩ => ⟨S4x8192x2048, .f32⟩
  | .hbm, ⟨57, _⟩ => ⟨S4x8192x2048, .f32⟩
  | .hbm, ⟨58, _⟩ => ⟨S4x1x2048, .f32⟩
  | .hbm, ⟨59, _⟩ => ⟨S_, .f32⟩
  | .hbm, ⟨60, _⟩ => ⟨S4x1x2048, .f32⟩
  | .hbm, ⟨61, _⟩ => ⟨S4x1x2048, .f32⟩
  | .hbm, ⟨62, _⟩ => ⟨S4x8192x2048, .f32⟩
  | .hbm, ⟨63, _⟩ => ⟨S4x8192x2048, .f32⟩
  | .hbm, ⟨64, _⟩ => ⟨S4x1x2048, .f32⟩
  | .hbm, ⟨65, _⟩ => ⟨S4x8192x2048, .f32⟩
  | .hbm, ⟨66, _⟩ => ⟨S4x8192x2048, .f32⟩
  | .hbm, ⟨67, _⟩ => ⟨S32768x2048, .f32⟩
  | .hbm, ⟨68, _⟩ => ⟨S32768x2048, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel6.lean ====
abbrev S32768x2048 : Shape := ⟨2, ![32768, 2048]⟩
abbrev S2048x9808 : Shape := ⟨2, ![2048, 9808]⟩
abbrev S4x8192 : Shape := ⟨2, ![4, 8192]⟩
abbrev S32768x1 : Shape := ⟨2, ![32768, 1]⟩
abbrev S16 : Shape := ⟨1, ![16]⟩
abbrev S_ : Shape := ⟨0, ![]⟩
abbrev S96 : Shape := ⟨1, ![96]⟩
abbrev S128 : Shape := ⟨1, ![128]⟩
abbrev S1x128 : Shape := ⟨2, ![1, 128]⟩
abbrev S8 : Shape := ⟨1, ![8]⟩
abbrev S48 : Shape := ⟨1, ![48]⟩
abbrev S64 : Shape := ⟨1, ![64]⟩
abbrev S1x64 : Shape := ⟨2, ![1, 64]⟩
abbrev S2x64 : Shape := ⟨2, ![2, 64]⟩
abbrev S32768x128 : Shape := ⟨2, ![32768, 128]⟩
abbrev S1024x1 : Shape := ⟨2, ![1024, 1]⟩
abbrev S1024x128 : Shape := ⟨2, ![1024, 128]⟩
abbrev S2048x1280 : Shape := ⟨2, ![2048, 1280]⟩
abbrev S32768x1280 : Shape := ⟨2, ![32768, 1280]⟩
abbrev S1024x2048 : Shape := ⟨2, ![1024, 2048]⟩
abbrev S2048x640 : Shape := ⟨2, ![2048, 640]⟩
abbrev S1024x640 : Shape := ⟨2, ![1024, 640]⟩

abbrev nBuf : Space → Nat
  | .hbm => 66
  | .vmem => 24
  | .smem => 0
  | _ => 0

abbrev bufTy : (tb : Table) → Fin (tcTables nBuf tb) → BufTy
  | .hbm, ⟨0, _⟩ => ⟨S32768x2048, .f32⟩
  | .hbm, ⟨1, _⟩ => ⟨S2048x9808, .f32⟩
  | .hbm, ⟨2, _⟩ => ⟨S4x8192, .i32⟩
  | .hbm, ⟨3, _⟩ => ⟨S32768x1, .i32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S96, .f32⟩
  | .hbm, ⟨14, _⟩ => ⟨S128, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S_, .f32⟩
  | .hbm, ⟨21, _⟩ => ⟨S96, .f32⟩
  | .hbm, ⟨22, _⟩ => ⟨S128, .f32⟩
  | .hbm, ⟨23, _⟩ => ⟨S1x128, .f32⟩
  | .hbm, ⟨24, _⟩ => ⟨S1x128, .f32⟩
  | .hbm, ⟨25, _⟩ => ⟨S128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S128, .f32⟩
  | .hbm, ⟨30, _⟩ => ⟨S1x128, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S48, .f32⟩
  | .hbm, ⟨41, _⟩ => ⟨S64, .f32⟩
  | .hbm, ⟨42, _⟩ => ⟨S_, .f32⟩
  | .hbm, ⟨43, _⟩ => ⟨S8, .f32⟩
  | .hbm, ⟨44, _⟩ => ⟨S8, .f32⟩
  | .hbm, ⟨45, _⟩ => ⟨S_, .f32⟩
  | .hbm, ⟨46, _⟩ => ⟨S8, .f32⟩
  | .hbm, ⟨47, _⟩ => ⟨S_, .f32⟩
  | .hbm, ⟨48, _⟩ => ⟨S48, .f32⟩
  | .hbm, ⟨49, _⟩ => ⟨S64, .f32⟩
  | .hbm, ⟨50, _⟩ => ⟨S1x64, .f32⟩
  | .hbm, ⟨51, _⟩ => ⟨S2x64, .f32⟩
  | .hbm, ⟨52, _⟩ => ⟨S128, .f32⟩
  | .hbm, ⟨53, _⟩ => ⟨S1x128, .f32⟩
  | .hbm, ⟨54, _⟩ => ⟨S1x64, .f32⟩
  | .hbm, ⟨55, _⟩ => ⟨S2x64, .f32⟩
  | .hbm, ⟨56, _⟩ => ⟨S128, .f32⟩
  | .hbm, ⟨57, _⟩ => ⟨S1x128, .f32⟩
  | .hbm, ⟨58, _⟩ => ⟨S32768x128, .f32⟩
  | .hbm, ⟨59, _⟩ => ⟨S32768x128, .f32⟩
  | .hbm, ⟨60, _⟩ => ⟨S32768x128, .f32⟩
  | .hbm, ⟨61, _⟩ => ⟨S32768x128, .f32⟩
  | .hbm, ⟨62, _⟩ => ⟨S2048x9808, .bf16⟩
  | .hbm, ⟨63, _⟩ => ⟨S32768x2048, .bf16⟩
  | .hbm, ⟨64, _⟩ => ⟨S2048x1280, .bf16⟩
  | .hbm, ⟨65, _⟩ => ⟨S32768x1280, .bf16⟩
  | .local _ .vmem, ⟨0, _⟩ => ⟨S1024x1, .i32⟩
  | .local _ .vmem, ⟨1, _⟩ => ⟨S1024x1, .i32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x2048, .bf16⟩
  | .local _ .vmem, ⟨15, _⟩ => ⟨S1024x2048, .bf16⟩
  | .local _ .vmem, ⟨16, _⟩ => ⟨S2048x640, .bf16⟩
  | .local _ .vmem, ⟨17, _⟩ => ⟨S2048x640, .bf16⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x640, .bf16⟩
  | .local _ .vmem, ⟨23, _⟩ => ⟨S1024x640, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_cst_9 : Ref sig .tc := ⟨.hbm, 45, rfl⟩
abbrev main_v32 : Ref sig .tc := ⟨.hbm, 46, rfl⟩
abbrev main_cst_10 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43_0 : Ref sig .tc := ⟨.hbm, 58, rfl⟩
abbrev main_v43_1 : Ref sig .tc := ⟨.hbm, 59, rfl⟩
abbrev main_v43_2 : Ref sig .tc := ⟨.hbm, 60, rfl⟩
abbrev main_v43_3 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![32, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x640 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x640 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== Reference6Ideal.lean ====
abbrev S32768x2048 : Shape := ⟨2, ![32768, 2048]⟩
abbrev S2048x9808 : Shape := ⟨2, ![2048, 9808]⟩
abbrev S4x8192 : Shape := ⟨2, ![4, 8192]⟩
abbrev S32768x9808 : Shape := ⟨2, ![32768, 9808]⟩
abbrev S32768x1280 : Shape := ⟨2, ![32768, 1280]⟩
abbrev S4x8192x10x128 : Shape := ⟨4, ![4, 8192, 10, 128]⟩
abbrev S16 : Shape := ⟨1, ![16]⟩
abbrev S_ : Shape := ⟨0, ![]⟩
abbrev S4x8192x1 : Shape := ⟨3, ![4, 8192, 1]⟩
abbrev S1x1x16 : Shape := ⟨3, ![1, 1, 16]⟩
abbrev S4x8192x16 : Shape := ⟨3, ![4, 8192, 16]⟩
abbrev S4x8192x1x16 : Shape := ⟨4, ![4, 8192, 1, 16]⟩
abbrev S4x8192x10x16 : Shape := ⟨4, ![4, 8192, 10, 16]⟩
abbrev S4x8192x10x96 : Shape := ⟨4, ![4, 8192, 10, 96]⟩

abbrev nBuf : Space → Nat
  | .hbm => 40
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x9808, .f32⟩
  | .hbm, ⟨2, _⟩ => ⟨S4x8192, .i32⟩
  | .hbm, ⟨3, _⟩ => ⟨S32768x9808, .f32⟩
  | .hbm, ⟨4, _⟩ => ⟨S32768x1280, .f32⟩
  | .hbm, ⟨5, _⟩ => ⟨S4x8192x10x128, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S4x8192, .f32⟩
  | .hbm, ⟨15, _⟩ => ⟨S4x8192x1, .f32⟩
  | .hbm, ⟨16, _⟩ => ⟨S1x1x16, .f32⟩
  | .hbm, ⟨17, _⟩ => ⟨S4x8192x16, .f32⟩
  | .hbm, ⟨18, _⟩ => ⟨S4x8192x16, .f32⟩
  | .hbm, ⟨19, _⟩ => ⟨S4x8192x16, .f32⟩
  | .hbm, ⟨20, _⟩ => ⟨S4x8192x16, .f32⟩
  | .hbm, ⟨21, _⟩ => ⟨S4x8192x1x16, .f32⟩
  | .hbm, ⟨22, _⟩ => ⟨S4x8192x16, .f32⟩
  | .hbm, ⟨23, _⟩ => ⟨S4x8192x1x16, .f32⟩
  | .hbm, ⟨24, _⟩ => ⟨S4x8192x10x16, .f32⟩
  | .hbm, ⟨25, _⟩ => ⟨S4x8192x10x16, .f32⟩
  | .hbm, ⟨26, _⟩ => ⟨S4x8192x10x96, .f32⟩
  | .hbm, ⟨27, _⟩ => ⟨S4x8192x10x16, .f32⟩
  | .hbm, ⟨28, _⟩ => ⟨S4x8192x10x16, .f32⟩
  | .hbm, ⟨29, _⟩ => ⟨S4x8192x10x16, .f32⟩
  | .hbm, ⟨30, _⟩ => ⟨S4x8192x10x16, .f32⟩
  | .hbm, ⟨31, _⟩ => ⟨S4x8192x10x16, .f32⟩
  | .hbm, ⟨32, _⟩ => ⟨S4x8192x10x16, .f32⟩
  | .hbm, ⟨33, _⟩ => ⟨S4x8192x10x16, .f32⟩
  | .hbm, ⟨34, _⟩ => ⟨S4x8192x10x16, .f32⟩
  | .hbm, ⟨35, _⟩ => ⟨S4x8192x10x16, .f32⟩
  | .hbm, ⟨36, _⟩ => ⟨S4x8192x10x16, .f32⟩
  | .hbm, ⟨37, _⟩ => ⟨S4x8192x10x128, .f32⟩
  | .hbm, ⟨38, _⟩ => ⟨S32768x1280, .f32⟩
  | .hbm, ⟨39, _⟩ => ⟨S32768x1280, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩

abbrev nD : Nat := 1
abbrev τ : Topo := Topo.v7x

variable {F : FTy → Type} [FloatOps F]
-- ==== Kernel7.lean ====
abbrev S32768x2048 : Shape := ⟨2, ![32768, 2048]⟩
abbrev S2048x9808 : Shape := ⟨2, ![2048, 9808]⟩
abbrev S4x8192 : Shape := ⟨2, ![4, 8192]⟩
abbrev S32768x1 : Shape := ⟨2, ![32768, 1]⟩
abbrev S16 : Shape := ⟨1, ![16]⟩
abbrev S_ : Shape := ⟨0, ![]⟩
abbrev S96 : Shape := ⟨1, ![96]⟩
abbrev S128 : Shape := ⟨1, ![128]⟩
abbrev S1x128 : Shape := ⟨2, ![1, 128]⟩
abbrev S8 : Shape := ⟨1, ![8]⟩
abbrev S48 : Shape := ⟨1, ![48]⟩
abbrev S64 : Shape := ⟨1, ![64]⟩
abbrev S1x64 : Shape := ⟨2, ![1, 64]⟩
abbrev S2x64 : Shape := ⟨2, ![2, 64]⟩
abbrev S32768x128 : Shape := ⟨2, ![32768, 128]⟩
abbrev S1024x1 : Shape := ⟨2, ![1024, 1]⟩
abbrev S1024x128 : Shape := ⟨2, ![1024, 128]⟩
abbrev S2048x1024 : Shape := ⟨2, ![2048, 1024]⟩
abbrev S32768x1024 : Shape := ⟨2, ![32768, 1024]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 66
  | .vmem => 24
  | .smem => 0
  | _ => 0

abbrev bufTy : (tb : Table) → Fin (tcTables nBuf tb) → BufTy
  | .hbm, ⟨0, _⟩ => ⟨S32768x2048, .f32⟩
  | .hbm, ⟨1, _⟩ => ⟨S2048x9808, .f32⟩
  | .hbm, ⟨2, _⟩ => ⟨S4x8192, .i32⟩
  | .hbm, ⟨3, _⟩ => ⟨S32768x1, .i32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S96, .f32⟩
  | .hbm, ⟨14, _⟩ => ⟨S128, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S_, .f32⟩
  | .hbm, ⟨21, _⟩ => ⟨S96, .f32⟩
  | .hbm, ⟨22, _⟩ => ⟨S128, .f32⟩
  | .hbm, ⟨23, _⟩ => ⟨S1x128, .f32⟩
  | .hbm, ⟨24, _⟩ => ⟨S1x128, .f32⟩
  | .hbm, ⟨25, _⟩ => ⟨S128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S128, .f32⟩
  | .hbm, ⟨30, _⟩ => ⟨S1x128, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S48, .f32⟩
  | .hbm, ⟨41, _⟩ => ⟨S64, .f32⟩
  | .hbm, ⟨42, _⟩ => ⟨S_, .f32⟩
  | .hbm, ⟨43, _⟩ => ⟨S8, .f32⟩
  | .hbm, ⟨44, _⟩ => ⟨S8, .f32⟩
  | .hbm, ⟨45, _⟩ => ⟨S_, .f32⟩
  | .hbm, ⟨46, _⟩ => ⟨S8, .f32⟩
  | .hbm, ⟨47, _⟩ => ⟨S_, .f32⟩
  | .hbm, ⟨48, _⟩ => ⟨S48, .f32⟩
  | .hbm, ⟨49, _⟩ => ⟨S64, .f32⟩
  | .hbm, ⟨50, _⟩ => ⟨S1x64, .f32⟩
  | .hbm, ⟨51, _⟩ => ⟨S2x64, .f32⟩
  | .hbm, ⟨52, _⟩ => ⟨S128, .f32⟩
  | .hbm, ⟨53, _⟩ => ⟨S1x128, .f32⟩
  | .hbm, ⟨54, _⟩ => ⟨S1x64, .f32⟩
  | .hbm, ⟨55, _⟩ => ⟨S2x64, .f32⟩
  | .hbm, ⟨56, _⟩ => ⟨S128, .f32⟩
  | .hbm, ⟨57, _⟩ => ⟨S1x128, .f32⟩
  | .hbm, ⟨58, _⟩ => ⟨S32768x128, .f32⟩
  | .hbm, ⟨59, _⟩ => ⟨S32768x128, .f32⟩
  | .hbm, ⟨60, _⟩ => ⟨S32768x128, .f32⟩
  | .hbm, ⟨61, _⟩ => ⟨S32768x128, .f32⟩
  | .hbm, ⟨62, _⟩ => ⟨S2048x9808, .bf16⟩
  | .hbm, ⟨63, _⟩ => ⟨S32768x2048, .bf16⟩
  | .hbm, ⟨64, _⟩ => ⟨S2048x1024, .bf16⟩
  | .hbm, ⟨65, _⟩ => ⟨S32768x1024, .bf16⟩
  | .local _ .vmem, ⟨0, _⟩ => ⟨S1024x1, .i32⟩
  | .local _ .vmem, ⟨1, _⟩ => ⟨S1024x1, .i32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x2048, .bf16⟩
  | .local _ .vmem, ⟨15, _⟩ => ⟨S1024x2048, .bf16⟩
  | .local _ .vmem, ⟨16, _⟩ => ⟨S2048x512, .bf16⟩
  | .local _ .vmem, ⟨17, _⟩ => ⟨S2048x512, .bf16⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x512, .bf16⟩
  | .local _ .vmem, ⟨23, _⟩ => ⟨S1024x512, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_cst_9 : Ref sig .tc := ⟨.hbm, 45, rfl⟩
abbrev main_v32 : Ref sig .tc := ⟨.hbm, 46, rfl⟩
abbrev main_cst_10 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43_0 : Ref sig .tc := ⟨.hbm, 58, rfl⟩
abbrev main_v43_1 : Ref sig .tc := ⟨.hbm, 59, rfl⟩
abbrev main_v43_2 : Ref sig .tc := ⟨.hbm, 60, rfl⟩
abbrev main_v43_3 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![32, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== Reference7Ideal.lean ====
abbrev S32768x2048 : Shape := ⟨2, ![32768, 2048]⟩
abbrev S2048x9808 : Shape := ⟨2, ![2048, 9808]⟩
abbrev S4x8192 : Shape := ⟨2, ![4, 8192]⟩
abbrev S32768x9808 : Shape := ⟨2, ![32768, 9808]⟩
abbrev S32768x1024 : Shape := ⟨2, ![32768, 1024]⟩
abbrev S4x8192x16x64 : Shape := ⟨4, ![4, 8192, 16, 64]⟩
abbrev S8 : Shape := ⟨1, ![8]⟩
abbrev S_ : Shape := ⟨0, ![]⟩
abbrev S4x8192x1 : Shape := ⟨3, ![4, 8192, 1]⟩
abbrev S1x1x8 : Shape := ⟨3, ![1, 1, 8]⟩
abbrev S4x8192x8 : Shape := ⟨3, ![4, 8192, 8]⟩
abbrev S4x8192x1x8 : Shape := ⟨4, ![4, 8192, 1, 8]⟩
abbrev S4x8192x16x8 : Shape := ⟨4, ![4, 8192, 16, 8]⟩
abbrev S4x8192x16x48 : Shape := ⟨4, ![4, 8192, 16, 48]⟩

abbrev nBuf : Space → Nat
  | .hbm => 40
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x9808, .f32⟩
  | .hbm, ⟨2, _⟩ => ⟨S4x8192, .i32⟩
  | .hbm, ⟨3, _⟩ => ⟨S32768x9808, .f32⟩
  | .hbm, ⟨4, _⟩ => ⟨S32768x1024, .f32⟩
  | .hbm, ⟨5, _⟩ => ⟨S4x8192x16x64, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S4x8192, .f32⟩
  | .hbm, ⟨15, _⟩ => ⟨S4x8192x1, .f32⟩
  | .hbm, ⟨16, _⟩ => ⟨S1x1x8, .f32⟩
  | .hbm, ⟨17, _⟩ => ⟨S4x8192x8, .f32⟩
  | .hbm, ⟨18, _⟩ => ⟨S4x8192x8, .f32⟩
  | .hbm, ⟨19, _⟩ => ⟨S4x8192x8, .f32⟩
  | .hbm, ⟨20, _⟩ => ⟨S4x8192x8, .f32⟩
  | .hbm, ⟨21, _⟩ => ⟨S4x8192x1x8, .f32⟩
  | .hbm, ⟨22, _⟩ => ⟨S4x8192x8, .f32⟩
  | .hbm, ⟨23, _⟩ => ⟨S4x8192x1x8, .f32⟩
  | .hbm, ⟨24, _⟩ => ⟨S4x8192x16x8, .f32⟩
  | .hbm, ⟨25, _⟩ => ⟨S4x8192x16x8, .f32⟩
  | .hbm, ⟨26, _⟩ => ⟨S4x8192x16x48, .f32⟩
  | .hbm, ⟨27, _⟩ => ⟨S4x8192x16x8, .f32⟩
  | .hbm, ⟨28, _⟩ => ⟨S4x8192x16x8, .f32⟩
  | .hbm, ⟨29, _⟩ => ⟨S4x8192x16x8, .f32⟩
  | .hbm, ⟨30, _⟩ => ⟨S4x8192x16x8, .f32⟩
  | .hbm, ⟨31, _⟩ => ⟨S4x8192x16x8, .f32⟩
  | .hbm, ⟨32, _⟩ => ⟨S4x8192x16x8, .f32⟩
  | .hbm, ⟨33, _⟩ => ⟨S4x8192x16x8, .f32⟩
  | .hbm, ⟨34, _⟩ => ⟨S4x8192x16x8, .f32⟩
  | .hbm, ⟨35, _⟩ => ⟨S4x8192x16x8, .f32⟩
  | .hbm, ⟨36, _⟩ => ⟨S4x8192x16x8, .f32⟩
  | .hbm, ⟨37, _⟩ => ⟨S4x8192x16x64, .f32⟩
  | .hbm, ⟨38, _⟩ => ⟨S32768x1024, .f32⟩
  | .hbm, ⟨39, _⟩ => ⟨S32768x1024, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩

abbrev nD : Nat := 1
abbrev τ : Topo := Topo.v7x

variable {F : FTy → Type} [FloatOps F]
-- ==== Proof.PI.Steps.lean ====
/-
  The stick-breaking kernel over the blocks it reads: the block of a staged array at printed offsets, one trip of the
  loop over earlier key blocks, the loop, and the pair of blocks one grid point leaves.
-/
module

public import proofs.«01_k».proof.Proof.Gen.KernelIdeal.Skeleton
public import Idealize.ShloMosaic.Lib.Pipeline.FrameBody
public import Idealize.ShloMosaic.Lib.WholeRead
public import Idealize.ShloMosaic.Lib.Tactic

@[expose] public section

set_option maxRecDepth 16384

noncomputable section

namespace Cert.KernelIdeal.Stick

open Cert.KernelIdeal Cert.KernelIdeal.Gen
open Idealize.ShloMosaic Idealize.ShloMosaic.TcCoe

variable {F : FTy → Type} [FloatOps F] [Named F]

/-! ## The words -/

/-- The query block's number as the kernel computes it: the rows before it, divided by the block's rows. -/
def dI (w : BitVec 32) : BitVec 32 :=
  Scalar.select
    (Scalar.andi
      (Scalar.cmpi .ne
        (Scalar.subi (Scalar.extui (Scalar.cmpi .sgt (Scalar.muli w 256#32) 0#32)) (Scalar.extui (Scalar.cmpi .slt (Scalar.muli w 256#32) 0#32)))
        (Scalar.subi (Scalar.extui (Scalar.cmpi .sgt 256#32 0#32)) (Scalar.extui (Scalar.cmpi .slt 256#32 0#32))))
      (Scalar.cmpi .ne (Scalar.remsi (Scalar.muli w 256#32) 256#32) 0#32))
    (Scalar.subi (Scalar.divsi (Scalar.muli w 256#32) 256#32) 1#32)
    (Scalar.divsi (Scalar.muli w 256#32) 256#32)

theorem dI_eq : ∀ d : Fin 32, dI (BitVec.ofNat 32 d.val) = BitVec.ofNat 32 d.val := by decide +kernel

/-- The grid point of a batch's first head pair at a query block. -/
def pt (d : Fin 32) : grid0.Coords := fun | 0 => (0 : Fin 4) | 1 => (0 : Fin 4) | 2 => d

/-- The loop has a trip left exactly while fewer than `d - 1` are done. -/
theorem slt_iff : ∀ d n : Fin 32, (Scalar.cmpi .slt (BitVec.ofNat 32 n.val) (Scalar.subi (BitVec.ofNat 32 d.val) 1#32) = 1#1) ↔ n.val + 1 < d.val := by
  decide +kernel

theorem off5_pt : ∀ d n : Fin 32, n.val + 1 < d.val → k0_off5 (pt d) (BitVec.ofNat 32 n.val) = ![256 * (d.val - 3 - n.val), 0] := by
  decide +kernel
theorem off6_pt : ∀ d n : Fin 32, n.val + 1 < d.val → k0_off6 (pt d) (BitVec.ofNat 32 n.val) = ![256 * (d.val - 3 - n.val), 128] := by
  decide +kernel
theorem off7_pt : ∀ d n : Fin 32, n.val + 1 < d.val → k0_off7 (pt d) (BitVec.ofNat 32 n.val) = ![256 * (d.val - 2 - n.val), 0] := by
  decide +kernel
theorem off8_pt : ∀ d n : Fin 32, n.val + 1 < d.val → k0_off8 (pt d) (BitVec.ofNat 32 n.val) = ![256 * (d.val - 2 - n.val), 128] := by
  decide +kernel
theorem chk_pt : ∀ d n : Fin 32, n.val + 1 < d.val → k0_chk1 (pt d) (BitVec.ofNat 32 n.val) := by
  decide +kernel

/-! ## The blocks -/

/-- The 256 × 128 block of a staged array at offsets `off`. -/
def blk (x : Vec F S8192x256 .bf16) (off : Fin 2 → ℕ) : Vec F S256x128 .bf16 := fun j => x fun
  | 0 => ⟨(off 0 + (j 0).val) % 8192, Nat.mod_lt _ (by decide)⟩
  | 1 => ⟨(off 1 + (j 1).val) % 256, Nat.mod_lt _ (by decide)⟩

/-- A load of a staged whole array through a rectangle of 256 × 128 is the block at its offsets. -/
theorem readAt_blk (m : Memref sig .tc .vmem S8192x256 .bf16) (h : m.IsWhole) (x : Vec F S8192x256 .bf16) (off : Fin 2 → ℕ)
    (hin : ∀ a, off a + S256x128.size a ≤ S8192x256.size a) :
    m.view.readAt (Elt F) (Rect.unit (s := S8192x256) off S256x128.size hin).toLoadRect (h.unread x) = blk x off := by
  funext j
  refine (h.readAt_unread x _ j).trans ?_
  unfold blk
  congr 1
  funext a
  apply Fin.ext
  have h0 := hin 0
  have h1 := hin 1
  have j0 : (j 0).val < 256 := (j 0).isLt
  have j1 : (j 1).val < 128 := (j 1).isLt
  have e0 : S8192x256.size 0 = 8192 := rfl
  have e1 : S8192x256.size 1 = 256 := rfl
  have f0 : S256x128.size 0 = 256 := rfl
  have f1 : S256x128.size 1 = 128 := rfl
  match a with
  | 0 => show off 0 + 1 * (j 0).val = (off 0 + (j 0).val) % 8192; rw [Nat.mod_eq_of_lt (by omega)]; omega
  | 1 => show off 1 + 1 * (j 1).val = (off 1 + (j 1).val) % 256; rw [Nat.mod_eq_of_lt (by omega)]; omega

/-- One head's 128 columns of the staged query block. -/
def half (x : Vec F S256x256 .bf16) (o : ℕ) : Vec F S256x128 .bf16 := fun j => x fun
  | 0 => ⟨(j 0).val % 256, Nat.mod_lt _ (by decide)⟩
  | 1 => ⟨(o + (j 1).val) % 256, Nat.mod_lt _ (by decide)⟩

theorem readAt_half (m : Memref sig .tc .vmem S256x256 .bf16) (h : m.IsWhole) (x : Vec F S256x256 .bf16) (o : ℕ) (ho : o + 128 ≤ 256)
    (hin : ∀ a, (![0, o] : Fin 2 → ℕ) a + S256x128.size a ≤ S256x256.size a) :
    m.view.readAt (Elt F) (Rect.unit (s := S256x256) ![0, o] S256x128.size hin).toLoadRect (h.unread x) = half x o := by
  funext j
  refine (h.readAt_unread x _ j).trans ?_
  unfold half
  congr 1
  funext a
  apply Fin.ext
  have j0 : (j 0).val < 256 := (j 0).isLt
  have j1 : (j 1).val < 128 := (j 1).isLt
  match a with
  | 0 => show 0 + 1 * (j 0).val = (j 0).val % 256; rw [Nat.mod_eq_of_lt (by omega)]; omega
  | 1 => show o + 1 * (j 1).val = (o + (j 1).val) % 256; rw [Nat.mod_eq_of_lt (by omega)]; omega

/-! ## The loop -/

/-- What the loop carries: the trips done, the largest running sum, the next block's scores of both heads, and each
    head's running sum and accumulator. -/
abbrev St (F : FTy → Type) : Type :=
  BitVec 32 × F .f32 × FVec F S256x256 .f32 × FVec F S256x256 .f32 × FVec F S256x1 .f32 × FVec F S256x128 .f32 × FVec F S256x1 .f32 × FVec F S256x128 .f32

/-- The threshold below which the loop stops. -/
abbrev dead : F .f32 := Named.named κ "dead" 0xC2D40000#32

/-- Whether the loop goes on. -/
def more (i : grid0.Coords) (n : BitVec 32) (t : F .f32) : BitVec 1 :=
  Scalar.andi (Scalar.cmpi .slt n (Scalar.subi (dI (BitVec.ofNat 32 (i 2).val)) 1#32)) (Scalar.cmpf .ogt t (dead (F := F)))

/-- One trip: the carried scores become weights on the values of their block, the next block's scores are taken. -/
def trip (i : grid0.Coords) (x1 x2 : Vec F S8192x256 .bf16) (q0 q1 : FVec F S256x128 .bf16) (u : FVec F S256x256 .bf16) : St F → St F
  | (n, t, z0, z1, r0, a0, r1, a1) =>
    (Scalar.addi n 1#32,
      k0_pay13 z1 r0 r1 (k0_pay64 z0) (k0_pay65 z1) (Scalar.ofBits .f32 0x00000000#32),
      k0_pay59 q0 (blk x1 (k0_off5 i n)), k0_pay60 q1 (blk x1 (k0_off6 i n)),
      k0_pay9 r0 (k0_pay64 z0), k0_pay10 r0 a0 (k0_pay63 u z0) (blk x2 (k0_off7 i n)),
      k0_pay11 z1 r1 (k0_pay65 z1) (Scalar.ofBits .f32 0x00000000#32),
      k0_pay12 u z1 r1 a1 (k0_pay65 z1) (Scalar.ofBits .f32 0x00000000#32) (blk x2 (k0_off8 i n)))

/-- The loop with at most `k` trips left. -/
def trips (i : grid0.Coords) (x1 x2 : Vec F S8192x256 .bf16) (q0 q1 : FVec F S256x128 .bf16) (u : FVec F S256x256 .bf16) : ℕ → St F → St F
  | 0, s => s
  | k + 1, s => if more i s.1 s.2.1 = 1#1 then trips i x1 x2 q0 q1 u k (trip i x1 x2 q0 q1 u s) else s

/-! ## One grid point -/

section Point

variable (i : grid0.Coords) (x0 : Vec F S256x256 .bf16) (x1 x2 : Vec F S8192x256 .bf16)

/-- The two heads' scaled queries. -/
def qa : FVec F S256x128 .bf16 := k0_pay14 (half x0 0)
def qb : FVec F S256x128 .bf16 := k0_pay15 (half x0 128)

/-- Whether there is an earlier key block. -/
def has : BitVec 1 := Scalar.cmpi .sge (dI (BitVec.ofNat 32 (i 2).val)) 1#32

/-- The columns' numbers within a block. -/
def cols : IVec S256x256 32 := iota .tc S256x256 32 [1] iota_S256x256_d1_w32

/-- Head 0: the diagonal block's logits and running sum, then the accumulator over it. -/
def lg0 : FVec F S256x256 .f32 :=
  k0_pay30 (k0_pay16 (F := F)) (k0_pay18 (BitVec.ofNat 32 (i 2).val) cols (k0_pay17 i)) (k0_pay25 (qa x0) (blk x1 (k0_off1 i)))
    (k0_pay28 (BitVec.ofNat 32 (i 2).val) (qa x0) cols (k0_pay17 i) (blk x1 (k0_off1 i)))
    (k0_pay29 (BitVec.ofNat 32 (i 2).val) (qa x0) (k0_pay16 (F := F)) cols (k0_pay17 i) (blk x1 (k0_off1 i)))
    (constant S256x256 .f32 0x00000000#32)
def sm0 : FVec F S256x1 .f32 := k0_pay31 (k0_pay26 (BitVec.ofNat 32 (i 2).val) (qa x0) cols (k0_pay17 i) (blk x1 (k0_off1 i)))
def ac0 : FVec F S256x128 .f32 := k0_pay51 (k0_pay19 (F := F)) (k0_pay20 (F := F)) (lg0 i x0 x1) (blk x2 (k0_off1 i))

/-- Head 1: the same. -/
def lg1 : FVec F S256x256 .f32 :=
  k0_pay34 (k0_pay16 (F := F)) (k0_pay18 (BitVec.ofNat 32 (i 2).val) cols (k0_pay17 i)) (k0_pay24 (qb x0) (blk x1 (k0_off2 i)))
def sm1 : FVec F S256x1 .f32 := k0_pay35 (k0_pay18 (BitVec.ofNat 32 (i 2).val) cols (k0_pay17 i)) (k0_pay24 (qb x0) (blk x1 (k0_off2 i)))
def ru1 : FVec F S256x1 .f32 := k0_pay52 (k0_pay21 (F := F)) (sm1 i x0 x1)
def ac1 : FVec F S256x128 .f32 := k0_pay53 (k0_pay21 (F := F)) (k0_pay22 (F := F)) (lg1 i x0 x1) (blk x2 (k0_off2 i))

/-- The previous block's logits and sums of both heads. -/
def pz0 : FVec F S256x256 .f32 := k0_pay36 (qa x0) (blk x1 (k0_off3 i 1#32))
def pz1 : FVec F S256x256 .f32 := k0_pay37 (qb x0) (blk x1 (k0_off4 i 1#32))
def pl0 : FVec F S256x256 .f32 := k0_pay42 (k0_pay16 (F := F)) (pz0 i x0 x1) (k0_pay38 (qa x0) (blk x1 (k0_off3 i 1#32))) (k0_pay39 (F := F))
def ps0 : FVec F S256x1 .f32 := k0_pay43 (pz0 i x0 x1) (k0_pay38 (qa x0) (blk x1 (k0_off3 i 1#32))) (k0_pay39 (F := F))
def pl1 : FVec F S256x256 .f32 := k0_pay46 (k0_pay16 (F := F)) (pz1 i x0 x1)
def ps1 : FVec F S256x1 .f32 := k0_pay47 (pz1 i x0 x1)

/-- Head 0's running sum after two blocks. -/
def ru0 : FVec F S256x1 .f32 := k0_pay57 (k0_pay19 (F := F)) (has i) (sm0 i x0 x1) (ps0 i x0 x1)

/-- What the loop starts from. -/
def start : St F :=
  (0#32, k0_pay4 (ps1 i x0 x1) (ru1 i x0 x1) (k0_pay55 (F := F) (has i)) (ru0 i x0 x1),
    k0_pay48 (qa x0) (blk x1 (k0_off3 i 2#32)), k0_pay49 (qb x0) (blk x1 (k0_off4 i 2#32)),
    ru0 i x0 x1,
    k0_pay1 (ac0 i x0 x1 x2) (k0_pay56 (blk x2 (k0_off3 i 1#32))) (k0_pay58 (k0_pay19 (F := F)) (has i) (sm0 i x0 x1) (pl0 i x0 x1)) (constant S256x128 .f32 0x00000000#32),
    k0_pay2 (ps1 i x0 x1) (ru1 i x0 x1) (k0_pay55 (F := F) (has i)),
    k0_pay3 (pl1 i x0 x1) (ru1 i x0 x1) (ac1 i x0 x1 x2) (k0_pay54 (F := F) (has i)) (blk x2 (k0_off4 i 1#32)))

/-- What the loop ends with. -/
def fin : St F := trips i x1 x2 (qa x0) (qb x0) (k0_pay16 (F := F)) ((i 2).val - 1) (start i x0 x1 x2)

/-- The two heads' columns one grid point stores. -/
def outA : FVec F S256x128 .bf16 := k0_pay5 (fin i x0 x1 x2).2.2.2.2.2.1
def outB : FVec F S256x128 .bf16 := k0_pay6 (fin i x0 x1 x2).2.2.2.2.2.2.2

end Point

end Cert.KernelIdeal.Stick

end
-- ==== Proof.PI.Loop.lean ====
/-
  The loop's label: entered holding the two staged arrays of keys and values, with at most `k` trips left, it returns
  what `trips` says and gives the arrays back.
-/
module

public import proofs.«01_k».proof.Proof.PI.Steps

@[expose] public section

set_option maxRecDepth 16384

noncomputable section

namespace Cert.KernelIdeal.Stick

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The kernel's one loop counts down over the naturals. -/
abbrev 𝒱s : Variants := Variants.nat

variable (c : Dev nD) (i : grid0.Coords)
  (arg4 : Memref sig .tc .vmem S8192x256 .bf16) (harg4 : arg4.IsWhole) (arg5 : Memref sig .tc .vmem S8192x256 .bf16) (harg5 : arg5.IsWhole)
  (x1 x2 : Vec F S8192x256 .bf16) (q0 q1 : FVec F S256x128 .bf16) (u : FVec F S256x256 .bf16)

/-- The two staged arrays, held whole at their contents. -/
def held : sProp 𝕄 :=
  iprop((arg4.view.loc (c : Thread nD τ) ↦[arg4.view.set]{fullShare} harg4.unread x1)
    ∗ (arg5.view.loc (c : Thread nD τ) ↦[arg5.view.set]{fullShare} harg5.unread x2))

/-- The label's specification at `k` trips left. -/
def spec (k : ℕ) (s : St F) : sWPT 𝕄 (St F) := do
  sWPT.consume (held c arg4 harg4 arg5 harg5 x1 x2)
  sWPT.produce (held c arg4 harg4 arg5 harg5 x1 x2)
  pure (trips i x1 x2 q0 q1 u k s)

theorem spec_apply (k : ℕ) (s : St F) (K : St F → sProp 𝕄) :
    spec c i arg4 harg4 arg5 harg5 x1 x2 q0 q1 u k s K
      = iprop(held c arg4 harg4 arg5 harg5 x1 x2 ∗ (held c arg4 harg4 arg5 harg5 x1 x2 -∗ K (trips i x1 x2 q0 q1 u k s))) := rfl

/-- The printed loop body: its test, its checked loads, and the call of itself at the next trip. -/
theorem while_eq (n : BitVec 32) (t : F .f32) (z0 z1 : FVec F S256x256 .f32) (r0 : FVec F S256x1 .f32) (a0 : FVec F S256x128 .f32)
    (r1 : FVec F S256x1 .f32) (a1 : FVec F S256x128 .f32) :
    cc0_while1 i arg4 harg4 q0 q1 u arg5 harg5 n t z0 z1 r0 a0 r1 a1
      = if more i n t = 1#1 then do
          let hw : k0_chk1 i n := (← Prog.lift (TpuEff.assume (k0_chk1 i n) (k0_chk1.dec i n))).down
          let k0 : Vec F S256x128 .bf16 ← Prog.lift (.load arg4 (Rect.unit (s := S8192x256) (k0_off5 i n) S256x128.size (k0_off5_inb i n hw)).toLoadRect (View.loadsAt_vmem h_S256x128))
          let k1 : Vec F S256x128 .bf16 ← Prog.lift (.load arg4 (Rect.unit (s := S8192x256) (k0_off6 i n) S256x128.size (k0_off6_inb i n hw)).toLoadRect (View.loadsAt_vmem h_S256x128))
          let v0 : Vec F S256x128 .bf16 ← Prog.lift (.load arg5 (Rect.unit (s := S8192x256) (k0_off7 i n) S256x128.size (k0_off7_inb i n hw)).toLoadRect (View.loadsAt_vmem h_S256x128))
          let v1 : Vec F S256x128 .bf16 ← Prog.lift (.load arg5 (Rect.unit (s := S8192x256) (k0_off8 i n) S256x128.size (k0_off8_inb i n hw)).toLoadRect (View.loadsAt_vmem h_S256x128))
          Prog.lift (.call (1 : (Λ₀ F).Label) ⟨i, arg4, harg4, q0, q1, u, arg5, harg5, Scalar.addi n 1#32,
            k0_pay13 z1 r0 r1 (k0_pay64 z0) (k0_pay65 z1) (Scalar.ofBits .f32 0x00000000#32), k0_pay59 q0 k0, k0_pay60 q1 k1,
            k0_pay9 r0 (k0_pay64 z0), k0_pay10 r0 a0 (k0_pay63 u z0) v0,
            k0_pay11 z1 r1 (k0_pay65 z1) (Scalar.ofBits .f32 0x00000000#32),
            k0_pay12 u z1 r1 a1 (k0_pay65 z1) (Scalar.ofBits .f32 0x00000000#32) v1⟩)
        else pure (n, t, z0, z1, r0, a0, r1, a1) := by
  rw [cc0_while1_eq_skeleton]
  unfold cc0_while1_skel
  rw [k0_part6_eq_skeleton]
  rfl

theorem word (n : BitVec 32) (h : n.toNat < 32) : n = BitVec.ofNat 32 (⟨n.toNat, h⟩ : Fin 32).val := by
  apply BitVec.eq_of_toNat_eq
  show n.toNat = (BitVec.ofNat 32 n.toNat).toNat
  rw [BitVec.toNat_ofNat, Nat.mod_eq_of_lt (by omega)]

theorem not_more_last (n : BitVec 32) (t : F .f32) (h : n.toNat = (i 2).val - 1) : ¬ more i n t = 1#1 := by
  have hd : (i 2).val < 32 := (i 2).isLt
  have hn : n.toNat < 32 := by omega
  intro hm
  have hs : Scalar.cmpi .slt n (Scalar.subi (dI (BitVec.ofNat 32 (i 2).val)) 1#32) = 1#1 := by
    unfold more at hm
    generalize Scalar.cmpi .slt n (Scalar.subi (dI (BitVec.ofNat 32 (i 2).val)) 1#32) = a at hm ⊢
    generalize Scalar.cmpf .ogt t (dead (F := F)) = b at hm
    revert a b; decide
  have e := dI_eq ⟨(i 2).val, hd⟩
  dsimp only at e
  rw [e, word n hn] at hs
  have := (slt_iff ⟨(i 2).val, hd⟩ ⟨n.toNat, hn⟩).1 hs
  dsimp only at this
  omega

theorem chk_of (n : BitVec 32) (h : n.toNat + 1 < (i 2).val) : k0_chk1 i n := by
  have hd : (i 2).val < 32 := (i 2).isLt
  have hn : n.toNat < 32 := by omega
  have := chk_pt ⟨(i 2).val, hd⟩ ⟨n.toNat, hn⟩ h
  rw [← word n hn] at this
  exact this

theorem next_word (n : BitVec 32) (k : ℕ) (hn : n.toNat + (k + 1) = (i 2).val - 1) : (Scalar.addi n 1#32).toNat + k = (i 2).val - 1 := by
  have hd : (i 2).val < 32 := (i 2).isLt
  have e : (Scalar.addi n 1#32).toNat = (n.toNat + 1) % 2 ^ 32 := BitVec.toNat_add n 1#32
  have h32 : (2 : ℕ) ^ 32 = 4294967296 := rfl
  rw [e, h32, Nat.mod_eq_of_lt (by omega)]
  omega

theorem trips_zero (s : St F) : trips i x1 x2 q0 q1 u 0 s = s := rfl
theorem trips_succ (k : ℕ) (s : St F) :
    trips i x1 x2 q0 q1 u (k + 1) s = if more i s.1 s.2.1 = 1#1 then trips i x1 x2 q0 q1 u k (trip i x1 x2 q0 q1 u s) else s := rfl

theorem trip_eq (n : BitVec 32) (t : F .f32) (z0 z1 : FVec F S256x256 .f32) (r0 : FVec F S256x1 .f32) (a0 : FVec F S256x128 .f32)
    (r1 : FVec F S256x1 .f32) (a1 : FVec F S256x128 .f32) :
    trip i x1 x2 q0 q1 u (n, t, z0, z1, r0, a0, r1, a1) = (Scalar.addi n 1#32,
      k0_pay13 z1 r0 r1 (k0_pay64 z0) (k0_pay65 z1) (Scalar.ofBits .f32 0x00000000#32),
      k0_pay59 q0 (blk x1 (k0_off5 i n)), k0_pay60 q1 (blk x1 (k0_off6 i n)),
      k0_pay9 r0 (k0_pay64 z0), k0_pay10 r0 a0 (k0_pay63 u z0) (blk x2 (k0_off7 i n)),
      k0_pay11 z1 r1 (k0_pay65 z1) (Scalar.ofBits .f32 0x00000000#32),
      k0_pay12 u z1 r1 a1 (k0_pay65 z1) (Scalar.ofBits .f32 0x00000000#32) (blk x2 (k0_off8 i n))) := rfl

set_option maxHeartbeats 1000000 in
theorem spec_le (E : Set ℕ) : ∀ (k : ℕ) (n : BitVec 32) (t : F .f32) (z0 z1 : FVec F S256x256 .f32) (r0 : FVec F S256x1 .f32) (a0 : FVec F S256x128 .f32)
    (r1 : FVec F S256x1 .f32) (a1 : FVec F S256x128 .f32), n.toNat + k = (i 2).val - 1 → ∀ K : St F → sProp 𝕄,
    spec c i arg4 harg4 arg5 harg5 x1 x2 q0 q1 u k (n, t, z0, z1, r0, a0, r1, a1) K
      ⊢ wp frame (wpE (defs₀ (F := F)) 𝒱s (c : Thread nD τ) (some k)) E
          (defs₀ (F := F) .tc 1 ⟨i, arg4, harg4, q0, q1, u, arg5, harg5, n, t, z0, z1, r0, a0, r1, a1⟩) K := by
  intro k
  induction k with
  | zero =>
    intro n t z0 z1 r0 a0 r1 a1 hn K
    rw [spec_apply]
    show _ ⊢ wp frame (wpE (defs₀ (F := F)) 𝒱s (c : Thread nD τ) (some 0)) E (cc0_while1 i arg4 harg4 q0 q1 u arg5 harg5 n t z0 z1 r0 a0 r1 a1) K
    rw [while_eq, if_neg (not_more_last i n t (by omega)), Prog.pure_eq_ret, trips_zero]
    iintro ⟨H, Hk⟩
    rw [wp_ret]; imodintro
    iapply Hk; iexact H
  | succ k ih =>
    intro n t z0 z1 r0 a0 r1 a1 hn K
    rw [spec_apply]
    show _ ⊢ wp frame (wpE (defs₀ (F := F)) 𝒱s (c : Thread nD τ) (some (k + 1))) E (cc0_while1 i arg4 harg4 q0 q1 u arg5 harg5 n t z0 z1 r0 a0 r1 a1) K
    rw [while_eq]
    by_cases hm : more i n t = 1#1
    · have hd : (i 2).val < 32 := (i 2).isLt
      have hc : k0_chk1 i n := chk_of i n (by omega)
      rw [if_pos hm]
      have hnext := next_word i n k hn
      rw [trips_succ, if_pos hm, trip_eq]
      unfold held
      iintro ⟨⟨H1, H2⟩, Hk⟩
      simp only [Prog.lift, Prog.bind_op, Prog.bind_ret]
      iapply (wp_assume 𝒱s (c : Thread nD τ) (some (k + 1)) E hc)
      iapply (wp_load 𝒱s (c : Thread nD τ) (some (k + 1)) E (m := arg4) (View.setOn_subset_set _ _)) $$ H1; iintro H1
      rw [readAt_blk]
      iapply (wp_load 𝒱s (c : Thread nD τ) (some (k + 1)) E (m := arg4) (View.setOn_subset_set _ _)) $$ H1; iintro H1
      rw [readAt_blk]
      iapply (wp_load 𝒱s (c : Thread nD τ) (some (k + 1)) E (m := arg5) (View.setOn_subset_set _ _)) $$ H2; iintro H2
      rw [readAt_blk]
      iapply (wp_load 𝒱s (c : Thread nD τ) (some (k + 1)) E (m := arg5) (View.setOn_subset_set _ _)) $$ H2; iintro H2
      rw [readAt_blk]
      iapply (wp_call_spec 𝒱s (c : Thread nD τ) (some (k + 1)) E _ k
        (fun u hu => by cases hu; exact Nat.lt_succ_self k) (ih (Scalar.addi n 1#32)
          (k0_pay13 z1 r0 r1 (k0_pay64 z0) (k0_pay65 z1) (Scalar.ofBits .f32 0x00000000#32))
          (k0_pay59 q0 (blk x1 (k0_off5 i n))) (k0_pay60 q1 (blk x1 (k0_off6 i n)))
          (k0_pay9 r0 (k0_pay64 z0)) (k0_pay10 r0 a0 (k0_pay63 u z0) (blk x2 (k0_off7 i n)))
          (k0_pay11 z1 r1 (k0_pay65 z1) (Scalar.ofBits .f32 0x00000000#32))
          (k0_pay12 u z1 r1 a1 (k0_pay65 z1) (Scalar.ofBits .f32 0x00000000#32) (blk x2 (k0_off8 i n))) hnext))
      rw [spec_apply]
      unfold held
      isplitl [H1 H2]
      · isplitl [H1]; · iexact H1
        iexact H2
      iintro ⟨H1, H2⟩
      rw [wp_ret]; imodintro
      iapply Hk
      isplitl [H1]; · iexact H1
      iexact H2
    · rw [if_neg hm, Prog.pure_eq_ret]
      rw [trips_succ, if_neg hm]
      iintro ⟨H, Hk⟩
      rw [wp_ret]; imodintro
      iapply Hk; iexact H

end Cert.KernelIdeal.Stick

end
-- ==== Proof.PI.Body.lean ====
/-
  One grid point's body: holding the staged query, key and value blocks and the result's buffer, it leaves the blocks as
  they were and the two heads' columns stored.
-/
module

public import proofs.«01_k».proof.Proof.PI.Loop

@[expose] public section

set_option maxRecDepth 16384

noncomputable section

namespace Cert.KernelIdeal.Stick

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The halves of the result's block. -/
abbrev rA : Rect S256x256 := Rect.unit (s := S256x256) ![0, 0] S256x128.size inb_S256x256_S256x128_0_0
abbrev rB : Rect S256x256 := Rect.unit (s := S256x256) ![0, 128] S256x128.size inb_S256x256_S256x128_0_128

/-- The two stores' pieces, the last first. -/
abbrev pieces (i : grid0.Coords) (x0 : Vec F S256x256 .bf16) (x1 x2 : Vec F S8192x256 .bf16) : List (View.Piece (Elt F) S256x256 .bf16) :=
  [⟨rB, outB i x0 x1 x2⟩, ⟨rA, outA i x0 x1 x2⟩]

theorem access_sub (m : Memref sig .tc .vmem S256x256 .bf16) (r : Rect S256x256) : (m.access r).setOn Finset.univ ⊆ m.view.set := by
  rw [View.setOn_univ]
  show (m.view.slice r).set ⊆ m.view.set
  rw [View.set_slice]
  exact View.setOn_subset_set _ _

/-- The two stores, one after the other, are the pieces written. -/
theorem written (i : grid0.Coords) (x0 : Vec F S256x256 .bf16) (x1 x2 : Vec F S8192x256 .bf16) (arg6 : Memref sig .tc .vmem S256x256 .bf16)
    (f : arg6.view.ty.Contents (Elt F)) :
    (arg6.access rB).write (Elt F) ((arg6.access rA).write (Elt F) f (outA i x0 x1 x2) Finset.univ) (outB i x0 x1 x2) Finset.univ
      = arg6.view.writes (Elt F) f (pieces i x0 x1 x2) := rfl

section Loads

variable (c : Dev nD) (i : grid0.Coords)
  (arg3 : Memref sig .tc .vmem S256x256 .bf16) (harg3 : arg3.IsWhole) (arg4 : Memref sig .tc .vmem S8192x256 .bf16) (harg4 : arg4.IsWhole)
  (arg5 : Memref sig .tc .vmem S8192x256 .bf16) (harg5 : arg5.IsWhole) (arg6 : Memref sig .tc .vmem S256x256 .bf16) (harg6 : arg6.IsWhole)
  (x0 : Vec F S256x256 .bf16) (x1 x2 : Vec F S8192x256 .bf16)

/-- The printed body: its loads, the call of the loop, the two stores (each after a load whose value is not used). -/
theorem body_eq :
    cc0_stick_mixer (F := F) i arg3 harg3 arg4 harg4 arg5 harg5 arg6 harg6 = (do
      let qx : Vec F S256x128 .bf16 ← Prog.lift (.load arg3 rA.toLoadRect (View.loadsAt_vmem h_S256x128))
      let qy : Vec F S256x128 .bf16 ← Prog.lift (.load arg3 rB.toLoadRect (View.loadsAt_vmem h_S256x128))
      let ka : Vec F S256x128 .bf16 ← Prog.lift (.load arg4 (Rect.unit (s := S8192x256) (k0_off1 i) S256x128.size (k0_off1_inb i)).toLoadRect (View.loadsAt_vmem h_S256x128))
      let kb : Vec F S256x128 .bf16 ← Prog.lift (.load arg4 (Rect.unit (s := S8192x256) (k0_off2 i) S256x128.size (k0_off2_inb i)).toLoadRect (View.loadsAt_vmem h_S256x128))
      let kc : Vec F S256x128 .bf16 ← Prog.lift (.load arg4 (Rect.unit (s := S8192x256) (k0_off3 i 1#32) S256x128.size (k0_off3_inb i 0)).toLoadRect (View.loadsAt_vmem h_S256x128))
      let kd : Vec F S256x128 .bf16 ← Prog.lift (.load arg4 (Rect.unit (s := S8192x256) (k0_off4 i 1#32) S256x128.size (k0_off4_inb i 0)).toLoadRect (View.loadsAt_vmem h_S256x128))
      let ke : Vec F S256x128 .bf16 ← Prog.lift (.load arg4 (Rect.unit (s := S8192x256) (k0_off3 i 2#32) S256x128.size (k0_off3_inb i 1)).toLoadRect (View.loadsAt_vmem h_S256x128))
      let kf : Vec F S256x128 .bf16 ← Prog.lift (.load arg4 (Rect.unit (s := S8192x256) (k0_off4 i 2#32) S256x128.size (k0_off4_inb i 1)).toLoadRect (View.loadsAt_vmem h_S256x128))
      let va : Vec F S256x128 .bf16 ← Prog.lift (.load arg5 (Rect.unit (s := S8192x256) (k0_off1 i) S256x128.size (k0_off1_inb i)).toLoadRect (View.loadsAt_vmem h_S256x128))
      let vb : Vec F S256x128 .bf16 ← Prog.lift (.load arg5 (Rect.unit (s := S8192x256) (k0_off2 i) S256x128.size (k0_off2_inb i)).toLoadRect (View.loadsAt_vmem h_S256x128))
      let vc : Vec F S256x128 .bf16 ← Prog.lift (.load arg5 (Rect.unit (s := S8192x256) (k0_off3 i 1#32) S256x128.size (k0_off3_inb i 0)).toLoadRect (View.loadsAt_vmem h_S256x128))
      let vd : Vec F S256x128 .bf16 ← Prog.lift (.load arg5 (Rect.unit (s := S8192x256) (k0_off4 i 1#32) S256x128.size (k0_off4_inb i 0)).toLoadRect (View.loadsAt_vmem h_S256x128))
      let qa := k0_pay14 qx
      let qb := k0_pay15 qy
      let w := BitVec.ofNat 32 (i 2).val
      let cst := constant S256x256 .f32 0x00000000#32
      let lga := k0_pay30 (k0_pay16 (F := F)) (k0_pay18 w cols (k0_pay17 i)) (k0_pay25 qa ka) (k0_pay28 w qa cols (k0_pay17 i) ka)
        (k0_pay29 w qa (k0_pay16 (F := F)) cols (k0_pay17 i) ka) cst
      let sma := k0_pay31 (k0_pay26 w qa cols (k0_pay17 i) ka)
      let aca := k0_pay51 (k0_pay19 (F := F)) (k0_pay20 (F := F)) lga va
      let lgb := k0_pay34 (k0_pay16 (F := F)) (k0_pay18 w cols (k0_pay17 i)) (k0_pay24 qb kb)
      let smb := k0_pay35 (k0_pay18 w cols (k0_pay17 i)) (k0_pay24 qb kb)
      let rub := k0_pay52 (k0_pay21 (F := F)) smb
      let acb := k0_pay53 (k0_pay21 (F := F)) (k0_pay22 (F := F)) lgb vb
      let pza := k0_pay36 qa kc
      let pzb := k0_pay37 qb kd
      let pla := k0_pay42 (k0_pay16 (F := F)) pza (k0_pay38 qa kc) (k0_pay39 (F := F))
      let psa := k0_pay43 pza (k0_pay38 qa kc) (k0_pay39 (F := F))
      let plb := k0_pay46 (k0_pay16 (F := F)) pzb
      let psb := k0_pay47 pzb
      let rua := k0_pay57 (k0_pay19 (F := F)) (has i) sma psa
      let r : St F ← Prog.lift (.call (1 : (Λ₀ F).Label) ⟨i, arg4, harg4, qa, qb, k0_pay16 (F := F), arg5, harg5,
        0#32, k0_pay4 psb rub (k0_pay55 (F := F) (has i)) rua, k0_pay48 qa ke, k0_pay49 qb kf, rua,
        k0_pay1 aca (k0_pay56 vc) (k0_pay58 (k0_pay19 (F := F)) (has i) sma pla) (constant S256x128 .f32 0x00000000#32),
        k0_pay2 psb rub (k0_pay55 (F := F) (has i)), k0_pay3 plb rub acb (k0_pay54 (F := F) (has i)) vd⟩)
      let _ : Vec F S256x128 .bf16 ← Prog.lift (.load arg6 rA.toLoadRect (View.loadsAt_vmem h_S256x128))
      Prog.lift (.store arg6 rA (k0_pay5 r.2.2.2.2.2.1) Finset.univ (View.stores_vmem h_S256x128 (harg6.storeExact_slice rfl _ packedbf16_S256x256_S256x128_0_0) (fun _ => rfl)) (.inl rfl))
      let _ : Vec F S256x128 .bf16 ← Prog.lift (.load arg6 rB.toLoadRect (View.loadsAt_vmem h_S256x128))
      Prog.lift (.store arg6 rB (k0_pay6 r.2.2.2.2.2.2.2) Finset.univ (View.stores_vmem h_S256x128 (harg6.storeExact_slice rfl _ packedbf16_S256x256_S256x128_0_128) (fun _ => rfl)) (.inl rfl))
      pure ⟨⟩) := by
  rw [cc0_stick_mixer_eq_skeleton]
  unfold cc0_stick_mixer_skel
  rw [k0_part1_eq_skeleton, k0_part2_eq_skeleton, k0_part3_eq_skeleton, k0_part4_eq_skeleton, k0_part5_eq_skeleton]
  rfl

set_option maxHeartbeats 1000000 in
/-- The body's run. -/
theorem body_run (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ (∃ f, arg6.view.loc (c : Thread nD τ) ↦[arg6.view.set]{fullShare} arg6.view.writes (Elt F) f (pieces i x0 x1 x2))) -∗ K ⟨⟩))
      ⊢ wp frame (wpE (defs₀ (F := F)) 𝒱s c none) E (cc0_stick_mixer i arg3 harg3 arg4 harg4 arg5 harg5 arg6 harg6) K := by
  rw [body_eq]
  unfold owns
  iintro ⟨⟨%f0, %hf0, H0⟩, ⟨%f1, %hf1, H1⟩, ⟨%f2, %hf2, H2⟩, ⟨%d3, %f3, -, H3⟩, Hk⟩
  obtain rfl := harg3.eq_unread hf0; obtain rfl := harg4.eq_unread hf1; obtain rfl := harg5.eq_unread hf2
  simp only [Prog.lift, Prog.bind_op, Prog.bind_ret]
  iapply (wp_load 𝒱s (c : Thread nD τ) none E (m := arg3) (View.setOn_subset_set _ _)) $$ H0; iintro H0
  rw [readAt_half _ _ _ 0 (by decide)]
  iapply (wp_load 𝒱s (c : Thread nD τ) none E (m := arg3) (View.setOn_subset_set _ _)) $$ H0; iintro H0
  rw [readAt_half _ _ _ 128 (by decide)]
  iapply (wp_load 𝒱s (c : Thread nD τ) none E (m := arg4) (View.setOn_subset_set _ _)) $$ H1; iintro H1
  rw [readAt_blk]
  iapply (wp_load 𝒱s (c : Thread nD τ) none E (m := arg4) (View.setOn_subset_set _ _)) $$ H1; iintro H1
  rw [readAt_blk]
  iapply (wp_load 𝒱s (c : Thread nD τ) none E (m := arg4) (View.setOn_subset_set _ _)) $$ H1; iintro H1
  rw [readAt_blk]
  iapply (wp_load 𝒱s (c : Thread nD τ) none E (m := arg4) (View.setOn_subset_set _ _)) $$ H1; iintro H1
  rw [readAt_blk]
  iapply (wp_load 𝒱s (c : Thread nD τ) none E (m := arg4) (View.setOn_subset_set _ _)) $$ H1; iintro H1
  rw [readAt_blk]
  iapply (wp_load 𝒱s (c : Thread nD τ) none E (m := arg4) (View.setOn_subset_set _ _)) $$ H1; iintro H1
  rw [readAt_blk]
  iapply (wp_load 𝒱s (c : Thread nD τ) none E (m := arg5) (View.setOn_subset_set _ _)) $$ H2; iintro H2
  rw [readAt_blk]
  iapply (wp_load 𝒱s (c : Thread nD τ) none E (m := arg5) (View.setOn_subset_set _ _)) $$ H2; iintro H2
  rw [readAt_blk]
  iapply (wp_load 𝒱s (c : Thread nD τ) none E (m := arg5) (View.setOn_subset_set _ _)) $$ H2; iintro H2
  rw [readAt_blk]
  iapply (wp_load 𝒱s (c : Thread nD τ) none E (m := arg5) (View.setOn_subset_set _ _)) $$ H2; iintro H2
  rw [readAt_blk]
  have hloop := spec_le c i arg4 harg4 arg5 harg5 x1 x2 (qa x0) (qb x0) (k0_pay16 (F := F)) E ((i 2).val - 1) 0#32
    (start i x0 x1 x2).2.1 (start i x0 x1 x2).2.2.1 (start i x0 x1 x2).2.2.2.1 (start i x0 x1 x2).2.2.2.2.1
    (start i x0 x1 x2).2.2.2.2.2.1 (start i x0 x1 x2).2.2.2.2.2.2.1 (start i x0 x1 x2).2.2.2.2.2.2.2
    (by show (0#32 : BitVec 32).toNat + _ = _; rw [show (0#32 : BitVec 32).toNat = 0 from rfl, Nat.zero_add])
  iapply (wp_call_spec 𝒱s (c : Thread nD τ) none E _ ((i 2).val - 1) (fun u hu => nomatch hu) hloop)
  rw [spec_apply]
  unfold held
  isplitl [H1 H2]
  · isplitl [H1]; · iexact H1
    iexact H2
  iintro ⟨H1, H2⟩
  iapply (wp_load 𝒱s (c : Thread nD τ) none E (m := arg6) (View.setOn_subset_set _ _)) $$ H3; iintro H3
  iapply (wp_store 𝒱s (c : Thread nD τ) none E (m := arg6) (r := rA) (Mk := Finset.univ) (access_sub arg6 rA)) $$ H3; iintro H3
  iapply (wp_load 𝒱s (c : Thread nD τ) none E (m := arg6) (View.setOn_subset_set _ _)) $$ H3; iintro H3
  iapply (wp_store 𝒱s (c : Thread nD τ) none E (m := arg6) (r := rB) (Mk := Finset.univ) (access_sub arg6 rB)) $$ H3; iintro H3
  rw [Prog.pure_eq_ret, wp_ret]; imodintro
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists f3
  rw [← written]
  iexact H3

end Loads

end Cert.KernelIdeal.Stick

end
-- ==== Proof.PI.Frame.lean ====
/-
  The kernel's run: the block each grid point leaves, the pipeline's data, the body at any grid point, and every final
  state: the argument unchanged, the counters at zero, the result's array at what the points leave.
-/
module

public import proofs.«01_k».proof.Proof.PI.Body
public import proofs.«01_k».proof.Proof.Gen.KernelIdeal.Launch
public import proofs.«01_k».proof.Proof.Gen.KernelIdeal.Points
public import Idealize.ShloMosaic.Lib.Claim

@[expose] public section

set_option maxRecDepth 16384

noncomputable section

namespace Cert.KernelIdeal.Stick

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The block a point leaves -/

/-- Both heads' columns side by side. -/
def outBlk (i : grid0.Coords) (x0 : Vec F S256x256 .bf16) (x1 x2 : Vec F S8192x256 .bf16) : Vec F S256x256 .bf16 := fun y =>
  if (y 1).val < 128 then outA i x0 x1 x2 (fun | 0 => (y 0 : Fin 256) | 1 => (⟨(y 1).val % 128, Nat.mod_lt _ (by decide)⟩ : Fin 128))
  else outB i x0 x1 x2 (fun | 0 => (y 0 : Fin 256) | 1 => (⟨(y 1).val % 128, Nat.mod_lt _ (by decide)⟩ : Fin 128))

theorem read_pieces (v : View sig .tc .vmem S256x256 .bf16) (f : v.ty.Contents (Elt F)) (i : grid0.Coords) (x0 : Vec F S256x256 .bf16) (x1 x2 : Vec F S8192x256 .bf16) :
    v.read (Elt F) (v.writes (Elt F) f (pieces i x0 x1 x2)) = outBlk i x0 x1 x2 := by
  funext y
  refine View.read_writes_apply_of_pieces v f (outBlk i x0 x1 x2) _ ?_ y ?_
  · intro p hp x
    rcases List.mem_cons.mp hp with rfl | hp
    · have x1' : (x 1).val < 128 := (x 1).isLt
      have e : ((rB.emb x) 1).val = 128 + 1 * (x 1).val := rfl
      unfold outBlk
      rw [if_neg (by rw [e]; omega)]
      show outB i x0 x1 x2 x = _
      congr 1
      funext a
      apply Fin.ext
      match a with
      | 0 => show (x 0).val = 0 + 1 * (x 0).val; omega
      | 1 => show (x 1).val = (128 + 1 * (x 1).val) % 128; omega
    · rcases List.mem_cons.mp hp with rfl | hp
      · have x1' : (x 1).val < 128 := (x 1).isLt
        have e : ((rA.emb x) 1).val = 0 + 1 * (x 1).val := rfl
        unfold outBlk
        rw [if_pos (by rw [e]; omega)]
        show outA i x0 x1 x2 x = _
        congr 1
        funext a
        apply Fin.ext
        match a with
        | 0 => show (x 0).val = 0 + 1 * (x 0).val; omega
        | 1 => show (x 1).val = (0 + 1 * (x 1).val) % 128; omega
      · exact absurd hp List.not_mem_nil
  · have y0 : (y 0).val < 256 := (y 0).isLt
    have y1 : (y 1).val < 256 := (y 1).isLt
    by_cases h : (y 1).val < 128
    · refine ⟨_, List.mem_cons_of_mem _ List.mem_cons_self, ?_⟩
      show y ∈ rA.set
      exact Rect.mem_set_unit.mpr fun | 0 => ⟨Nat.zero_le _, by show (y 0).val < 0 + 256; omega⟩ | 1 => ⟨Nat.zero_le _, by show (y 1).val < 0 + 128; omega⟩
    · refine ⟨_, List.mem_cons_self, ?_⟩
      show y ∈ rB.set
      exact Rect.mem_set_unit.mpr fun | 0 => ⟨Nat.zero_le _, by show (y 0).val < 0 + 256; omega⟩ | 1 => ⟨by show 128 ≤ (y 1).val; omega, by show (y 1).val < 128 + 128; omega⟩

/-! ## The region's entry -/

/-- The buffers as the region finds them: after the argument's conversion. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem entry : Pipeline.HMain (Ix := Unit) (Name := ℕ) (U := UR sig nD τ) (Lvl := ℕ) cfgs 0 defs₀ 𝒱s m (main (F := F)) (V m) :=
  Pipeline.hmain_prefix cfgs 0 defs₀ 𝒱s m main hostOps0 hostOps0_sub hostOps0_fresh main_chain

theorem V_arg (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))

/-- A window's block at a point, read off its array. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The staging memrefs of a point and their wholeness. -/
abbrev st0 (t : Fin (cfg0 (F := F)).N) : Memref sig .tc .vmem S256x256 .bf16 := win0_0.stage ((cfg0 (F := F)).slots t 0)
abbrev wh0 (t : Fin (cfg0 (F := F)).N) : (st0 t).IsWhole := hstage0_0 (((cfg0 (F := F)).slots t 0).cast nbuf0_0)
abbrev st1 (t : Fin (cfg0 (F := F)).N) : Memref sig .tc .vmem S8192x256 .bf16 := win0_1.stage ((cfg0 (F := F)).slots t 1)
abbrev wh1 (t : Fin (cfg0 (F := F)).N) : (st1 t).IsWhole := hstage0_1 (((cfg0 (F := F)).slots t 1).cast nbuf0_1)
abbrev st2 (t : Fin (cfg0 (F := F)).N) : Memref sig .tc .vmem S8192x256 .bf16 := win0_2.stage ((cfg0 (F := F)).slots t 2)
abbrev wh2 (t : Fin (cfg0 (F := F)).N) : (st2 t).IsWhole := hstage0_2 (((cfg0 (F := F)).slots t 2).cast nbuf0_2)
abbrev st3 (t : Fin (cfg0 (F := F)).N) : Memref sig .tc .vmem S256x256 .bf16 := win0_3.stage ((cfg0 (F := F)).slots t 3)
abbrev wh3 (t : Fin (cfg0 (F := F)).N) : (st3 t).IsWhole := hstage0_3 (((cfg0 (F := F)).slots t 3).cast nbuf0_3)

/-- What the result's staging buffer holds after a point. -/
def left (c : Dev nD) (t : Fin (cfg0 (F := F)).N) : Vec F S256x256 .bf16 :=
  outBlk (grid0.coords t) (iblk m c 0 t) (iblk m c 1 t) (iblk m c 2 t)

/-- The pipeline's data. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => left m c t
  Φ _ := Pipeline.ΦA spec0 c
  q w := Pipeline.shareOf spec0 w
  owed _ := 0

theorem dats_A (c : Dev nD) (w : Fin (cfg0 (F := F)).W) : (dats m 0 c).A w = V m c (Pipeline.arrRef spec0 w) := by dsimp only [dats]
theorem after_0 (c : Dev nD) (t : Fin (cfg0 (F := F)).N) : (dats m 0 c).after 0 t = iblk m c 0 t := rfl
theorem after_1 (c : Dev nD) (t : Fin (cfg0 (F := F)).N) : (dats m 0 c).after 1 t = iblk m c 1 t := rfl
theorem after_2 (c : Dev nD) (t : Fin (cfg0 (F := F)).N) : (dats m 0 c).after 2 t = iblk m c 2 t := rfl
theorem after_3 (c : Dev nD) (t : Fin (cfg0 (F := F)).N) : (dats m 0 c).after 3 t = left m c t := rfl

theorem before_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after_0]; unfold Dat.blockOf iblk; rw [dats_A]; try rfl) t d).trans
    (by unfold Dat.fetched Dat.blockOf iblk; rw [dats_A]; try rfl)
theorem before_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after_1]; unfold Dat.blockOf iblk; rw [dats_A]; try rfl) t d).trans
    (by unfold Dat.fetched Dat.blockOf iblk; rw [dats_A]; try rfl)
theorem before_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after_2]; unfold Dat.blockOf iblk; rw [dats_A]; try rfl) t d).trans
    (by unfold Dat.fetched Dat.blockOf iblk; rw [dats_A]; try rfl)

/-! ## The body at a point -/

def bodyPre (c : Dev nD) (t : Fin (cfg0 (F := F)).N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d)))

def bodyPost (c : Dev nD) (t : Fin (cfg0 (F := F)).N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t))

theorem sound_body (c : Dev nD) (t : Fin (cfg0 (F := F)).N) :
    bodyPre m c t ⊢ wp frame (wpE (defs₀ (F := F)) 𝒱s c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl, after_0, after_1, after_2, after_3]
  iintro ⟨HΦ, Ho, ⟨%d0, H0⟩, ⟨%d1, H1⟩, ⟨%d2, H2⟩, ⟨%d3, H3⟩⟩
  iapply (body_run c (grid0.coords t) _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact read_pieces _ _ _ _ _ _

theorem row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem obligation (c : Dev nD) : BodyObligation (dats (F := F) m 0 c) (defs₀ (F := F)) 𝒱s () Set.univ := fun t => by
  rw [bigSep_W0, bigSep_W0, row]
  exact triple_restated (sound_body m c t) rfl .rfl fun _ => .rfl

/-! ## The run -/

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ 𝒱s m ρ main
    (hbody := fun c => (obligation m c).loose) (hq := fun _ _ _ => rfl)
    (howed := fun _ _ => rfl) (V := V m) (hmain := entry m) (hA := dats_A m) (hΦ := fun _ _ => rfl)

theorem run_blocks : θ_run defs (onTc (τ := τ) (main (F := F))) (s₀ m ρ) (Pipeline.FramePost cfgs (dats m) 0 (V m)) :=
  (θ_run defs _ _).mono (fun _ h => h.1) (run_quiet m ρ)

/-- No window stages the argument. -/
theorem arg_unstaged : ∀ w : Fin 4, (spec0 w).arr.view.ref ≠ main_arg0 := by decide

/-- The frame: the argument ends unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => ((h.1 c).2 main_arg0 (Pipeline.mem_restRefs_of main_arg0 (by decide) arg_unstaged)).trans (V_arg m c), h.2⟩)
    (run_quiet m ρ)

end Cert.KernelIdeal.Stick

end
-- ==== Proof.Value.Pays.lean ====
/-
  What the kernel's blockwise functions are over the extended reals at finite scores: the scores as a sum of
  products, the two logarithms, the logits with the kept sums after a column, the row sums, and the weighted values.
-/
module

public import proofs.«01_k».proof.Proof.PI.Steps
public import Idealize.ShloMosaic.Lib.Pointwise
public import Idealize.ShloMosaic.Lib.WordCmp

@[expose] public section

set_option maxRecDepth 16384

noncomputable section

namespace Cert.KernelIdeal.Stick

open Cert.KernelIdeal Cert.KernelIdeal.Gen
open Idealize.ShloMosaic Idealize.ShloMosaic.TcCoe

/-- A finite sum of reals, as extended reals. -/
theorem coe_sum {ι : Type*} (s : Finset ι) (f : ι → ℝ) : ((∑ a ∈ s, f a : ℝ) : EReal) = ∑ a ∈ s, (f a : EReal) :=
  map_sum (⟨⟨fun r : ℝ => (r : EReal), EReal.coe_zero⟩, EReal.coe_add⟩ : ℝ →+ EReal) f s

/-! ## The two logarithms -/

/-- log of the sigmoid of `z`, and of its complement. -/
def lbR (z : ℝ) : ℝ := min z 0 - Real.log (1 + Real.exp (0 - max z (-z)))
def lkR (z : ℝ) : ℝ := lbR z - z

/-- A block of finite scores. -/
def blkR (f : Fin 256 → Fin 256 → ℝ) : FVec Ideal S256x256 .f32 := fun j => ((f (j 0) (j 1) : ℝ) : EReal)

theorem coe_max (a b : ℝ) : ((max a b : ℝ) : EReal) = max (a : EReal) (b : EReal) :=
  EReal.coe_strictMono.monotone.map_max
theorem coe_min (a b : ℝ) : ((min a b : ℝ) : EReal) = min (a : EReal) (b : EReal) :=
  EReal.coe_strictMono.monotone.map_min

/-- A choice between two reals, as extended reals. -/
theorem coe_ite (p : Prop) [Decidable p] (a b : ℝ) : ((if p then a else b : ℝ) : EReal) = if p then (a : EReal) else (b : EReal) :=
  apply_ite _ _ _ _

theorem lb_coe (z : ℝ) :
    min (z : EReal) 0 - Ideal.log (1 + Ideal.exp (0 - max (z : EReal) (-(z : EReal)))) = ((lbR z : ℝ) : EReal) := by
  have e : (0 : EReal) - max (z : EReal) (-(z : EReal)) = ((0 - max z (-z) : ℝ) : EReal) := by
    rw [EReal.coe_sub, coe_max, EReal.coe_neg, EReal.coe_zero]
  rw [e]
  show min (z : EReal) 0 - Ideal.log (1 + ((Real.exp (0 - max z (-z)) : ℝ) : EReal)) = _
  rw [← EReal.coe_one, ← EReal.coe_add]
  have p : ¬ (1 + Real.exp (0 - max z (-z)) ≤ 0) := not_le.mpr (add_pos one_pos (Real.exp_pos _))
  show min (z : EReal) 0 - (if 1 + Real.exp (0 - max z (-z)) ≤ 0 then ⊥ else _) = _
  rw [if_neg p, ← EReal.coe_zero, ← coe_min, ← EReal.coe_sub]
  rfl

theorem pay61_apply (f : Fin 256 → Fin 256 → ℝ) (r c : Fin 256) :
    k0_pay61 (F := Ideal) (blkR f) (ix2 r c) = ((lbR (f r c) : ℝ) : EReal) := by
  refine Eq.trans ?_ (lb_coe (f r c))
  pointwise [k0_pay61, blkR]
  rfl

theorem pay62_apply (f : Fin 256 → Fin 256 → ℝ) (r c : Fin 256) :
    k0_pay62 (F := Ideal) (blkR f) (ix2 r c) = ((lkR (f r c) : ℝ) : EReal) := by
  show k0_pay61 (F := Ideal) (blkR f) (ix2 r c) - ((f r c : ℝ) : EReal) = _
  rw [pay61_apply, ← EReal.coe_sub]; rfl

/-! ## The kept sums -/

/-- The strictly lower triangle. -/
theorem pay16_apply (r c : Fin 256) : k0_pay16 (F := Ideal) (ix2 r c) = ((if c < r then 1 else 0 : ℝ) : EReal) := by
  pointwise [k0_pay16]
  have e : (IntOp.cmpi CmpIPredicate.sgt (BitVec.ofNat 32 r.val) (BitVec.ofNat 32 c.val) = (1 : BitVec 1)) ↔ c < r :=
    WordCmp.cmpi_slt_ofNat_eq_one_iff (w := 32) (lt_of_lt_of_le c.isLt (by decide)) (lt_of_lt_of_le r.isLt (by decide))
  unfold Scalar.select
  by_cases h : c < r
  · rw [if_pos (e.mpr h), if_pos h, EReal.coe_one]
  · rw [if_neg (fun x => h (e.mp x)), if_neg h, EReal.coe_zero]

/-- A product of reals with the triangle: the sum over the later columns. -/
theorem tri_sum (g : Fin 256 → ℝ) (c : Fin 256) :
    ∑ x, ((g x : ℝ) : EReal) * k0_pay16 (F := Ideal) (ix2 x c) = ((∑ x, if c < x then g x else 0 : ℝ) : EReal) := by
  rw [coe_sum]
  refine Finset.sum_congr rfl fun x _ => ?_
  rw [pay16_apply, ← EReal.coe_mul, mul_ite, mul_one, mul_zero]

theorem pay63_apply (f : Fin 256 → Fin 256 → ℝ) (r c : Fin 256) :
    k0_pay63 (F := Ideal) (k0_pay16 (F := Ideal)) (blkR f) (ix2 r c)
      = ((lbR (f r c) + ∑ x, (if c < x then lkR (f r x) else 0) : ℝ) : EReal) := by
  pointwise [k0_pay63]
  simp only [pay61_apply, pay62_apply, ← EReal.coe_sub, sub_self, EReal.coe_zero, zero_mul, Finset.sum_const_zero, add_zero]
  rw [tri_sum, ← EReal.coe_add]

theorem pay64_apply (f : Fin 256 → Fin 256 → ℝ) (r : Fin 256) (o : Fin 1) :
    k0_pay64 (F := Ideal) (blkR f) (ix2 r o) = ((∑ x, lkR (f r x) : ℝ) : EReal) := by
  pointwise [k0_pay64]
  simp only [pay62_apply, coe_sum]

/-! ## The diagonal block -/

section Diag

variable (i : grid0.Coords)

/-- The keys before the query's own row. -/
def mask : IVec S256x256 1 := k0_pay18 (BitVec.ofNat 32 (i 2).val) cols (k0_pay17 i)

theorem mask_apply (r c : Fin 256) : mask i (ix2 r c) = if c < r then 1#1 else 0#1 := by
  have hd : (i 2).val < 32 := (i 2).isLt
  have e17 : k0_pay17 i = broadcast S256x256 (Scalar.muli (dI (BitVec.ofNat 32 (i 2).val)) 256#32) := rfl
  unfold mask
  rw [e17, dI_eq ⟨(i 2).val, hd⟩]
  pointwise [k0_pay18, cols]
  have e : ∀ a b : ℕ, IntOp.addi (Scalar.muli (BitVec.ofNat 32 a) 256#32) (BitVec.ofNat 32 b) = BitVec.ofNat 32 (a * 256 + b) := by
    intro a b
    show BitVec.ofNat 32 a * BitVec.ofNat 32 256 + BitVec.ofNat 32 b = _
    rw [← BitVec.ofNat_mul, ← BitVec.ofNat_add]
  rw [e, e]
  have q := WordCmp.cmpi_slt_ofNat_eq_one_iff (w := 32) (a := (i 2).val * 256 + c.val) (b := (i 2).val * 256 + r.val)
    (lt_of_lt_of_le (by omega : _ < 8192) (by decide)) (lt_of_lt_of_le (by omega : _ < 8192) (by decide))
  by_cases h : c < r
  · rw [if_pos h]; exact q.mpr (by have : c.val < r.val := h; omega)
  · rw [if_neg h]
    rcases BitVec.eq_zero_or_eq_one (IntOp.cmpi .slt (BitVec.ofNat 32 ((i 2).val * 256 + c.val)) (BitVec.ofNat 32 ((i 2).val * 256 + r.val))) with z | z
    · exact z
    · exact absurd (q.mp z) (by have : ¬ c.val < r.val := h; omega)

theorem pay33_apply (f : Fin 256 → Fin 256 → ℝ) (r c : Fin 256) :
    k0_pay33 (F := Ideal) (mask i) (blkR f) (ix2 r c) = ((if c < r then lkR (f r c) else 0 : ℝ) : EReal) := by
  have e : k0_pay33 (F := Ideal) (mask i) (blkR f) (ix2 r c)
      = Scalar.select (mask i (ix2 r c)) (k0_pay62 (F := Ideal) (blkR f) (ix2 r c)) (Ideal.ofBits .f32 0x00000000#32) := rfl
  rw [e, mask_apply, pay62_apply, Ideal.ofBits_zero_f32]
  unfold Scalar.select
  by_cases h : c < r
  · rw [if_pos h, if_pos (show (1#1 : BitVec 1) = 1 from rfl), if_pos h]
  · rw [if_neg h, if_neg (by decide), if_neg h, EReal.coe_zero]

theorem pay34_apply (f : Fin 256 → Fin 256 → ℝ) (r c : Fin 256) :
    k0_pay34 (F := Ideal) (k0_pay16 (F := Ideal)) (mask i) (blkR f) (ix2 r c)
      = if c < r then ((lbR (f r c) + ∑ x, (if c < x then (if x < r then lkR (f r x) else 0) else 0) : ℝ) : EReal) else ⊥ := by
  have em : Named.named (F := Ideal) κ "mask" (φ := .f32) 0xF149F2CA#32 = (⊥ : EReal) :=
    IdealRules.named_const.ideal_named_scalar _ _ _ _ rfl
  pointwise [k0_pay34]
  rw [em]
  have e32 : k0_pay32 (F := Ideal) (blkR f) = k0_pay61 (F := Ideal) (blkR f) := rfl
  simp only [e32, pay61_apply, pay33_apply, mask_apply, ← EReal.coe_sub, sub_self, EReal.coe_zero, zero_mul, Finset.sum_const_zero, add_zero]
  rw [tri_sum (fun x => if x < r then lkR (f r x) else 0), ← EReal.coe_add]
  unfold Scalar.select
  by_cases h : c < r
  · rw [if_pos h, if_pos (show (1#1 : BitVec 1) = 1 from rfl), if_pos h]
  · rw [if_neg h, if_neg (by decide), if_neg h]

theorem pay35_apply (f : Fin 256 → Fin 256 → ℝ) (r : Fin 256) (o : Fin 1) :
    k0_pay35 (F := Ideal) (mask i) (blkR f) (ix2 r o) = ((∑ x, (if x < r then lkR (f r x) else 0) : ℝ) : EReal) := by
  pointwise [k0_pay35]
  simp only [pay33_apply, coe_sum]

end Diag

/-! ## The values -/

/-- The accumulator after a block whose weights are the reals `w`. -/
theorem pay10_apply (R : FVec Ideal S256x1 .f32) (a : FVec Ideal S256x128 .f32) (l : FVec Ideal S256x256 .f32) (v : Vec Ideal S256x128 .bf16)
    (r : Fin 256) (d : Fin 128) (A : ℝ) (w V : Fin 256 → ℝ) (ha : a (ix2 r d) = (A : EReal))
    (hw : ∀ x, Ideal.exp (l (ix2 r x) + R (ix2 r 0)) = ((w x : ℝ) : EReal)) (hv : ∀ x, v (ix2 x d) = ((V x : ℝ) : EReal)) :
    k0_pay10 (F := Ideal) R a l v (ix2 r d) = ((A + ∑ x, w x * V x : ℝ) : EReal) := by
  pointwise [k0_pay10]
  simp only [hw, hv, ha, ← EReal.coe_mul]
  rw [← coe_sum, ← EReal.coe_add]

/-! ## The scores -/

/-- The factor on the queries. -/
def sc : ℝ := (Ideal.ofBits .f32 0x3DB504F3#32).toReal

theorem sc_coe : Ideal.ofBits .f32 0x3DB504F3#32 = ((sc : ℝ) : EReal) := by
  refine (EReal.coe_toReal ?_ ?_).symm <;> simp [Ideal.ofBits, Ideal.ieee] <;> rw [← EReal.coe_mul]
  · exact EReal.coe_ne_top _
  · exact EReal.coe_ne_bot _

theorem pay59_eq (x k : Vec Ideal S256x128 .bf16) (X K : Fin 256 → Fin 128 → ℝ)
    (hx : ∀ r d, x (ix2 r d) = ((X r d : ℝ) : EReal)) (hk : ∀ r d, k (ix2 r d) = ((K r d : ℝ) : EReal)) :
    k0_pay59 (F := Ideal) (k0_pay14 (F := Ideal) x) k = blkR fun r c => ∑ d, X r d * sc * K c d := by
  funext j
  obtain ⟨r, c, rfl⟩ : ∃ r c, j = ix2 r c := ⟨_, _, eq_ix2 j⟩
  pointwise [k0_pay59, k0_pay14, blkR]
  simp only [hx, hk, sc_coe, ← EReal.coe_mul]
  rw [← coe_sum]

/-! ## The kernel's other names for the same functions -/

section Same

variable {F : FTy → Type} [FloatOps F] [Named F]

theorem pay11_eq (z : FVec F S256x256 .f32) (R : FVec F S256x1 .f32) :
    k0_pay11 z R (k0_pay65 z) (Scalar.ofBits .f32 0x00000000#32) = k0_pay9 R (k0_pay64 z) := rfl
theorem pay12_eq (u : FVec F S256x256 .bf16) (z : FVec F S256x256 .f32) (R : FVec F S256x1 .f32) (a : FVec F S256x128 .f32) (v : Vec F S256x128 .bf16) :
    k0_pay12 u z R a (k0_pay65 z) (Scalar.ofBits .f32 0x00000000#32) v = k0_pay10 R a (k0_pay63 u z) v := rfl

section Point
variable (i : grid0.Coords) (x0 : Vec F S256x256 .bf16) (x1 x2 : Vec F S8192x256 .bf16)

theorem lg0_eq : lg0 i x0 x1 = k0_pay34 (k0_pay16 (F := F)) (mask i) (k0_pay59 (qa x0) (blk x1 (k0_off1 i))) := rfl
theorem sm0_eq : sm0 i x0 x1 = k0_pay35 (mask i) (k0_pay59 (qa x0) (blk x1 (k0_off1 i))) := rfl
theorem lg1_eq : lg1 i x0 x1 = k0_pay34 (k0_pay16 (F := F)) (mask i) (k0_pay59 (qb x0) (blk x1 (k0_off2 i))) := rfl
theorem sm1_eq : sm1 i x0 x1 = k0_pay35 (mask i) (k0_pay59 (qb x0) (blk x1 (k0_off2 i))) := rfl
theorem ac0_eq : ac0 i x0 x1 x2 = k0_pay10 k0_pay19 k0_pay20 (lg0 i x0 x1) (blk x2 (k0_off1 i)) := rfl
theorem ac1_eq : ac1 i x0 x1 x2 = k0_pay10 k0_pay19 k0_pay20 (lg1 i x0 x1) (blk x2 (k0_off2 i)) := rfl
theorem pl0_eq : pl0 i x0 x1 = k0_pay63 (k0_pay16 (F := F)) (k0_pay59 (qa x0) (blk x1 (k0_off3 i 1#32))) := rfl
theorem ps0_eq : ps0 i x0 x1 = k0_pay64 (k0_pay59 (qa x0) (blk x1 (k0_off3 i 1#32))) := rfl
theorem pl1_eq : pl1 i x0 x1 = k0_pay63 (k0_pay16 (F := F)) (k0_pay59 (qb x0) (blk x1 (k0_off4 i 1#32))) := rfl
theorem ps1_eq : ps1 i x0 x1 = k0_pay64 (k0_pay59 (qb x0) (blk x1 (k0_off4 i 1#32))) := rfl
/-- The running sum with the previous block's, and what the previous block's logits have added to them. -/
def after (s p : FVec F S256x1 .f32) : FVec F S256x1 .f32 :=
  addf (addf (k0_pay19 (F := F)) s) (mulf p (broadcast S256x1 (k0_pay55 (F := F) (has i))))
def before (s : FVec F S256x1 .f32) : FVec F S256x1 .f32 :=
  addf (addf (k0_pay19 (F := F)) s) (broadcast S256x1 (k0_pay54 (F := F) (has i)))

theorem start_eq : start i x0 x1 x2 =
    (0#32, k0_pay4 (ps1 i x0 x1) (ru1 i x0 x1) (k0_pay55 (F := F) (has i)) (ru0 i x0 x1),
      k0_pay59 (qa x0) (blk x1 (k0_off3 i 2#32)), k0_pay59 (qb x0) (blk x1 (k0_off4 i 2#32)),
      after i (sm0 i x0 x1) (ps0 i x0 x1), k0_pay10 (before i (sm0 i x0 x1)) (ac0 i x0 x1 x2) (pl0 i x0 x1) (blk x2 (k0_off3 i 1#32)),
      after i (sm1 i x0 x1) (ps1 i x0 x1), k0_pay10 (before i (sm1 i x0 x1)) (ac1 i x0 x1 x2) (pl1 i x0 x1) (blk x2 (k0_off4 i 1#32))) := rfl

end Point

end Same

end Cert.KernelIdeal.Stick

end
-- ==== Proof.Value.Sums.lean ====
/-
  The sums over a row's keys: the sum kept after a key, and the weighted sum of the values, over the keys from a
  block's first one to the row; how each grows by one block of 256 keys, and what it is on the row's own block.
-/
module

public import Mathlib.Algebra.BigOperators.Fin
public import Mathlib.Algebra.BigOperators.Intervals
public import Mathlib.Analysis.SpecialFunctions.Log.Basic

@[expose] public section

noncomputable section

namespace Cert.Stick

open Finset

/-- A sum over part of a block of 256 keys, over the block's columns. -/
theorem sum_part (g : ℕ → ℝ) (k a b : ℕ) (ha : k ≤ a) (hb : b ≤ k + 256) :
    ∑ t ∈ Ico a b, g t = ∑ y : Fin 256, if a ≤ k + y.val ∧ k + y.val < b then g (k + y.val) else 0 := by
  rw [Fin.sum_univ_eq_sum_range (fun y => if a ≤ k + y ∧ k + y < b then g (k + y) else 0) 256,
    range_eq_Ico, sum_Ico_add (fun t => if a ≤ t ∧ t < b then g t else 0) 0 256 k, ← sum_filter]
  refine sum_congr (Finset.ext fun t => ?_) fun _ _ => rfl
  simp only [mem_filter, mem_Ico]
  omega

/-- The kept sum over the keys from `k` to the row. -/
def runR (lk : ℕ → ℝ) (k s : ℕ) : ℝ := ∑ t ∈ Ico k s, lk t

/-- The values of the keys from `k` to the row, each weighted by its own share of what the later keys keep. -/
def accR (lb lk vv : ℕ → ℝ) (k s : ℕ) : ℝ := ∑ t ∈ Ico k s, Real.exp (lb t + ∑ y ∈ Ico (t + 1) s, lk y) * vv t

theorem sum_block (g : ℕ → ℝ) (k : ℕ) : ∑ t ∈ Ico k (k + 256), g t = ∑ y : Fin 256, g (k + y.val) := by
  rw [sum_part g k k (k + 256) le_rfl le_rfl]
  exact sum_congr rfl fun y _ => if_pos ⟨Nat.le_add_right _ _, by omega⟩

theorem runR_step (lk : ℕ → ℝ) (k s : ℕ) (h : k + 256 ≤ s) :
    runR lk k s = runR lk (k + 256) s + ∑ x : Fin 256, lk (k + x.val) := by
  unfold runR
  rw [← sum_Ico_consecutive lk (Nat.le_add_right k 256) h, sum_block, add_comm]

theorem accR_step (lb lk vv : ℕ → ℝ) (k s : ℕ) (h : k + 256 ≤ s) :
    accR lb lk vv k s = accR lb lk vv (k + 256) s
      + ∑ x : Fin 256, Real.exp ((lb (k + x.val) + ∑ y : Fin 256, if x < y then lk (k + y.val) else 0) + runR lk (k + 256) s) * vv (k + x.val) := by
  unfold accR
  rw [← sum_Ico_consecutive _ (Nat.le_add_right k 256) h, sum_block, add_comm]
  refine congrArg _ (sum_congr rfl fun x _ => ?_)
  have hx := x.isLt
  rw [← sum_Ico_consecutive lk (by omega : k + x.val + 1 ≤ k + 256) h, sum_part lk k (k + x.val + 1) (k + 256) (by omega) le_rfl, ← add_assoc]
  refine congrArg (fun e => Real.exp (lb (k + x.val) + e + _) * vv (k + x.val)) (sum_congr rfl fun y _ => ?_)
  have hy := y.isLt
  refine if_congr ?_ rfl rfl
  rw [Fin.lt_def]; omega

theorem runR_diag (lk : ℕ → ℝ) (k : ℕ) (r : Fin 256) : runR lk k (k + r.val) = ∑ x : Fin 256, if x < r then lk (k + x.val) else 0 := by
  unfold runR
  rw [sum_part lk k k (k + r.val) le_rfl (by omega)]
  refine sum_congr rfl fun y _ => if_congr ?_ rfl rfl
  rw [Fin.lt_def]; omega

theorem accR_diag (lb lk vv : ℕ → ℝ) (k : ℕ) (r : Fin 256) :
    accR lb lk vv k (k + r.val)
      = ∑ x : Fin 256, (if x < r then Real.exp (lb (k + x.val) + ∑ y : Fin 256, if x < y then (if y < r then lk (k + y.val) else 0) else 0) else 0) * vv (k + x.val) := by
  unfold accR
  rw [sum_part _ k k (k + r.val) le_rfl (by omega)]
  refine sum_congr rfl fun x _ => ?_
  rw [ite_mul, zero_mul]
  refine if_congr (by rw [Fin.lt_def]; omega) ?_ rfl
  rw [sum_part lk k (k + x.val + 1) (k + r.val) (by omega) (by omega)]
  refine congrArg (fun e => Real.exp (lb (k + x.val) + e) * vv (k + x.val)) (sum_congr rfl fun y _ => ?_)
  rw [← ite_and]
  refine if_congr ?_ rfl rfl
  rw [Fin.lt_def, Fin.lt_def]; omega

end Cert.Stick

end
-- ==== Proof.Value.Rows.lean ====
/-
  The kernel's state over the extended reals at finite queries, keys and values: after the blocks down to the `kt`-th,
  each row's running sum and accumulator are the sums over the keys from that block to the row, and the carried scores
  are the next block's. The loop takes every block, and what a grid point stores are the sums over all earlier keys.
-/
module

public import proofs.«01_k».proof.Proof.Value.Pays
public import proofs.«01_k».proof.Proof.Value.Sums
public import proofs.«01_k».proof.Proof.PI.Loop

@[expose] public section

set_option maxRecDepth 16384

noncomputable section

namespace Cert.KernelIdeal.Stick

open Cert.KernelIdeal Cert.KernelIdeal.Gen Cert.Stick
open Idealize.ShloMosaic Idealize.ShloMosaic.TcCoe

/-! ## One head's state -/

section Head

variable (Z : Fin 256 → ℕ → ℝ) (V : ℕ → Fin 128 → ℝ) (d : ℕ)

/-- The scores of the `k`-th block. -/
def zOf (k : ℕ) : FVec Ideal S256x256 .f32 := blkR fun r c => Z r (256 * k + c.val)

/-- The running sums, and the accumulator, over the keys from the `k`-th block. -/
def runOf (k : ℕ) : FVec Ideal S256x1 .f32 := fun j =>
  ((runR (fun t => lkR (Z (j 0) t)) (256 * k) (256 * d + (j 0).val) : ℝ) : EReal)
def accOf (k : ℕ) : FVec Ideal S256x128 .f32 := fun j =>
  ((accR (fun t => lbR (Z (j 0) t)) (fun t => lkR (Z (j 0) t)) (fun t => V t (j 1)) (256 * k) (256 * d + (j 0).val) : ℝ) : EReal)

/-- A block of values. -/
def IsV (v : Vec Ideal S256x128 .bf16) (k : ℕ) : Prop := ∀ x e, v (ix2 x e) = ((V (256 * k + x.val) e : ℝ) : EReal)

theorem run_step (k : ℕ) (h : k + 1 ≤ d) : k0_pay9 (F := Ideal) (runOf Z d (k + 1)) (k0_pay64 (F := Ideal) (zOf Z k)) = runOf Z d k := by
  funext j
  obtain ⟨r, o, rfl⟩ : ∃ r o, j = ix2 r o := ⟨_, _, eq_ix2 j⟩
  show runOf Z d (k + 1) (ix2 r o) + k0_pay64 (F := Ideal) (zOf Z k) (ix2 r o) = runOf Z d k (ix2 r o)
  rw [zOf, pay64_apply]
  show ((runR (fun t => lkR (Z r t)) (256 * (k + 1)) (256 * d + r.val) : ℝ) : EReal) + _ = ((runR (fun t => lkR (Z r t)) (256 * k) (256 * d + r.val) : ℝ) : EReal)
  rw [← EReal.coe_add, runR_step _ (256 * k) (256 * d + r.val) (by omega)]
  rfl

theorem acc_step (k : ℕ) (h : k + 1 ≤ d) (v : Vec Ideal S256x128 .bf16) (hv : IsV V v k) :
    k0_pay10 (F := Ideal) (runOf Z d (k + 1)) (accOf Z V d (k + 1)) (k0_pay63 (F := Ideal) (k0_pay16 (F := Ideal)) (zOf Z k)) v = accOf Z V d k := by
  funext j
  obtain ⟨r, e, rfl⟩ : ∃ r e, j = ix2 r e := ⟨_, _, eq_ix2 j⟩
  refine (pay10_apply _ _ _ _ r e _
    (fun x => Real.exp ((lbR (Z r (256 * k + x.val)) + ∑ y : Fin 256, if x < y then lkR (Z r (256 * k + y.val)) else 0)
      + runR (fun t => lkR (Z r t)) (256 * k + 256) (256 * d + r.val)))
    _ rfl (fun x => ?_) (fun x => hv x e)).trans ?_
  · rw [zOf, pay63_apply]
    show Ideal.exp (_ + ((runR (fun t => lkR (Z r t)) (256 * k + 256) (256 * d + r.val) : ℝ) : EReal)) = _
    rw [← EReal.coe_add]
    rfl
  · exact congrArg _ (accR_step (fun t => lbR (Z r t)) (fun t => lkR (Z r t)) (fun t => V t e) (256 * k) (256 * d + r.val) (by omega)).symm

end Head

/-! ## The rows' own block, and the block before it -/

section Start

variable (i : grid0.Coords) (Z : Fin 256 → ℕ → ℝ) (V : ℕ → Fin 128 → ℝ)

theorem has_eq (i : grid0.Coords) : has i = if (i 2).val = 0 then 0#1 else 1#1 := by
  have h : ∀ d : Fin 32, has (pt d) = if d.val = 0 then 0#1 else 1#1 := by decide +kernel
  exact h ⟨(i 2).val, (i 2).isLt⟩

theorem zero_col (r : Fin 256) (o : Fin 1) : k0_pay19 (F := Ideal) (ix2 r o) = ((0 : ℝ) : EReal) := Ideal.ofBits_zero_f32
theorem zero_acc (r : Fin 256) (e : Fin 128) : k0_pay20 (F := Ideal) (ix2 r e) = ((0 : ℝ) : EReal) := Ideal.ofBits_zero_f32

theorem diag_run (r : Fin 256) (o : Fin 1) :
    k0_pay35 (F := Ideal) (mask i) (zOf Z (i 2).val) (ix2 r o) = runOf Z (i 2).val (i 2).val (ix2 r o) := by
  rw [zOf, pay35_apply]
  exact congrArg _ (runR_diag (fun t => lkR (Z r t)) (256 * (i 2).val) r).symm

theorem diag_acc (v : Vec Ideal S256x128 .bf16) (hv : IsV V v (i 2).val) :
    k0_pay10 (F := Ideal) (k0_pay19 (F := Ideal)) (k0_pay20 (F := Ideal)) (k0_pay34 (F := Ideal) (k0_pay16 (F := Ideal)) (mask i) (zOf Z (i 2).val)) v
      = accOf Z V (i 2).val (i 2).val := by
  funext j
  obtain ⟨r, e, rfl⟩ : ∃ r e, j = ix2 r e := ⟨_, _, eq_ix2 j⟩
  refine (pay10_apply _ _ _ _ r e _
    (fun x => if x < r then Real.exp (lbR (Z r (256 * (i 2).val + x.val))
      + ∑ y : Fin 256, if x < y then (if y < r then lkR (Z r (256 * (i 2).val + y.val)) else 0) else 0) else 0)
    _ (zero_acc r e) (fun x => ?_) (fun x => hv x e)).trans ?_
  · rw [zero_col, zOf, pay34_apply, EReal.coe_zero, add_zero]
    by_cases h : x < r
    · simp only [if_pos h]; rfl
    · simp only [if_neg h]; rfl
  · rw [zero_add]
    exact congrArg _ (accR_diag (fun t => lbR (Z r t)) (fun t => lkR (Z r t)) (fun t => V t e) (256 * (i 2).val) r).symm

/-- After the block before, where there is one. -/
theorem after_eq (s : FVec Ideal S256x1 .f32) (hs : ∀ r o, s (ix2 r o) = runOf Z (i 2).val (i 2).val (ix2 r o)) :
    after i s (k0_pay64 (F := Ideal) (zOf Z ((i 2).val - 1))) = runOf Z (i 2).val ((i 2).val - 1) := by
  funext j
  obtain ⟨r, o, rfl⟩ : ∃ r o, j = ix2 r o := ⟨_, _, eq_ix2 j⟩
  have e : after i s (k0_pay64 (F := Ideal) (zOf Z ((i 2).val - 1))) (ix2 r o)
      = (k0_pay19 (F := Ideal) (ix2 r o) + s (ix2 r o)) + k0_pay64 (F := Ideal) (zOf Z ((i 2).val - 1)) (ix2 r o) * k0_pay55 (F := Ideal) (has i) := rfl
  rw [e, zero_col, EReal.coe_zero, zero_add, hs, has_eq]
  by_cases h : (i 2).val = 0
  · have g : k0_pay55 (F := Ideal) (0#1) = (0 : EReal) := Ideal.ofBits_zero_f32
    rw [if_pos h, g, mul_zero, add_zero, h]
  · have g : k0_pay55 (F := Ideal) (1#1) = (1 : EReal) := Ideal.ofBits_one_f32
    rw [if_neg h, g, mul_one]
    have q := congrFun (run_step Z (i 2).val ((i 2).val - 1) (by omega)) (ix2 r o)
    rw [show (i 2).val - 1 + 1 = (i 2).val by omega] at q
    exact q

theorem before_eq (s : FVec Ideal S256x1 .f32) (hs : ∀ r o, s (ix2 r o) = runOf Z (i 2).val (i 2).val (ix2 r o))
    (v : Vec Ideal S256x128 .bf16) (hv : IsV V v ((i 2).val - 1)) :
    k0_pay10 (F := Ideal) (before i s) (accOf Z V (i 2).val (i 2).val)
      (k0_pay63 (F := Ideal) (k0_pay16 (F := Ideal)) (zOf Z ((i 2).val - 1))) v = accOf Z V (i 2).val ((i 2).val - 1) := by
  have em : Named.named (F := Ideal) κ "mask" (φ := .f32) 0xF149F2CA#32 = (⊥ : EReal) :=
    IdealRules.named_const.ideal_named_scalar _ _ _ _ rfl
  have e : ∀ r o, before i s (ix2 r o) = (k0_pay19 (F := Ideal) (ix2 r o) + s (ix2 r o)) + k0_pay54 (F := Ideal) (has i) := fun r o => rfl
  by_cases h : (i 2).val = 0
  · have g : k0_pay54 (F := Ideal) (0#1) = (⊥ : EReal) := em
    funext j
    obtain ⟨r, c, rfl⟩ : ∃ r c, j = ix2 r c := ⟨_, _, eq_ix2 j⟩
    refine (pay10_apply _ _ _ _ r c _ (fun _ => 0) _ rfl (fun x => ?_) (fun x => hv x c)).trans ?_
    · rw [e, has_eq, if_pos h, g, EReal.add_bot, EReal.add_bot, EReal.coe_zero]; rfl
    · simp only [zero_mul, Finset.sum_const_zero, add_zero]
      rw [h]; rfl
  · have g : k0_pay54 (F := Ideal) (1#1) = (0 : EReal) := Ideal.ofBits_zero_f32
    have eb : before i s = runOf Z (i 2).val ((i 2).val - 1 + 1) := by
      funext j
      obtain ⟨r, o, rfl⟩ : ∃ r o, j = ix2 r o := ⟨_, _, eq_ix2 j⟩
      rw [e, has_eq, if_neg h, g, add_zero, zero_col, EReal.coe_zero, zero_add, hs, show (i 2).val - 1 + 1 = (i 2).val by omega]
    rw [eb]
    have q := acc_step Z V (i 2).val ((i 2).val - 1) (by omega) v hv
    rw [show accOf Z V (i 2).val ((i 2).val - 1 + 1) = accOf Z V (i 2).val (i 2).val by rw [show (i 2).val - 1 + 1 = (i 2).val by omega]] at q
    exact q

end Start

/-! ## The loop goes on -/

/-- The largest of two heads' running sums. -/
def top {F : FTy → Type} [FloatOps F] [Named F] (a b : FVec F S256x1 .f32) : F .f32 :=
  extractAt ![0, 0, 0] (shapeCast S1x1x1 (multiReduction .maximumf [1, 2] S1 (shapeCast S1x256x1 (maximumf a b) shapeCasts_S256x1_S1x256x1)
    0xFF800000#32 reduces_S1x256x1_S1 (.inl rfl) rfl) shapeCasts_S1_S1x1x1) inpos_S1x1x1_p0_0_0

theorem top_finite (Z : Fin 256 → ℕ → ℝ) (d k : ℕ) (b : FVec Ideal S256x1 .f32) : (⊥ : EReal) < top (F := Ideal) (runOf Z d k) b := by
  have e : top (F := Ideal) (runOf Z d k) b
      = Finset.fold max (Ideal.ofBits .f32 0xFF800000#32) (fun x : Fin 256 × Fin 1 => max (runOf Z d k (ix2 x.1 0)) (b (ix2 x.1 0))) Finset.univ := by
    pointwise [top]
  rw [e, Finset.lt_fold_max]
  exact Or.inr ⟨(0, 0), Finset.mem_univ _, lt_of_lt_of_le (EReal.bot_lt_coe _) (le_max_left _ _)⟩

theorem more_true (i : grid0.Coords) (n : ℕ) (hn : n + 1 < (i 2).val) (t : Ideal .f32) (ht : (⊥ : EReal) < t) :
    more (F := Ideal) i (BitVec.ofNat 32 n) t = 1#1 := by
  have hd : (i 2).val < 32 := (i 2).isLt
  have em : dead (F := Ideal) = (⊥ : EReal) := IdealRules.named_const.ideal_named_scalar _ _ _ _ rfl
  unfold more
  rw [dI_eq ⟨(i 2).val, hd⟩, (slt_iff ⟨(i 2).val, hd⟩ ⟨n, by omega⟩).mpr hn, em]
  have c : Scalar.cmpf (F := Ideal) (φ := .f32) .ogt t ⊥ = 1#1 := (Ideal.cmp_ogt_eq_one _ _).mpr ht
  rw [c]; rfl

/-! ## One grid point -/

section Point

variable (i : grid0.Coords) (x0 : Vec Ideal S256x256 .bf16) (x1 x2 : Vec Ideal S8192x256 .bf16)
variable (Z0 Z1 : Fin 256 → ℕ → ℝ) (V0 V1 : ℕ → Fin 128 → ℝ)

theorem off1_eq (i : grid0.Coords) : k0_off1 i = ![256 * (i 2).val, 0] := by
  have h : ∀ d : Fin 32, k0_off1 (pt d) = ![256 * d.val, 0] := by decide +kernel
  exact h ⟨(i 2).val, (i 2).isLt⟩
theorem off2_eq (i : grid0.Coords) : k0_off2 i = ![256 * (i 2).val, 128] := by
  have h : ∀ d : Fin 32, k0_off2 (pt d) = ![256 * d.val, 128] := by decide +kernel
  exact h ⟨(i 2).val, (i 2).isLt⟩
theorem off3_eq (i : grid0.Coords) : k0_off3 i 1#32 = ![256 * ((i 2).val - 1), 0] ∧ k0_off3 i 2#32 = ![256 * ((i 2).val - 2), 0] := by
  have h : ∀ d : Fin 32, k0_off3 (pt d) 1#32 = ![256 * (d.val - 1), 0] ∧ k0_off3 (pt d) 2#32 = ![256 * (d.val - 2), 0] := by decide +kernel
  exact h ⟨(i 2).val, (i 2).isLt⟩
theorem off4_eq (i : grid0.Coords) : k0_off4 i 1#32 = ![256 * ((i 2).val - 1), 128] ∧ k0_off4 i 2#32 = ![256 * ((i 2).val - 2), 128] := by
  have h : ∀ d : Fin 32, k0_off4 (pt d) 1#32 = ![256 * (d.val - 1), 128] ∧ k0_off4 (pt d) 2#32 = ![256 * (d.val - 2), 128] := by decide +kernel
  exact h ⟨(i 2).val, (i 2).isLt⟩

/-- The two heads' scores and values are what the staged arrays hold, block by block. -/
structure Heads : Prop where
  z0 : ∀ k, k < 32 → k0_pay59 (F := Ideal) (qa x0) (blk x1 ![256 * k, 0]) = zOf Z0 k
  z1 : ∀ k, k < 32 → k0_pay59 (F := Ideal) (qb x0) (blk x1 ![256 * k, 128]) = zOf Z1 k
  v0 : ∀ k, k < 32 → IsV V0 (blk x2 ![256 * k, 0]) k
  v1 : ∀ k, k < 32 → IsV V1 (blk x2 ![256 * k, 128]) k

/-- The state with the blocks down to the `k`-th taken. -/
def At (k : ℕ) (s : St Ideal) : Prop :=
  s.1 = BitVec.ofNat 32 ((i 2).val - 1 - k) ∧ (⊥ : EReal) < s.2.1 ∧ s.2.2.1 = zOf Z0 (k - 1) ∧ s.2.2.2.1 = zOf Z1 (k - 1)
    ∧ s.2.2.2.2.1 = runOf Z0 (i 2).val k ∧ s.2.2.2.2.2.1 = accOf Z0 V0 (i 2).val k
    ∧ s.2.2.2.2.2.2.1 = runOf Z1 (i 2).val k ∧ s.2.2.2.2.2.2.2 = accOf Z1 V1 (i 2).val k

variable {x0 x1 x2 Z0 Z1 V0 V1}

theorem start_at (H : Heads x0 x1 x2 Z0 Z1 V0 V1) : At i Z0 Z1 V0 V1 ((i 2).val - 1) (start (F := Ideal) i x0 x1 x2) := by
  have hd : (i 2).val < 32 := (i 2).isLt
  have s0 : ∀ r o, sm0 (F := Ideal) i x0 x1 (ix2 r o) = runOf Z0 (i 2).val (i 2).val (ix2 r o) := fun r o => by
    rw [sm0_eq, off1_eq, H.z0 _ hd, diag_run]
  have s1 : ∀ r o, sm1 (F := Ideal) i x0 x1 (ix2 r o) = runOf Z1 (i 2).val (i 2).val (ix2 r o) := fun r o => by
    rw [sm1_eq, off2_eq, H.z1 _ hd, diag_run]
  have p0 : ps0 (F := Ideal) i x0 x1 = k0_pay64 (F := Ideal) (zOf Z0 ((i 2).val - 1)) := by
    rw [ps0_eq, (off3_eq i).1, H.z0 _ (by omega)]
  have p1 : ps1 (F := Ideal) i x0 x1 = k0_pay64 (F := Ideal) (zOf Z1 ((i 2).val - 1)) := by
    rw [ps1_eq, (off4_eq i).1, H.z1 _ (by omega)]
  have r0 := after_eq i Z0 _ s0
  have r1 := after_eq i Z1 _ s1
  rw [start_eq]
  refine ⟨?_, ?_, ?_, ?_, ?_, ?_, ?_, ?_⟩
  · rw [Nat.sub_self]
  · have e : k0_pay4 (F := Ideal) (ps1 i x0 x1) (ru1 i x0 x1) (k0_pay55 (F := Ideal) (has i)) (ru0 i x0 x1)
        = top (after i (sm0 i x0 x1) (ps0 i x0 x1)) (after i (sm1 i x0 x1) (ps1 i x0 x1)) := rfl
    rw [e, p0, r0]
    exact top_finite _ _ _ _
  · show k0_pay59 (F := Ideal) (qa x0) (blk x1 (k0_off3 i 2#32)) = _
    rw [(off3_eq i).2, H.z0 _ (by omega), Nat.sub_sub]
  · show k0_pay59 (F := Ideal) (qb x0) (blk x1 (k0_off4 i 2#32)) = _
    rw [(off4_eq i).2, H.z1 _ (by omega), Nat.sub_sub]
  · show after i (sm0 i x0 x1) (ps0 i x0 x1) = _
    rw [p0, r0]
  · show k0_pay10 (F := Ideal) (before i (sm0 i x0 x1)) (ac0 i x0 x1 x2) (pl0 i x0 x1) (blk x2 (k0_off3 i 1#32)) = _
    rw [ac0_eq, lg0_eq, pl0_eq, off1_eq, (off3_eq i).1, H.z0 _ hd, H.z0 _ (by omega), diag_acc i Z0 V0 _ (H.v0 _ hd)]
    exact before_eq i Z0 V0 _ s0 _ (H.v0 _ (by omega))
  · show after i (sm1 i x0 x1) (ps1 i x0 x1) = _
    rw [p1, r1]
  · show k0_pay10 (F := Ideal) (before i (sm1 i x0 x1)) (ac1 i x0 x1 x2) (pl1 i x0 x1) (blk x2 (k0_off4 i 1#32)) = _
    rw [ac1_eq, lg1_eq, pl1_eq, off2_eq, (off4_eq i).1, H.z1 _ hd, H.z1 _ (by omega), diag_acc i Z1 V1 _ (H.v1 _ hd)]
    exact before_eq i Z1 V1 _ s1 _ (H.v1 _ (by omega))

theorem trip_at (H : Heads x0 x1 x2 Z0 Z1 V0 V1) (k : ℕ) (hk : k + 1 ≤ (i 2).val - 1) (s : St Ideal) (h : At i Z0 Z1 V0 V1 (k + 1) s) :
    At i Z0 Z1 V0 V1 k (trip (F := Ideal) i x1 x2 (qa x0) (qb x0) (k0_pay16 (F := Ideal)) s) := by
  have hd : (i 2).val < 32 := (i 2).isLt
  obtain ⟨n, t, z0, z1, R0, a0, R1, a1⟩ := s
  obtain ⟨rfl, ht, rfl, rfl, rfl, rfl, rfl, rfl⟩ := h
  have hn : (i 2).val - 1 - (k + 1) + 1 < (i 2).val := by omega
  have o5 : k0_off5 i (BitVec.ofNat 32 ((i 2).val - 1 - (k + 1))) = ![256 * (k - 1), 0] := by
    refine (off5_pt ⟨(i 2).val, hd⟩ ⟨(i 2).val - 1 - (k + 1), by omega⟩ hn).trans ?_
    rw [show (i 2).val - 3 - ((i 2).val - 1 - (k + 1)) = k - 1 by omega]
  have o6 : k0_off6 i (BitVec.ofNat 32 ((i 2).val - 1 - (k + 1))) = ![256 * (k - 1), 128] := by
    refine (off6_pt ⟨(i 2).val, hd⟩ ⟨(i 2).val - 1 - (k + 1), by omega⟩ hn).trans ?_
    rw [show (i 2).val - 3 - ((i 2).val - 1 - (k + 1)) = k - 1 by omega]
  have o7 : k0_off7 i (BitVec.ofNat 32 ((i 2).val - 1 - (k + 1))) = ![256 * k, 0] := by
    refine (off7_pt ⟨(i 2).val, hd⟩ ⟨(i 2).val - 1 - (k + 1), by omega⟩ hn).trans ?_
    rw [show (i 2).val - 2 - ((i 2).val - 1 - (k + 1)) = k by omega]
  have o8 : k0_off8 i (BitVec.ofNat 32 ((i 2).val - 1 - (k + 1))) = ![256 * k, 128] := by
    refine (off8_pt ⟨(i 2).val, hd⟩ ⟨(i 2).val - 1 - (k + 1), by omega⟩ hn).trans ?_
    rw [show (i 2).val - 2 - ((i 2).val - 1 - (k + 1)) = k by omega]
  have r0 := run_step Z0 (i 2).val k (by omega)
  have r1 := run_step Z1 (i 2).val k (by omega)
  refine ⟨?_, ?_, ?_, ?_, ?_, ?_, ?_, ?_⟩
  · show BitVec.ofNat 32 ((i 2).val - 1 - (k + 1)) + BitVec.ofNat 32 1 = _
    rw [← BitVec.ofNat_add]
    congr 1
    omega
  · have e : ∀ (z : FVec Ideal S256x256 .f32) (A B p : FVec Ideal S256x1 .f32),
        k0_pay13 (F := Ideal) z A B p (k0_pay65 (F := Ideal) z) (Scalar.ofBits .f32 0x00000000#32)
          = top (k0_pay9 (F := Ideal) A p) (k0_pay9 (F := Ideal) B (k0_pay64 (F := Ideal) z)) := fun _ _ _ _ => rfl
    show (⊥ : EReal) < k0_pay13 (F := Ideal) (zOf Z1 k) (runOf Z0 (i 2).val (k + 1)) (runOf Z1 (i 2).val (k + 1)) (k0_pay64 (F := Ideal) (zOf Z0 k))
      (k0_pay65 (F := Ideal) (zOf Z1 k)) (Scalar.ofBits .f32 0x00000000#32)
    rw [e, r0]
    exact top_finite _ _ _ _
  · show k0_pay59 (F := Ideal) (qa x0) (blk x1 (k0_off5 i _)) = _
    rw [o5, H.z0 _ (by omega)]
  · show k0_pay59 (F := Ideal) (qb x0) (blk x1 (k0_off6 i _)) = _
    rw [o6, H.z1 _ (by omega)]
  · exact r0
  · show k0_pay10 (F := Ideal) (runOf Z0 (i 2).val (k + 1)) (accOf Z0 V0 (i 2).val (k + 1))
      (k0_pay63 (F := Ideal) (k0_pay16 (F := Ideal)) (zOf Z0 k)) (blk x2 (k0_off7 i _)) = _
    rw [o7]
    exact acc_step Z0 V0 (i 2).val k (by omega) _ (H.v0 _ (by omega))
  · exact r1
  · show k0_pay10 (F := Ideal) (runOf Z1 (i 2).val (k + 1)) (accOf Z1 V1 (i 2).val (k + 1))
      (k0_pay63 (F := Ideal) (k0_pay16 (F := Ideal)) (zOf Z1 k)) (blk x2 (k0_off8 i _)) = _
    rw [o8]
    exact acc_step Z1 V1 (i 2).val k (by omega) _ (H.v1 _ (by omega))

theorem trips_at (H : Heads x0 x1 x2 Z0 Z1 V0 V1) : ∀ (k : ℕ) (hk : k ≤ (i 2).val - 1) (s : St Ideal) (h : At i Z0 Z1 V0 V1 k s),
    At i Z0 Z1 V0 V1 0 (trips (F := Ideal) i x1 x2 (qa x0) (qb x0) (k0_pay16 (F := Ideal)) k s)
  | 0, _, s, h => h
  | k + 1, hk, s, h => by
    have m : more (F := Ideal) i s.1 s.2.1 = 1#1 := by
      rw [h.1]
      exact more_true i _ (by omega) _ h.2.1
    rw [trips, if_pos m]
    exact trips_at H k (by omega) _ (trip_at i H k hk s h)

theorem fin_at (H : Heads x0 x1 x2 Z0 Z1 V0 V1) : At i Z0 Z1 V0 V1 0 (fin (F := Ideal) i x0 x1 x2) :=
  trips_at i H _ le_rfl _ (start_at i H)

theorem outA_eq (H : Heads x0 x1 x2 Z0 Z1 V0 V1) : outA (F := Ideal) i x0 x1 x2 = accOf Z0 V0 (i 2).val 0 :=
  (fin_at i H).2.2.2.2.2.1
theorem outB_eq (H : Heads x0 x1 x2 Z0 Z1 V0 V1) : outB (F := Ideal) i x0 x1 x2 = accOf Z1 V1 (i 2).val 0 :=
  (fin_at i H).2.2.2.2.2.2.2

end Point

end Cert.KernelIdeal.Stick

end
-- ==== Proof.Value.Result.lean ====
/-
  The kernel's result array over the extended reals. At finite queries, keys and values each grid point leaves its block
  of one array: a row's sum, over the earlier rows of its batch, of their values under the stick-breaking weights. The
  points' blocks cover the array, so a run ends with it.
-/
module

public import proofs.«01_k».proof.Proof.Value.Rows
public import proofs.«01_k».proof.Proof.PI.Frame

@[expose] public section

set_option maxRecDepth 16384

noncomputable section

namespace Cert.KernelIdeal.Stick

open Cert.KernelIdeal Cert.KernelIdeal.Gen Cert.Stick
open Idealize.ShloMosaic Idealize.ShloMosaic.TcCoe Idealize.SL.Sem
open Idealize.ShloMosaic.Pipeline (Dat Cfg Window)

/-! ## The array -/

section Array

variable (X : ℕ → ℕ → ℝ)

/-- Head `h`'s score of query row `s` on key row `t` of batch `b`. -/
def scR (b h s t : ℕ) : ℝ := ∑ e : Fin 128, X (8192 * b + s) (256 + 128 * h + e.val) * sc * X (8192 * b + t) (1280 + 128 * h + e.val)

/-- The mixture of the earlier rows' values. -/
def mixR (b h s e : ℕ) : ℝ :=
  accR (fun t => lbR (scR X b h s t)) (fun t => lkR (scR X b h s t)) (fun t => X (8192 * b + t) (2304 + 128 * h + e)) 0 s

/-- The result: row `8192 b + s`, column `128 h + e`. -/
def G : Vec Ideal S32768x1024 .bf16 := fun j =>
  ((mixR X ((j 0).val / 8192) ((j 1).val / 128) ((j 0).val % 8192) ((j 1).val % 128) : ℝ) : EReal)

end Array

/-! ## The blocks' places -/

theorem coords_eq : ∀ t : Fin (cfg0 (F := Ideal)).N,
    (grid0.coords t 0).val = t.val / 128 ∧ (grid0.coords t 1).val = t.val / 32 % 4 ∧ (grid0.coords t 2).val = t.val % 32 :=
  (by decide +kernel : ∀ t : Fin grid0.N, _)
theorem index0 : ∀ t : Fin (cfg0 (F := Ideal)).N, win0_0.index t (0 : Fin 2) = t.val / 128 * 32 + t.val % 32 ∧ win0_0.index t (1 : Fin 2) = 1 + t.val / 32 % 4 :=
  (by decide +kernel : ∀ t : Fin grid0.N, _)
theorem index1 : ∀ t : Fin (cfg0 (F := Ideal)).N, win0_1.index t (0 : Fin 2) = t.val / 128 ∧ win0_1.index t (1 : Fin 2) = 5 + t.val / 32 % 4 :=
  (by decide +kernel : ∀ t : Fin grid0.N, _)
theorem index2 : ∀ t : Fin (cfg0 (F := Ideal)).N, win0_2.index t (0 : Fin 2) = t.val / 128 ∧ win0_2.index t (1 : Fin 2) = 9 + t.val / 32 % 4 :=
  (by decide +kernel : ∀ t : Fin grid0.N, _)
theorem index3 : ∀ t : Fin (cfg0 (F := Ideal)).N, win0_3.index t (0 : Fin 2) = t.val / 128 * 32 + t.val % 32 ∧ win0_3.index t (1 : Fin 2) = t.val / 32 % 4 :=
  (by decide +kernel : ∀ t : Fin grid0.N, _)

theorem lt_N (t : Fin (cfg0 (F := Ideal)).N) : t.val < 512 := t.isLt

theorem emb0 (t : Fin (cfg0 (F := Ideal)).N) (j : S256x256.Idx) :
    ((((cfg0 (F := Ideal)).win 0).blk t).view.emb j 0).val = 8192 * (t.val / 128) + (256 * (t.val % 32) + (j 0).val)
      ∧ ((((cfg0 (F := Ideal)).win 0).blk t).view.emb j 1).val = 256 + 256 * (t.val / 32 % 4) + (j 1).val := by
  obtain ⟨e0, e1⟩ := index0 t
  constructor
  · show win0_0.index t (0 : Fin 2) * 256 + 1 * (j 0).val = _; omega
  · show win0_0.index t (1 : Fin 2) * 256 + 1 * (j 1).val = _; omega
theorem emb1 (t : Fin (cfg0 (F := Ideal)).N) (j : S8192x256.Idx) :
    ((((cfg0 (F := Ideal)).win 1).blk t).view.emb j 0).val = 8192 * (t.val / 128) + (j 0).val
      ∧ ((((cfg0 (F := Ideal)).win 1).blk t).view.emb j 1).val = 1280 + 256 * (t.val / 32 % 4) + (j 1).val := by
  obtain ⟨e0, e1⟩ := index1 t
  constructor
  · show win0_1.index t (0 : Fin 2) * 8192 + 1 * (j 0).val = _; omega
  · show win0_1.index t (1 : Fin 2) * 256 + 1 * (j 1).val = _; omega
theorem emb2 (t : Fin (cfg0 (F := Ideal)).N) (j : S8192x256.Idx) :
    ((((cfg0 (F := Ideal)).win 2).blk t).view.emb j 0).val = 8192 * (t.val / 128) + (j 0).val
      ∧ ((((cfg0 (F := Ideal)).win 2).blk t).view.emb j 1).val = 2304 + 256 * (t.val / 32 % 4) + (j 1).val := by
  obtain ⟨e0, e1⟩ := index2 t
  constructor
  · show win0_2.index t (0 : Fin 2) * 8192 + 1 * (j 0).val = _; omega
  · show win0_2.index t (1 : Fin 2) * 256 + 1 * (j 1).val = _; omega
theorem emb3 (t : Fin (cfg0 (F := Ideal)).N) (j : S256x256.Idx) :
    ((((cfg0 (F := Ideal)).win 3).blk t).view.emb j 0).val = 8192 * (t.val / 128) + (256 * (t.val % 32) + (j 0).val)
      ∧ ((((cfg0 (F := Ideal)).win 3).blk t).view.emb j 1).val = 256 * (t.val / 32 % 4) + (j 1).val := by
  obtain ⟨e0, e1⟩ := index3 t
  constructor
  · show win0_3.index t (0 : Fin 2) * 256 + 1 * (j 0).val = _; omega
  · show win0_3.index t (1 : Fin 2) * 256 + 1 * (j 1).val = _; omega

/-! ## The run -/

section Run

variable (m : (ℓ : Loc nD τ sig) → Buf (Elt Ideal) ℓ) (ρ : Dev nD → PrngReg) (c : Dev nD) (X : ℕ → ℕ → ℝ)

/-- The argument is the real array `X`. -/
def IsX : Prop := ∀ j : S32768x3328.Idx, m ((c : Thread nD τ).loc main_arg0) j = ((X (j 0).val (j 1).val : ℝ) : EReal)

theorem V_v0 : V m c main_v0 = m ((c : Thread nD τ).loc main_arg0) := by
  show StableHlo.after hostOps0 _ (Proc.devRef .tc main_v0) = _
  simp only [hostOps0, StableHlo.after_cons, StableHlo.after_nil]
  rfl

variable {m c X} (hX : IsX m c X) (t : Fin (cfg0 (F := Ideal)).N)
include hX

theorem iblk0_at (j : S256x256.Idx) :
    iblk m c 0 t j = ((X (8192 * (t.val / 128) + (256 * (t.val % 32) + (j 0).val)) (256 + 256 * (t.val / 32 % 4) + (j 1).val) : ℝ) : EReal) := by
  show V m c main_v0 ((((cfg0 (F := Ideal)).win 0).blk t).view.emb j) = _
  rw [V_v0, hX, (emb0 t j).1, (emb0 t j).2]
theorem iblk1_at (j : S8192x256.Idx) :
    iblk m c 1 t j = ((X (8192 * (t.val / 128) + (j 0).val) (1280 + 256 * (t.val / 32 % 4) + (j 1).val) : ℝ) : EReal) := by
  show V m c main_v0 ((((cfg0 (F := Ideal)).win 1).blk t).view.emb j) = _
  rw [V_v0, hX, (emb1 t j).1, (emb1 t j).2]
theorem iblk2_at (j : S8192x256.Idx) :
    iblk m c 2 t j = ((X (8192 * (t.val / 128) + (j 0).val) (2304 + 256 * (t.val / 32 % 4) + (j 1).val) : ℝ) : EReal) := by
  show V m c main_v0 ((((cfg0 (F := Ideal)).win 2).blk t).view.emb j) = _
  rw [V_v0, hX, (emb2 t j).1, (emb2 t j).2]

/-- One head's scores of the point's query rows on the `k`-th block of keys. -/
theorem z_at (o : ℕ) (ho : o < 2) (k : ℕ) (hk : k < 32) :
    k0_pay59 (F := Ideal) (k0_pay14 (F := Ideal) (half (iblk m c 0 t) (128 * o))) (blk (iblk m c 1 t) ![256 * k, 128 * o])
      = zOf (fun r s => scR X (t.val / 128) (2 * (t.val / 32 % 4) + o) (256 * (t.val % 32) + r.val) s) k := by
  rw [pay59_eq _ _
    (fun r e => X (8192 * (t.val / 128) + (256 * (t.val % 32) + r.val)) (256 + 128 * (2 * (t.val / 32 % 4) + o) + e.val))
    (fun s e => X (8192 * (t.val / 128) + (256 * k + s.val)) (1280 + 128 * (2 * (t.val / 32 % 4) + o) + e.val))]
  · rfl
  · intro r e
    unfold half
    rw [iblk0_at hX]
    show (((X (8192 * (t.val / 128) + (256 * (t.val % 32) + r.val % 256)) (256 + 256 * (t.val / 32 % 4) + (128 * o + e.val) % 256)) : ℝ) : EReal) = _
    have := r.isLt
    have := e.isLt
    rw [Nat.mod_eq_of_lt (show r.val < 256 by omega), Nat.mod_eq_of_lt (show 128 * o + e.val < 256 by omega)]
    rw [show 256 + 256 * (t.val / 32 % 4) + (128 * o + e.val) = 256 + 128 * (2 * (t.val / 32 % 4) + o) + e.val by omega]
  · intro s e
    unfold blk
    rw [iblk1_at hX]
    show (((X (8192 * (t.val / 128) + (256 * k + s.val) % 8192) (1280 + 256 * (t.val / 32 % 4) + (128 * o + e.val) % 256)) : ℝ) : EReal) = _
    have := s.isLt
    have := e.isLt
    rw [Nat.mod_eq_of_lt (show 256 * k + s.val < 8192 by omega), Nat.mod_eq_of_lt (show 128 * o + e.val < 256 by omega)]
    rw [show 1280 + 256 * (t.val / 32 % 4) + (128 * o + e.val) = 1280 + 128 * (2 * (t.val / 32 % 4) + o) + e.val by omega]

/-- One head's values of the `k`-th block. -/
theorem v_at (o : ℕ) (ho : o < 2) (k : ℕ) (hk : k < 32) :
    IsV (fun s e => X (8192 * (t.val / 128) + s) (2304 + 128 * (2 * (t.val / 32 % 4) + o) + e.val)) (blk (iblk m c 2 t) ![256 * k, 128 * o]) k := by
  intro s e
  unfold blk
  rw [iblk2_at hX]
  show (((X (8192 * (t.val / 128) + (256 * k + s.val) % 8192) (2304 + 256 * (t.val / 32 % 4) + (128 * o + e.val) % 256)) : ℝ) : EReal) = _
  have := s.isLt
  have := e.isLt
  rw [Nat.mod_eq_of_lt (show 256 * k + s.val < 8192 by omega), Nat.mod_eq_of_lt (show 128 * o + e.val < 256 by omega)]
  rw [show 2304 + 256 * (t.val / 32 % 4) + (128 * o + e.val) = 2304 + 128 * (2 * (t.val / 32 % 4) + o) + e.val by omega]

theorem heads_at : Heads (iblk m c 0 t) (iblk m c 1 t) (iblk m c 2 t)
    (fun r s => scR X (t.val / 128) (2 * (t.val / 32 % 4) + 0) (256 * (t.val % 32) + r.val) s)
    (fun r s => scR X (t.val / 128) (2 * (t.val / 32 % 4) + 1) (256 * (t.val % 32) + r.val) s)
    (fun s e => X (8192 * (t.val / 128) + s) (2304 + 128 * (2 * (t.val / 32 % 4) + 0) + e.val))
    (fun s e => X (8192 * (t.val / 128) + s) (2304 + 128 * (2 * (t.val / 32 % 4) + 1) + e.val)) where
  z0 k hk := z_at hX t 0 (by omega) k hk
  z1 k hk := z_at hX t 1 (by omega) k hk
  v0 k hk := v_at hX t 0 (by omega) k hk
  v1 k hk := v_at hX t 1 (by omega) k hk

/-- What a point leaves is its block of the array. -/
theorem left_at (j : S256x256.Idx) : left m c t j = G X ((((cfg0 (F := Ideal)).win 3).blk t).view.emb j) := by
  obtain ⟨e0, e1⟩ := emb3 t j
  have j0 : (j 0).val < 256 := (j 0).isLt
  have j1 : (j 1).val < 256 := (j 1).isLt
  have ht := lt_N t
  unfold left outBlk G
  rw [e0, e1, outA_eq (grid0.coords t) (heads_at hX t), outB_eq (grid0.coords t) (heads_at hX t)]
  unfold accOf mixR
  rw [(coords_eq t).2.2,
    show (8192 * (t.val / 128) + (256 * (t.val % 32) + (j 0).val)) / 8192 = t.val / 128 by omega,
    show (8192 * (t.val / 128) + (256 * (t.val % 32) + (j 0).val)) % 8192 = 256 * (t.val % 32) + (j 0).val by omega,
    show (256 * (t.val / 32 % 4) + (j 1).val) % 128 = (j 1).val % 128 by omega]
  by_cases h : (j 1).val < 128
  · rw [if_pos h, show (256 * (t.val / 32 % 4) + (j 1).val) / 128 = 2 * (t.val / 32 % 4) + 0 by omega]
  · rw [if_neg h, show (256 * (t.val / 32 % 4) + (j 1).val) / 128 = 2 * (t.val / 32 % 4) + 1 by omega]

theorem flushed_eq : (dats m 0 c).flushed 3 t = (((cfg0 (F := Ideal)).win 3).blk t).view.read (Elt Ideal) (G X) := by
  funext j
  show left m c t j = G X ((((cfg0 (F := Ideal)).win 3).blk t).view.emb j)
  exact left_at hX t j

omit hX in
theorem covered (i : S32768x1024.Idx) :
    ∃ t : Fin (cfg0 (F := Ideal)).N, ((cfg0 (F := Ideal)).win 3).flush t = true ∧ i ∈ (((cfg0 (F := Ideal)).win 3).blk t).view.set := by
  have i0 : (i 0).val < 32768 := (i 0).isLt
  have i1 : (i 1).val < 1024 := (i 1).isLt
  have hN : (cfg0 (F := Ideal)).N = 512 := rfl
  let t : Fin (cfg0 (F := Ideal)).N := ⟨(i 0).val / 8192 * 128 + (i 1).val / 256 * 32 + (i 0).val % 8192 / 256, by omega⟩
  let j : S256x256.Idx := ix2 ⟨(i 0).val % 256, by omega⟩ ⟨(i 1).val % 256, by omega⟩
  refine ⟨t, flush0_3 _, ?_⟩
  have h := (((cfg0 (F := Ideal)).win 3).blk t).view.emb_mem_set j
  have e : (((cfg0 (F := Ideal)).win 3).blk t).view.emb j = i := by
    obtain ⟨e0, e1⟩ := emb3 t j
    have tv : t.val = (i 0).val / 8192 * 128 + (i 1).val / 256 * 32 + (i 0).val % 8192 / 256 := rfl
    have jv0 : (j 0).val = (i 0).val % 256 := rfl
    have jv1 : (j 1).val = (i 1).val % 256 := rfl
    funext a
    apply Fin.ext
    match a with
    | 0 => show ((((cfg0 (F := Ideal)).win 3).blk t).view.emb j 0).val = (i 0).val; omega
    | 1 => show ((((cfg0 (F := Ideal)).win 3).blk t).view.emb j 1).val = (i 1).val; omega
  rwa [e] at h

omit t in
theorem final : (dats m 0 c).arrAt 3 (cfg0 (F := Ideal)).N = G X :=
  (dats m 0 c).arrAt_eq_of_cover 3 (G X) (fun t _ => flushed_eq hX t) covered

end Run

/-- Every run from finite arguments ends with the result's array at `G`, the argument unchanged. -/
theorem run (m : (ℓ : Loc nD τ sig) → Buf (Elt Ideal) ℓ) (ρ : Dev nD → PrngReg) (X : Dev nD → ℕ → ℕ → ℝ) (hX : ∀ c, IsX m c (X c)) :
    θ_run defs (onTc (τ := τ) (main (F := Ideal))) ⟨m, fun _ => 0, ρ⟩ fun r => ∀ c : Dev nD,
      r.2.mem ((c.tc : Thread nD τ).loc main_v1) = G (X c)
      ∧ r.2.mem ((c.tc : Thread nD τ).loc main_arg0) = m ((c.tc : Thread nD τ).loc main_arg0) :=
  (θ_run defs _ _).mono (fun _ h c => ⟨((h c).1 3).trans (final (hX c)),
    ((h c).2 main_arg0 (Pipeline.mem_restRefs_of main_arg0 (by decide) arg_unstaged)).trans (V_arg m c)⟩) (run_blocks m ρ)

end Cert.KernelIdeal.Stick

end
-- ==== Proof.Value.Ref.lean ====
/-
  The reference's result over the extended reals at finite arguments: its composed term in named stages, each read at an
  index, the window sum as the sum over the later keys, and the result as the array the kernel's points leave.
-/
module

public import proofs.«01_k».proof.Proof.Value.Result
public import proofs.«01_k».proof.Proof.Gen.ReferenceIdeal.Run
public import Idealize.ShloMosaic.Lib.Pointwise
public import Idealize.ShloMosaic.Lib.WordCmp
public import Mathlib.Tactic.Linarith

@[expose] public section

set_option maxRecDepth 16384

noncomputable section

namespace Cert.ReferenceIdeal.Stick

open Cert.ReferenceIdeal Cert.ReferenceIdeal.Gen Cert.Stick
open Idealize.ShloMosaic Idealize.ShloMosaic.TcCoe Idealize.SL.Sem
open Cert.KernelIdeal.Stick (coe_sum coe_max coe_min coe_ite lbR lkR sc sc_coe scR mixR)

/-! ## The stages -/

abbrev T := FVec Ideal S4x8x8192x8192 .f32

/-- The zero the reference compares and fills with. -/
abbrev zeros : T := broadcastInDim S4x8x8192x8192 ![] bcast_S_S4x8x8192x8192 (constant (F := Ideal) S_ .f32 0x00000000#32)

/-- One of the three thirds of the argument, by batch, row, head and column. -/
def part (a : Vec Ideal S32768x3328 .f32) (o : ℕ) (h : S4x8192x3328.Slices ![0, 0, o] S4x8192x1024) : FVec Ideal S4x8192x8x128 .f32 :=
  shapeCast _ (extractStridedSlice S4x8192x1024 ![0, 0, o] (shapeCast _ a shapeCasts_S32768x3328_S4x8192x3328) h) shapeCasts_S4x8192x1024_S4x8192x8x128

/-- The scaled scores. -/
def zT (q k : FVec Ideal S4x8192x8x128 .f32) : T :=
  mulf (Host.dotGeneral dot_S4x8192x8x128_S4x8192x8x128_S4x8x8192x8192_3_3_1_1_02_02 none q k)
    (broadcastInDim S4x8x8192x8192 ![] bcast_S_S4x8x8192x8192 (constant S_ .f32 0x3DB504F3#32))

/-- The logarithm of the scores' sigmoid. -/
def lbT (z : T) : T :=
  Host.negf (select (cmpf .une (subf (Host.negf z) zeros) (subf (Host.negf z) zeros)) (addf (Host.negf z) zeros)
    (addf (maximumf (Host.negf z) zeros) (Host.log1p (Host.exp (Host.negf (Host.absf (subf (Host.negf z) zeros)))))))

/-- The keys before the query. -/
def maskT : IVec S4x8x8192x8192 1 :=
  broadcastInDim S4x8x8192x8192 ![2, 3] bcast_S8192x8192_S4x8x8192x8192_2_3
    (cmpi .slt (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))

/-- What a key before the query keeps. -/
def lkT (z : T) : T := select maskT (subf (lbT z) z) zeros

/-- The sum over the keys from one to the last. -/
def sufT (x : T) : T :=
  Host.reduceWindowAdd ![1, 1, 1, 8192] ![1, 1, 1, 1] ![0, 0, 0, 0] ![0, 0, 0, 8191] x
    (broadcastInDim S_ ![] bcast_S_S_ (constant (F := Ideal) S_ .f32 0x00000000#32))
    reduceWindows_S4x8x8192x8192_S4x8x8192x8192_w1s1p0_0_w1s1p0_0_w1s1p0_0_w8192s1p0_8191 h_S_

/-- The weights. -/
def attT (z : T) : T := select maskT (Host.exp (addf (lbT z) (subf (sufT (lkT z)) (lkT z)))) zeros

/-- The mixture, as the kernel's rows. -/
def outT (v : FVec Ideal S4x8192x8x128 .f32) (w : T) : FVec Ideal S32768x1024 .bf16 :=
  truncf .bf16 (shapeCast _ (transpose S4x8192x8x128 [0, 3, 1, 2]
    (Host.dotGeneral (F := Ideal) (φ₁ := .f32) (φ₂ := .f32) dot_S4x8192x8x128_S4x8x8192x8192_S4x8x128x8192_1_3_3_2_02_01 none v w)
    transposes_S4x8x128x8192_S4x8192x8x128_0_3_1_2) shapeCasts_S4x8192x8x128_S32768x1024) bitsLt_bf16_f32

theorem res_eq (m : (ℓ : Loc nD τ sig) → Buf (Elt Ideal) ℓ) (c : Dev nD) :
    Cert.ReferenceIdeal.Value.res_main_v27 m c
      = outT (part (m ((c : Thread nD τ).loc main_arg0)) 2304 slices_S4x8192x3328_S4x8192x1024_0_0_2304)
          (attT (zT (part (m ((c : Thread nD τ).loc main_arg0)) 256 slices_S4x8192x3328_S4x8192x1024_0_0_256)
            (part (m ((c : Thread nD τ).loc main_arg0)) 1280 slices_S4x8192x3328_S4x8192x1024_0_0_1280))) := by
  unfold Cert.ReferenceIdeal.Value.res_main_v27
  rfl

/-! ## At an index -/

theorem foldl_add {ι : Type*} (g : ι → EReal) : ∀ (l : List ι) (v : EReal), l.foldl (fun r n => r + g n) v = v + (l.map g).sum
  | [], v => by simp
  | a :: l, v => by rw [List.foldl_cons, foldl_add g l, List.map_cons, List.sum_cons, add_assoc]

/-- A float window sum from zero is a sum over the window. -/
theorem window_sum {s t : Shape} (window strides lo hi : Fin s.rank → ℕ) (h : s.ReduceWindows window strides lo hi t)
    (x : s.Idx → EReal) (j : t.Idx) :
    Ideal.hostReduceWindowAdd window strides lo hi h x 0 j
      = ∑ i : (⟨s.rank, window⟩ : Shape).Idx,
          if hin : ∀ a, lo a ≤ (j (a.cast h.1.symm)).val * strides a + (i a).val ∧ (j (a.cast h.1.symm)).val * strides a + (i a).val - lo a < s.size a
          then x (fun a => ⟨(j (a.cast h.1.symm)).val * strides a + (i a).val - lo a, (hin a).2⟩) else 0 := by
  unfold Ideal.hostReduceWindowAdd Host.reduceWindow
  dsimp only
  rw [foldl_add, zero_add, ← Fin.sum_univ_def]
  rw [← Equiv.sum_comp (Shape.rowMajor ⟨s.rank, window⟩).symm]
  refine Finset.sum_congr rfl fun n _ => ?_
  congr

theorem suf_apply (x : T) (b : Fin 4) (h : Fin 8) (s t : Fin 8192) :
    sufT x (ix4 b h s t) = ∑ n : Fin 8192, if hn : t.val + n.val < 8192 then x (ix4 b h s ⟨t.val + n.val, hn⟩) else 0 := by
  have e0 : Ideal.ofBits .f32 0x00000000#32 = 0 := Ideal.ofBits_zero_f32
  have e : sufT x = Ideal.hostReduceWindowAdd ![1, 1, 1, 8192] ![1, 1, 1, 1] ![0, 0, 0, 0] ![0, 0, 0, 8191]
      reduceWindows_S4x8x8192x8192_S4x8x8192x8192_w1s1p0_0_w1s1p0_0_w1s1p0_0_w8192s1p0_8191 x (Ideal.ofBits .f32 0x00000000#32) := by
    unfold sufT Host.reduceWindowAdd
    rw [Ideal.hostReduceWindowAdd_def]
    congr 1
  rw [e, e0, window_sum]
  refine (sum_idx4 (n0 := 1) (n1 := 1) (n2 := 1) (n3 := 8192) _).trans ?_
  simp only [Finset.univ_unique, Finset.sum_singleton]
  refine Finset.sum_congr rfl fun n _ => ?_
  have hb := b.isLt
  have hh := h.isLt
  have hs := s.isLt
  by_cases hn : t.val + n.val < 8192
  · rw [dif_pos hn, dif_pos]
    · congr 1
      funext a
      apply Fin.ext
      match a with
      | 0 => show b.val * 1 + 0 - 0 = b.val; omega
      | 1 => show h.val * 1 + 0 - 0 = h.val; omega
      | 2 => show s.val * 1 + 0 - 0 = s.val; omega
      | 3 => show t.val * 1 + n.val - 0 = t.val + n.val; omega
    · intro a
      match a with
      | 0 => exact ⟨Nat.zero_le _, show b.val * 1 + 0 - 0 < 4 by omega⟩
      | 1 => exact ⟨Nat.zero_le _, show h.val * 1 + 0 - 0 < 8 by omega⟩
      | 2 => exact ⟨Nat.zero_le _, show s.val * 1 + 0 - 0 < 8192 by omega⟩
      | 3 => exact ⟨Nat.zero_le _, show t.val * 1 + n.val - 0 < 8192 by omega⟩
  · rw [dif_neg hn, dif_neg]
    intro k
    have := (k 3).2
    have e : t.val * 1 + n.val - 0 < 8192 := this
    omega

theorem part_apply (a : Vec Ideal S32768x3328 .f32) (o : ℕ) (h) (ho : o + 1024 ≤ 3328) (b : Fin 4) (s : Fin 8192) (g : Fin 8) (e : Fin 128) :
    part a o h (ix4 b s g e) = a (ix2 ⟨8192 * b.val + s.val, by omega⟩ ⟨o + 128 * g.val + e.val, by omega⟩) := by
  have := b.isLt
  have := s.isLt
  have := g.isLt
  have := e.isLt
  pointwise [part]
  congr 1
  exact (ix2_inj _ _ _ _).mpr ⟨Fin.ext (show b.val * 8192 + s.val = 8192 * b.val + s.val by omega),
    Fin.ext (show o + (g.val * 128 + e.val) = o + 128 * g.val + e.val by omega)⟩

theorem zT_apply (q k : FVec Ideal S4x8192x8x128 .f32) (b : Fin 4) (h : Fin 8) (s t : Fin 8192) :
    zT q k (ix4 b h s t) = (∑ e, q (ix4 b s h e) * k (ix4 b t h e)) * Ideal.ofBits .f32 0x3DB504F3#32 := by
  pointwise [zT]

theorem lb_ref (w : ℝ) : -(max (-(w : EReal)) 0 + Ideal.log1p (Ideal.exp (-FloatOps.absf (F := Ideal) (φ := .f32) (-(w : EReal))))) = ((lbR w : ℝ) : EReal) := by
  show -(max (-(w : EReal)) 0 + Ideal.log (1 + Ideal.exp (-max (-(w : EReal)) (-(-(w : EReal)))))) = _
  have e : -max (-(w : EReal)) (-(-(w : EReal))) = ((0 - max w (-w) : ℝ) : EReal) := by
    rw [neg_neg, ← EReal.coe_neg, ← coe_max, ← EReal.coe_neg, max_comm, zero_sub]
  rw [e]
  show -(max (-(w : EReal)) 0 + Ideal.log (1 + ((Real.exp (0 - max w (-w)) : ℝ) : EReal))) = _
  rw [← EReal.coe_one, ← EReal.coe_add]
  have p : ¬ (1 + Real.exp (0 - max w (-w)) ≤ 0) := not_le.mpr (add_pos one_pos (Real.exp_pos _))
  show -(max (-(w : EReal)) 0 + (if 1 + Real.exp (0 - max w (-w)) ≤ 0 then ⊥ else ((Real.log (1 + Real.exp (0 - max w (-w))) : ℝ) : EReal))) = _
  rw [if_neg p, ← EReal.coe_zero, ← EReal.coe_neg, ← coe_max, ← EReal.coe_add, ← EReal.coe_neg]
  congr 1
  unfold lbR
  rw [neg_add, ← sub_eq_add_neg]
  congr 1
  rcases le_total w 0 with h | h
  · rw [max_eq_left (by linarith), min_eq_left h, neg_neg]
  · rw [max_eq_right (by linarith), min_eq_right h, neg_zero]

theorem lbT_apply (z : T) (j : S4x8x8192x8192.Idx) (w : ℝ) (h : z j = (w : EReal)) : lbT z j = ((lbR w : ℝ) : EReal) := by
  obtain ⟨a, b, c, d, rfl⟩ : ∃ a b c d, j = ix4 a b c d := ⟨_, _, _, _, eq_ix4 j⟩
  pointwise [lbT, zeros]
  rw [if_neg (fun n => n rfl), h]
  exact lb_ref w

theorem maskT_apply (b : Fin 4) (h : Fin 8) (s t : Fin 8192) : maskT (ix4 b h s t) = if t < s then 1#1 else 0#1 := by
  have e : IntOp.cmpi CmpIPredicate.slt (BitVec.ofNat 32 t.val) (BitVec.ofNat 32 s.val) = 1#1 ↔ t < s := by
    rw [WordCmp.cmpi_slt_ofNat_eq_one_iff (w := 32) (by omega) (by omega)]; rfl
  pointwise [maskT]
  by_cases h : t < s
  · rw [if_pos h]; exact e.mpr h
  · rw [if_neg h]; exact (BitVec.eq_zero_or_eq_one _).resolve_right fun k => h (e.mp k)

theorem outT_apply (v : FVec Ideal S4x8192x8x128 .f32) (w : T) (j : S32768x1024.Idx) :
    outT v w j = ∑ t : Fin 8192, v (ix4 (n0 := 4) (n1 := 8192) (n2 := 8) (n3 := 128) ⟨(j 0).val / 8192, by have : (j 0).val < 32768 := (j 0).isLt; omega⟩ t
        ⟨(j 1).val / 128, by have : (j 1).val < 1024 := (j 1).isLt; omega⟩ ⟨(j 1).val % 128, by omega⟩)
      * w (ix4 (n0 := 4) (n1 := 8) (n2 := 8192) (n3 := 8192) ⟨(j 0).val / 8192, by have : (j 0).val < 32768 := (j 0).isLt; omega⟩
        ⟨(j 1).val / 128, by have : (j 1).val < 1024 := (j 1).isLt; omega⟩ ⟨(j 0).val % 8192, by omega⟩ t) := by
  obtain ⟨r, c, rfl⟩ : ∃ r c, j = ix2 r c := ⟨_, _, eq_ix2 j⟩
  pointwise [outT]

/-! ## At finite arguments -/

variable {X : ℕ → ℕ → ℝ} {a : Vec Ideal S32768x3328 .f32} (hX : ∀ j, a j = ((X (j 0).val (j 1).val : ℝ) : EReal))

/-- The scores of the argument. -/
abbrev zA (a : Vec Ideal S32768x3328 .f32) : T :=
  zT (part a 256 slices_S4x8192x3328_S4x8192x1024_0_0_256) (part a 1280 slices_S4x8192x3328_S4x8192x1024_0_0_1280)

include hX

theorem z_at (b : Fin 4) (h : Fin 8) (s t : Fin 8192) : zA a (ix4 b h s t) = ((scR X b.val h.val s.val t.val : ℝ) : EReal) := by
  unfold zA
  rw [zT_apply]
  simp only [part_apply _ 256 _ (by omega), part_apply _ 1280 _ (by omega), hX, sc_coe, ← EReal.coe_mul, ← coe_sum]
  congr 1
  unfold scR
  rw [Finset.sum_mul]
  exact Finset.sum_congr rfl fun e _ => mul_right_comm _ _ _

theorem lk_at (b : Fin 4) (h : Fin 8) (s t : Fin 8192) :
    lkT (zA a) (ix4 b h s t) = ((if t.val < s.val then lkR (scR X b.val h.val s.val t.val) else 0 : ℝ) : EReal) := by
  have e : lkT (zA a) (ix4 b h s t) = Scalar.select (maskT (ix4 b h s t)) (lbT (zA a) (ix4 b h s t) - zA a (ix4 b h s t)) (Ideal.ofBits .f32 0x00000000#32) := rfl
  rw [e, maskT_apply, lbT_apply _ _ _ (z_at hX b h s t), z_at hX, Ideal.ofBits_zero_f32, ← EReal.coe_sub]
  unfold Scalar.select
  by_cases k : t < s
  · rw [if_pos k, if_pos (show t.val < s.val from k), if_pos (show (1#1 : BitVec 1) = 1 from rfl)]; rfl
  · rw [if_neg k, if_neg (show ¬ t.val < s.val from k), if_neg (by decide), EReal.coe_zero]

theorem suf_at (b : Fin 4) (h : Fin 8) (s t : Fin 8192) (k : t.val < s.val) :
    sufT (lkT (zA a)) (ix4 b h s t) = ((∑ y ∈ Finset.Ico t.val s.val, lkR (scR X b.val h.val s.val y) : ℝ) : EReal) := by
  rw [suf_apply]
  have e : ∀ n : Fin 8192, (if hn : t.val + n.val < 8192 then lkT (zA a) (ix4 b h s ⟨t.val + n.val, hn⟩) else 0)
      = ((if t.val + n.val < s.val then lkR (scR X b.val h.val s.val (t.val + n.val)) else 0 : ℝ) : EReal) := by
    intro n
    have hs := s.isLt
    by_cases hn : t.val + n.val < 8192
    · rw [dif_pos hn, lk_at hX]
    · rw [dif_neg hn, if_neg (by omega), EReal.coe_zero]
  simp only [e, ← coe_sum]
  congr 1
  have hs := s.isLt
  rw [Fin.sum_univ_eq_sum_range (fun n => if t.val + n < s.val then lkR (scR X b.val h.val s.val (t.val + n)) else 0) 8192,
    ← Finset.sum_filter, Finset.sum_Ico_eq_sum_range]
  refine Finset.sum_congr (Finset.ext fun n => ?_) fun _ _ => rfl
  simp only [Finset.mem_filter, Finset.mem_range]
  omega

theorem att_at (b : Fin 4) (h : Fin 8) (s t : Fin 8192) :
    attT (zA a) (ix4 b h s t)
      = ((if t.val < s.val then Real.exp (lbR (scR X b.val h.val s.val t.val) + ∑ y ∈ Finset.Ico (t.val + 1) s.val, lkR (scR X b.val h.val s.val y)) else 0 : ℝ) : EReal) := by
  have e : attT (zA a) (ix4 b h s t) = Scalar.select (maskT (ix4 b h s t))
      (Ideal.exp (lbT (zA a) (ix4 b h s t) + (sufT (lkT (zA a)) (ix4 b h s t) - lkT (zA a) (ix4 b h s t)))) (Ideal.ofBits .f32 0x00000000#32) := rfl
  rw [e, maskT_apply, Ideal.ofBits_zero_f32]
  unfold Scalar.select
  by_cases k : t < s
  · have k' : t.val < s.val := k
    rw [if_pos k, if_pos k', if_pos (show (1#1 : BitVec 1) = 1 from rfl), lbT_apply _ _ _ (z_at hX b h s t), suf_at hX b h s t k', lk_at hX, if_pos k',
      ← EReal.coe_sub, ← EReal.coe_add, Finset.sum_eq_sum_Ico_succ_bot k', add_sub_cancel_left]
    rfl
  · rw [if_neg k, if_neg (show ¬ t.val < s.val from k), if_neg (by decide), EReal.coe_zero]

/-- The reference's result is the array the kernel's points leave. -/
theorem out_at : outT (part a 2304 slices_S4x8192x3328_S4x8192x1024_0_0_2304) (attT (zA a)) = Cert.KernelIdeal.Stick.G X := by
  funext j
  rw [outT_apply]
  simp only [part_apply _ 2304 _ (by omega), att_at hX, hX, ← EReal.coe_mul, ← coe_sum]
  unfold Cert.KernelIdeal.Stick.G
  congr 1
  unfold mixR accR
  have h0 : (j 0).val % 8192 < 8192 := Nat.mod_lt _ (by omega)
  have hc : 2304 + 128 * ((j 1).val / 128) + (j 1).val % 128 = 2304 + 128 * ((j 1).val / 128) + (j 1).val % 128 := rfl
  rw [← Finset.range_eq_Ico]
  have e : Finset.range ((j 0).val % 8192) = (Finset.range 8192).filter (fun t => t < (j 0).val % 8192) := by
    ext t; simp only [Finset.mem_filter, Finset.mem_range]; omega
  rw [e, Finset.sum_filter, ← Fin.sum_univ_eq_sum_range]
  refine Finset.sum_congr rfl fun t _ => ?_
  by_cases k : t.val < (j 0).val % 8192
  · rw [if_pos k]
    rw [if_pos (show t.val < (j 0).val % 8192 from k), mul_comm]
    rfl
  · rw [if_neg k]
    rw [if_neg (show ¬ t.val < (j 0).val % 8192 from k), mul_zero]

omit hX

/-- Every run from finite arguments ends with the result's array at `G`, the argument unchanged. -/
theorem run (m : (ℓ : Loc nD τ sig) → Buf (Elt Ideal) ℓ) (ρ : Dev nD → PrngReg) (X : Dev nD → ℕ → ℕ → ℝ)
    (hX : ∀ c : Dev nD, ∀ j : S32768x3328.Idx, m ((c : Thread nD τ).loc main_arg0) j = ((X c (j 0).val (j 1).val : ℝ) : EReal)) :
    θ_run defs (onTc (τ := τ) (main (F := Ideal))) ⟨m, fun _ => 0, ρ⟩ fun r => ∀ c : Dev nD,
      r.2.mem ((c.tc : Thread nD τ).loc main_v27) = Cert.KernelIdeal.Stick.G (X c)
      ∧ r.2.mem ((c.tc : Thread nD τ).loc main_arg0) = m ((c.tc : Thread nD τ).loc main_arg0) :=
  (θ_run defs _ _).mono (fun _ h c => ⟨(h c).1.trans ((res_eq m c).trans (out_at (hX c))), (h c).2⟩) (Cert.ReferenceIdeal.Value.run m ρ)

end Cert.ReferenceIdeal.Stick

end
-- ==== Proof.Whole.lean ====
/-
  Loads and stores of a whole block: at zero offsets and the block's own extents a load answers what the memref reads,
  and a store leaves the memref reading what was stored.
-/
module

public import Idealize.ShloMosaic.Lib.Pipeline.FrameBody
public import Idealize.ShloMosaic.Lib.Tactic
public import Idealize.ShloMosaic.Lib.WholeRead

@[expose] public section

noncomputable section

namespace Cert.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Dev nD) (bd : Option 𝒱.V) (E : Set Name)
variable {s : Shape} {e : EltTy}

theorem emb_zero (off : Fin s.rank → ℕ) (hin : ∀ a, off a + s.size a ≤ s.size a) (j : s.Idx) :
    (Rect.unit (s := s) off s.size hin).emb j = j := by
  funext a
  apply Fin.ext
  have := hin a
  show off a + 1 * (j a).val = (j a).val
  omega

theorem readAt_zero (v : View sig .tc .vmem s e) (off : Fin s.rank → ℕ) (hin : ∀ a, off a + s.size a ≤ s.size a) (f : v.ty.Contents Val) :
    v.readAt Val (Rect.unit (s := s) off s.size hin).toLoadRect f = v.read Val f := by
  funext j
  exact (View.readAt_apply _ _ _).trans (congrArg (v.read Val f) (emb_zero off hin j))

theorem read_write_zero (m : Memref sig .tc .vmem s e) (off : Fin s.rank → ℕ) (hin : ∀ a, off a + s.size a ≤ s.size a) (f : m.view.ty.Contents Val)
    (w : s.Idx → Val e) :
    m.view.read Val ((m.access (Rect.unit (s := s) off s.size hin)).write Val f w Finset.univ) = w := by
  funext y
  refine View.read_writes_apply_of_pieces m.view f w [⟨Rect.unit (s := s) off s.size hin, w⟩] ?_ y ?_
  · intro p hp x
    rcases List.mem_cons.mp hp with rfl | hp
    · exact congrArg w (emb_zero off hin x).symm
    · exact absurd hp List.not_mem_nil
  · refine ⟨_, List.mem_cons_self, ?_⟩
    show y ∈ (Rect.unit (s := s) off s.size hin).set
    exact Rect.mem_set_unit.mpr fun a => ⟨by have := hin a; omega, by have := (y a).isLt; omega⟩

variable {α : Type} {Q : α → sProp (MT nD τ sig Ix Val Name U Lvl)}

/-- A load of the whole block answers what the block holds. -/
theorem wp_whole_load {m : Memref sig .tc .vmem s e} {off : Fin s.rank → ℕ} {hin : ∀ a, off a + s.size a ≤ s.size a}
    {hl : m.view.LoadsAt (Rect.unit (s := s) off s.size hin).toLoadRect} {k : (s.Idx → Val e) → Prog (TpuEff nD τ sig Val Λ .tc) α}
    {q : PosShare TreeShare} {X : s.Idx → Val e} :
    (owns (c : Thread nD τ) m q X : sProp (MT nD τ sig Ix Val Name U Lvl))
      ⊢ iprop((owns (c : Thread nD τ) m q X -∗ wp frame (wpE defs 𝒱 (c : Thread nD τ) bd) E (k X) Q)
        -∗ wp frame (wpE defs 𝒱 (c : Thread nD τ) bd) E (.op (.load m (Rect.unit (s := s) off s.size hin).toLoadRect hl) k) Q) := by
  unfold owns
  iintro ⟨%f, %hf, H⟩ Hk
  iapply (wp_load 𝒱 (c : Thread nD τ) bd E (m := m) (View.setOn_subset_set _ _)) $$ H; iintro H
  rw [readAt_zero, hf]
  iapply Hk
  iexists f
  isplitr; · ipureintro; exact hf
  iexact H

theorem access_sub (m : Memref sig .tc .vmem s e) (r : Rect s) : (m.access r).setOn Finset.univ ⊆ m.view.set := by
  rw [View.setOn_univ]
  show (m.view.slice r).set ⊆ m.view.set
  rw [View.set_slice]
  exact View.setOn_subset_set _ _

/-- A store of the whole block leaves it holding what was stored. -/
theorem wp_whole_store {m : Memref sig .tc .vmem s e} {off : Fin s.rank → ℕ} {hin : ∀ a, off a + s.size a ≤ s.size a}
    {w : s.Idx → Val e} {hx : (m.access (Rect.unit (s := s) off s.size hin)).Stores Finset.univ}
    {hm : (Finset.univ : Finset s.Idx) = Finset.univ ∨ ∀ a, (Rect.unit (s := s) off s.size hin).stride a = 1}
    {k : PUnit → Prog (TpuEff nD τ sig Val Λ .tc) α} {X : s.Idx → Val e} :
    (owns (c : Thread nD τ) m fullShare X : sProp (MT nD τ sig Ix Val Name U Lvl))
      ⊢ iprop((owns (c : Thread nD τ) m fullShare w -∗ wp frame (wpE defs 𝒱 (c : Thread nD τ) bd) E (k ⟨⟩) Q)
        -∗ wp frame (wpE defs 𝒱 (c : Thread nD τ) bd) E (.op (.store m (Rect.unit (s := s) off s.size hin) w Finset.univ hx hm) k) Q) := by
  unfold owns
  iintro ⟨%f, -, H⟩ Hk
  iapply (wp_store 𝒱 (c : Thread nD τ) bd E (m := m) (r := Rect.unit (s := s) off s.size hin) (Mk := Finset.univ) (access_sub m _)) $$ H; iintro H
  iapply Hk
  iexists _
  isplitr; swap; · iexact H
  ipureintro; exact read_write_zero m off hin f w

end Cert.Whole

end
-- ==== Proof.Experts.PI.Body.lean ====
/-
  One grid point's body of the experts' call. The count of used blocks says what it does: at a used block's first half it
  keeps the rows and the first half's product, at its second half it adds the second half's product and the bias, at an
  unused block it stores zeros (first half) or nothing (second half).
-/
module

public import proofs.«01_k».proof.Proof.Whole
public import proofs.«01_k».proof.Proof.Gen.Kernel2Ideal.Launch
public import proofs.«01_k».proof.Proof.Gen.Kernel2Ideal.Skeleton

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

abbrev 𝒱s : Variants := Variants.none

/-- The condition of the first branch: a used block's first half. -/
def isFirst (i : grid0.Coords) (n : BitVec 32) : BitVec 1 :=
  Scalar.cmpi .ne (Scalar.extui (Scalar.andi (Scalar.cmpi .slt (BitVec.ofNat 32 (i 0).val) n) (Scalar.cmpi .eq (BitVec.ofNat 32 (i 1).val) 0#32)) : BitVec 32) 0#32

/-- The count of used blocks, the second table's word. -/
abbrev used (tb : S1.Idx → BitVec 32) : BitVec 32 := tb (fun a => ⟨(![0] : Fin 1 → ℕ) a, by fin_cases a; exact Nat.one_pos⟩)

variable (c : Dev nD) (i : grid0.Coords)
  (arg2 : Memref sig .tc .smem S288 .i32) (harg2 : arg2.IsWhole) (harg3 : (Memref.whole main_arg2 : Memref sig .tc .smem S1 .i32).IsWhole)
  (arg4 : Memref sig .tc .vmem S512x2048 .f32) (harg4 : arg4.IsWhole)
  (arg5 : Memref sig .tc .vmem S1x2048x1024 .bf16) (harg5 : arg5.IsWhole) (arg6 : Memref sig .tc .vmem S1x2048x1024 .bf16) (harg6 : arg6.IsWhole)
  (arg7 : Memref sig .tc .vmem S1x1x1024 .f32) (harg7 : arg7.IsWhole) (arg8 : Memref sig .tc .vmem S1x1x1024 .f32) (harg8 : arg8.IsWhole)
  (arg9 : Memref sig .tc .vmem S1x1024x2048 .bf16) (harg9 : arg9.IsWhole) (arg10 : Memref sig .tc .vmem S1x1x2048 .f32) (harg10 : arg10.IsWhole)
  (arg11 : Memref sig .tc .vmem S512x2048 .f32) (harg11 : arg11.IsWhole) (arg12 : Memref sig .tc .vmem S512x2048 .bf16) (harg12 : arg12.IsWhole)
  (arg13 : Memref sig .tc .vmem S512x2048 .f32) (harg13 : arg13.IsWhole)
  (tb : Buf (Elt F) ((c : Thread nD τ).loc main_arg2))
  (x : Vec F S512x2048 .f32) (wg wl : Vec F S1x2048x1024 .bf16) (bg bl : Vec F S1x1x1024 .f32) (w2 : Vec F S1x1024x2048 .bf16) (b2 : Vec F S1x1x2048 .f32)
  (o : Vec F S512x2048 .f32) (s0 : Vec F S512x2048 .bf16) (s1 : Vec F S512x2048 .f32)

/-- The body at these memrefs. -/
abbrev bodyP : Prog (TpuEff nD τ sig (Elt F) Λ₀ .tc) PUnit :=
  cc0_moe_experts (F := F) i arg2 harg2 (Memref.whole main_arg2) harg3 arg4 harg4 arg5 harg5 arg6 harg6 arg7 harg7 arg8 harg8 arg9 harg9 arg10 harg10 arg11 harg11 arg12 harg12 arg13 harg13

/-- The staged blocks, as found and as left. -/
abbrev blocks : sProp 𝕄 :=
  iprop(owns (c : Thread nD τ) arg4 fullShare x ∗ owns (c : Thread nD τ) arg5 fullShare wg ∗ owns (c : Thread nD τ) arg6 fullShare wl
    ∗ owns (c : Thread nD τ) arg7 fullShare bg ∗ owns (c : Thread nD τ) arg8 fullShare bl ∗ owns (c : Thread nD τ) arg9 fullShare w2 ∗ owns (c : Thread nD τ) arg10 fullShare b2)

/-- The second table at the share the region hands the body. -/
abbrev table : sProp 𝕄 := (c : Thread nD τ).loc main_arg2 ↦{fullShare.right} tb

/-- The load of the count answers the table's word. -/
theorem wp_count {k : (S1.Idx → Elt F .i32) → Prog (TpuEff nD τ sig (Elt F) Λ₀ .tc) PUnit} {Q : PUnit → sProp 𝕄} {E : Set ℕ}
    {hl : ((Memref.whole main_arg2 : Memref sig .tc .smem S1 .i32).view).LoadsAt (Rect.unit (s := S1) ![0] S1.size inb_S1_S1_0).toLoadRect} :
    (table c tb : sProp 𝕄)
      ⊢ iprop((table c tb -∗ wp frame (wpE (defs₀ (F := F)) 𝒱s (c : Thread nD τ) none) E (k fun _ => used tb) Q)
        -∗ wp frame (wpE (defs₀ (F := F)) 𝒱s (c : Thread nD τ) none) E
          (.op (.load (Memref.whole main_arg2 : Memref sig .tc .smem S1 .i32) (Rect.unit (s := S1) ![0] S1.size inb_S1_S1_0).toLoadRect hl) k) Q) := by
  iintro H Hk
  iapply (wp_load 𝒱s (c : Thread nD τ) none E (m := (Memref.whole main_arg2 : Memref sig .tc .smem S1 .i32)) (S := Finset.univ) (Finset.subset_univ _)) $$ H; iintro H
  rw [show (Memref.whole main_arg2 : Memref sig .tc .smem S1 .i32).view.readAt (Elt F) (Rect.unit (s := S1) ![0] S1.size inb_S1_S1_0).toLoadRect tb = fun _ => used tb from by
    funext j
    refine congrArg tb ?_
    have h1 : ∀ a : Fin 1, S1.size a = 1 := by decide
    funext a
    apply Fin.ext
    have e : ∀ y : Fin (S1.size a), y.val = 0 := fun y => by have := h1 a; have := y.isLt; omega
    exact (e _).trans (e ⟨_, _⟩).symm]
  iapply Hk
  iexact H

/-- An unused block's second half does nothing. -/
theorem run_rest (h1 : ¬ isFirst i (used tb) = 1#1) (h2 : ¬ k0_cond2 i (used tb) = 1#1) (h3 : ¬ k0_cond3 i (used tb) = 1#1)
    (E : Set ℕ) (K : PUnit → sProp 𝕄) :
    iprop(table c tb ∗ (table c tb -∗ K ⟨⟩))
      ⊢ wp frame (wpE (defs₀ (F := F)) 𝒱s c none) E (bodyP i arg2 harg2 harg3 arg4 harg4 arg5 harg5 arg6 harg6 arg7 harg7 arg8 harg8 arg9 harg9 arg10 harg10 arg11 harg11 arg12 harg12 arg13 harg13) K := by
  unfold isFirst at h1
  unfold bodyP
  rw [cc0_moe_experts_eq_skeleton]
  unfold cc0_moe_experts_skel smemLoad smemLoadElt
  simp only [Prog.lift, Prog.bind_op, Prog.bind_ret, k0_part1_eq_skeleton, k0_part2_eq_skeleton, k0_part1_skel, k0_part2_skel]
  iintro ⟨HT, Hk⟩
  iapply (wp_count c tb) $$ HT; iintro HT
  dsimp only
  rw [if_neg h1, dif_neg h2, dif_neg h3]
  rw [Prog.pure_eq_ret, wp_ret]; imodintro
  iapply Hk
  iexact HT

/-- An unused block's first half stores zeros. -/
theorem run_empty (h1 : ¬ isFirst i (used tb) = 1#1) (h2 : ¬ k0_cond2 i (used tb) = 1#1) (h3 : k0_cond3 i (used tb) = 1#1)
    (E : Set ℕ) (K : PUnit → sProp 𝕄) :
    iprop(table c tb ∗ owns (c : Thread nD τ) arg11 fullShare o ∗ (iprop(table c tb ∗ owns (c : Thread nD τ) arg11 fullShare (k0_pay3 (F := F))) -∗ K ⟨⟩))
      ⊢ wp frame (wpE (defs₀ (F := F)) 𝒱s c none) E (bodyP i arg2 harg2 harg3 arg4 harg4 arg5 harg5 arg6 harg6 arg7 harg7 arg8 harg8 arg9 harg9 arg10 harg10 arg11 harg11 arg12 harg12 arg13 harg13) K := by
  unfold isFirst at h1
  unfold bodyP
  rw [cc0_moe_experts_eq_skeleton]
  unfold cc0_moe_experts_skel smemLoad smemLoadElt
  simp only [Prog.lift, Prog.bind_op, Prog.bind_ret, k0_part1_eq_skeleton, k0_part2_eq_skeleton, k0_part1_skel, k0_part2_skel]
  iintro ⟨HT, HO, Hk⟩
  iapply (wp_count c tb) $$ HT; iintro HT
  dsimp only
  rw [if_neg h1, dif_neg h2, dif_pos h3]
  iapply (Cert.Whole.wp_whole_load 𝒱s c none E) $$ HO; iintro HO
  iapply (Cert.Whole.wp_whole_store 𝒱s c none E) $$ HO; iintro HO
  rw [Prog.pure_eq_ret, wp_ret]; imodintro
  iapply Hk
  isplitl [HT]; · iexact HT
  iexact HO

/-- A used block's first half keeps the rows and the first half's product. -/
theorem run_first (h1 : isFirst i (used tb) = 1#1) (h2 : ¬ k0_cond2 i (used tb) = 1#1) (h3 : ¬ k0_cond3 i (used tb) = 1#1)
    (E : Set ℕ) (K : PUnit → sProp 𝕄) :
    iprop(table c tb ∗ blocks c arg4 arg5 arg6 arg7 arg8 arg9 arg10 x wg wl bg bl w2 b2 ∗ owns (c : Thread nD τ) arg12 fullShare s0 ∗ owns (c : Thread nD τ) arg13 fullShare s1 ∗ (iprop(table c tb ∗ blocks c arg4 arg5 arg6 arg7 arg8 arg9 arg10 x wg wl bg bl w2 b2 ∗ owns (c : Thread nD τ) arg12 fullShare (k0_pay5 x) ∗ owns (c : Thread nD τ) arg13 fullShare (k0_pay1 (k0_pay6 x wg bg wl bl) w2)) -∗ K ⟨⟩))
      ⊢ wp frame (wpE (defs₀ (F := F)) 𝒱s c none) E (bodyP i arg2 harg2 harg3 arg4 harg4 arg5 harg5 arg6 harg6 arg7 harg7 arg8 harg8 arg9 harg9 arg10 harg10 arg11 harg11 arg12 harg12 arg13 harg13) K := by
  unfold isFirst at h1
  unfold bodyP
  rw [cc0_moe_experts_eq_skeleton]
  unfold cc0_moe_experts_skel smemLoad smemLoadElt
  simp only [Prog.lift, Prog.bind_op, Prog.bind_ret, k0_part1_eq_skeleton, k0_part2_eq_skeleton, k0_part1_skel, k0_part2_skel]
  iintro ⟨HT, ⟨H4, H5, H6, H7, H8, H9, H10⟩, HS, HP, Hk⟩
  iapply (wp_count c tb) $$ HT; iintro HT
  dsimp only
  rw [if_pos h1, dif_neg h2, dif_neg h3]
  iapply (Cert.Whole.wp_whole_load 𝒱s c none E) $$ H4; iintro H4
  iapply (Cert.Whole.wp_whole_load 𝒱s c none E) $$ HS; iintro HS
  iapply (Cert.Whole.wp_whole_store 𝒱s c none E) $$ HS; iintro HS
  iapply (Cert.Whole.wp_whole_load 𝒱s c none E) $$ H5; iintro H5
  iapply (Cert.Whole.wp_whole_load 𝒱s c none E) $$ H7; iintro H7
  iapply (Cert.Whole.wp_whole_load 𝒱s c none E) $$ H6; iintro H6
  iapply (Cert.Whole.wp_whole_load 𝒱s c none E) $$ H8; iintro H8
  iapply (Cert.Whole.wp_whole_load 𝒱s c none E) $$ H9; iintro H9
  iapply (Cert.Whole.wp_whole_load 𝒱s c none E) $$ HP; iintro HP
  iapply (Cert.Whole.wp_whole_store 𝒱s c none E) $$ HP; iintro HP
  rw [Prog.pure_eq_ret, wp_ret]; imodintro
  iapply Hk
  isplitl [HT]; · iexact HT
  isplitl [H4 H5 H6 H7 H8 H9 H10]
  · isplitl [H4]; · iexact H4
    isplitl [H5]; · iexact H5
    isplitl [H6]; · iexact H6
    isplitl [H7]; · iexact H7
    isplitl [H8]; · iexact H8
    isplitl [H9]; · iexact H9
    iexact H10
  isplitl [HS]; · iexact HS
  iexact HP

/-- A used block's second half stores the two products' sum and the bias. -/
theorem run_second (h1 : ¬ isFirst i (used tb) = 1#1) (h2 : k0_cond2 i (used tb) = 1#1) (h3 : ¬ k0_cond3 i (used tb) = 1#1)
    (E : Set ℕ) (K : PUnit → sProp 𝕄) :
    iprop(table c tb ∗ blocks c arg4 arg5 arg6 arg7 arg8 arg9 arg10 x wg wl bg bl w2 b2 ∗ owns (c : Thread nD τ) arg11 fullShare o ∗ owns (c : Thread nD τ) arg12 fullShare s0 ∗ owns (c : Thread nD τ) arg13 fullShare s1 ∗ (iprop(table c tb ∗ blocks c arg4 arg5 arg6 arg7 arg8 arg9 arg10 x wg wl bg bl w2 b2 ∗ owns (c : Thread nD τ) arg11 fullShare (k0_pay2 s1 (k0_pay7 s0 wg bg wl bl w2) b2) ∗ owns (c : Thread nD τ) arg12 fullShare s0 ∗ owns (c : Thread nD τ) arg13 fullShare s1) -∗ K ⟨⟩))
      ⊢ wp frame (wpE (defs₀ (F := F)) 𝒱s c none) E (bodyP i arg2 harg2 harg3 arg4 harg4 arg5 harg5 arg6 harg6 arg7 harg7 arg8 harg8 arg9 harg9 arg10 harg10 arg11 harg11 arg12 harg12 arg13 harg13) K := by
  unfold isFirst at h1
  unfold bodyP
  rw [cc0_moe_experts_eq_skeleton]
  unfold cc0_moe_experts_skel smemLoad smemLoadElt
  simp only [Prog.lift, Prog.bind_op, Prog.bind_ret, k0_part1_eq_skeleton, k0_part2_eq_skeleton, k0_part1_skel, k0_part2_skel]
  iintro ⟨HT, ⟨H4, H5, H6, H7, H8, H9, H10⟩, HO, HS, HP, Hk⟩
  iapply (wp_count c tb) $$ HT; iintro HT
  dsimp only
  rw [if_neg h1, dif_pos h2, dif_neg h3]
  iapply (Cert.Whole.wp_whole_load 𝒱s c none E) $$ HP; iintro HP
  iapply (Cert.Whole.wp_whole_load 𝒱s c none E) $$ HS; iintro HS
  iapply (Cert.Whole.wp_whole_load 𝒱s c none E) $$ H5; iintro H5
  iapply (Cert.Whole.wp_whole_load 𝒱s c none E) $$ H7; iintro H7
  iapply (Cert.Whole.wp_whole_load 𝒱s c none E) $$ H6; iintro H6
  iapply (Cert.Whole.wp_whole_load 𝒱s c none E) $$ H8; iintro H8
  iapply (Cert.Whole.wp_whole_load 𝒱s c none E) $$ H9; iintro H9
  iapply (Cert.Whole.wp_whole_load 𝒱s c none E) $$ H10; iintro H10
  iapply (Cert.Whole.wp_whole_load 𝒱s c none E) $$ HO; iintro HO
  iapply (Cert.Whole.wp_whole_store 𝒱s c none E) $$ HO; iintro HO
  rw [Prog.pure_eq_ret, wp_ret]; imodintro
  iapply Hk
  isplitl [HT]; · iexact HT
  isplitl [H4 H5 H6 H7 H8 H9 H10]
  · isplitl [H4]; · iexact H4
    isplitl [H5]; · iexact H5
    isplitl [H6]; · iexact H6
    isplitl [H7]; · iexact H7
    isplitl [H8]; · iexact H8
    isplitl [H9]; · iexact H9
    iexact H10
  isplitl [HO]; · iexact HO
  isplitl [HS]; · iexact HS
  iexact HP

end Cert.Kernel2Ideal.Experts

end
-- ==== Proof.Experts.PI.Data.lean ====
/-
  The experts' call run: the block each grid point leaves, what the scratch buffers carry from a block's first half to its
  second, the pipeline's data, the body at any grid point, and every final state.
-/
module

public import proofs.«01_k».proof.Proof.Experts.PI.Body
public import Idealize.ShloMosaic.Lib.Claim

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid -/

theorem co0 : ∀ t : Fin grid0.N, (grid0.coords t 0).val = t.val / 2 := by decide +kernel
theorem co1 : ∀ t : Fin grid0.N, (grid0.coords t 1).val = t.val % 2 := by decide +kernel

theorem flush7 (a : (pcfg0 (F := F)).Adm) (t : Fin grid0.N) : ((cfg0 a).win 7).flush t = decide (t.val % 2 = 1) :=
  (by decide +kernel : ∀ t : Fin grid0.N, (true && (t.val + 1 = grid0.N || decide (∃ h : t.val + 1 < grid0.N, cc0_transform_7 (grid0.coords ⟨t.val + 1, h⟩) ≠ cc0_transform_7 (grid0.coords t)))) = decide (t.val % 2 = 1)) t

/-- Whether a block is used, the count of used blocks being `n`. -/
def isUsed (i : grid0.Coords) (n : BitVec 32) : Bool := Scalar.cmpi .slt (BitVec.ofNat 32 (i 0).val) n = 1#1

theorem first_iff (i : grid0.Coords) (n : BitVec 32) : isFirst i n = 1#1 ↔ isUsed i n = true ∧ (i 1).val = 0 := by
  unfold isFirst isUsed
  generalize Scalar.cmpi .slt (BitVec.ofNat 32 (i 0).val) n = v
  generalize (i 1) = j
  change Fin 2 at j
  revert v j; decide

theorem second_iff (i : grid0.Coords) (n : BitVec 32) : k0_cond2 i n = 1#1 ↔ isUsed i n = true ∧ (i 1).val = 1 := by
  unfold k0_cond2 isUsed
  dsimp only
  generalize Scalar.cmpi .slt (BitVec.ofNat 32 (i 0).val) n = v
  generalize (i 1) = j
  change Fin 2 at j
  revert v j; decide

theorem empty_iff (i : grid0.Coords) (n : BitVec 32) : k0_cond3 i n = 1#1 ↔ isUsed i n = false ∧ (i 1).val = 0 := by
  unfold k0_cond3 isUsed
  dsimp only
  generalize Scalar.cmpi .slt (BitVec.ofNat 32 (i 0).val) n = v
  generalize (i 1) = j
  change Fin 2 at j
  revert v j; decide

/-! ## The region's entry -/

variable (m : (ℓ : Loc nD τ sig) → Buf (Elt F) ℓ) (ρ : Dev nD → PrngReg)

/-- The buffers as the region finds them: after the host's preparation. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem entry : Pipeline.HMainP (Ix := Unit) (Name := ℕ) (U := UR sig nD τ) (Lvl := ℕ) pcfgs 0 defs₀ 𝒱s m (main (F := F)) (V m) :=
  Pipeline.hmainP_prefix pcfgs 0 defs₀ 𝒱s m main hostOps0 hostOps0_sub hostOps0_fresh main_chain

/-- The prefetched tables' contents. -/
def tbl : pre0.Contents (Elt F) := fun k => V m 0 (pre0.ref k)

variable (hO : ok0 (tbl m))

/-- The tables admitted. -/
abbrev adm : (pcfg0 (F := F)).Adm := ⟨tbl m, hO⟩

/-- The count of used blocks. -/
abbrev nu : BitVec 32 := used (tbl m 1)

theorem atD_count : (tbl m).atD 1 ![0] = nu m := by
  unfold Pipeline.Prefetch.Contents.atD
  exact dif_pos _

theorem idle7 (t : Fin grid0.N) : (cfg0 (adm m hO)).idle 7 (grid0.coords t) = (isUsed (grid0.coords t) (nu m) == decide (t.val % 2 = 0)) := by
  show (!(k0_cond2 (grid0.coords t) ((tbl m).atD 1 ![0]) == 1#1) && !(k0_cond3 (grid0.coords t) ((tbl m).atD 1 ![0]) == 1#1)) = _
  rw [atD_count]
  have e2 := second_iff (grid0.coords t) (nu m)
  have e3 := empty_iff (grid0.coords t) (nu m)
  rw [co1] at e2 e3
  rw [beq_eq_decide, beq_eq_decide]
  simp only [e2, e3]
  rcases Nat.mod_two_eq_zero_or_one t.val with h | h <;> rw [h] <;> cases isUsed (grid0.coords t) (nu m) <;> decide

/-- A window's block at a point, read off its array. -/
def iblk (c : Dev nD) (w : Fin 8) (t : Fin grid0.N) : (((cfg0 (adm m hO)).win w).xblock (grid0.coords t)).Idx → Elt F ((cfg0 (adm m hO)).win w).elt :=
  (((cfg0 (adm m hO)).win w).blk t).view.read (Elt F) (V m c (Pipeline.arrRef spec0 w))

/-! ## What a point leaves -/

/-- The point before. -/
def prev (t : Fin grid0.N) : Fin grid0.N := ⟨t.val - 1, Nat.lt_of_le_of_lt (Nat.sub_le _ _) t.isLt⟩

/-- What a used block's first half keeps: its rows, and the first half's product. -/
def keep0 (c : Dev nD) (t : Fin grid0.N) : Vec F S512x2048 .bf16 := k0_pay5 (iblk m hO c 0 t)
def keep1 (c : Dev nD) (t : Fin grid0.N) : Vec F S512x2048 .f32 :=
  k0_pay1 (k0_pay6 (iblk m hO c 0 t) (iblk m hO c 1 t) (iblk m hO c 3 t) (iblk m hO c 2 t) (iblk m hO c 4 t)) (iblk m hO c 5 t)

/-- What the result's buffer holds after a point that stores it. -/
@[irreducible]
def left (c : Dev nD) (t : Fin grid0.N) : Vec F S512x2048 .f32 :=
  if isUsed (grid0.coords t) (nu m) then
    k0_pay2 (keep1 m hO c (prev t)) (k0_pay7 (keep0 m hO c (prev t)) (iblk m hO c 1 t) (iblk m hO c 3 t) (iblk m hO c 2 t) (iblk m hO c 4 t) (iblk m hO c 5 t)) (iblk m hO c 6 t)
  else k0_pay3 (F := F)

/-- The scratch buffers before point `t`: after a used block's first half, what it keeps. -/
def carried (c : Dev nD) (t : ℕ) : sProp 𝕄 :=
  iprop(∃ f0 f1, owns (c : Thread nD τ) (Memref.whole cc0_scratch0) fullShare f0 ∗ owns (c : Thread nD τ) (Memref.whole cc0_scratch1) fullShare f1
    ∗ ⌜∀ u : Fin grid0.N, u.val + 1 = t → u.val % 2 = 0 → isUsed (grid0.coords u) (nu m) = true → f0 = keep0 m hO c u ∧ f1 = keep1 m hO c u⌝)

/-- The tables, the first one whole and the count. -/
abbrev tables (c : Dev nD) : sProp 𝕄 := iprop(((c : Thread nD τ).loc main_v19 ↦{fullShare.right} (tbl m 0)) ∗ table c (tbl m 1))

/-- The pipeline's data. -/
def dats (p : Fin 1) (c : Dev nD) : Dat τ (Elt F) Unit ℕ (UR sig nD τ) ℕ (Pipeline.pin (pcfgs (F := F)) (fun _ => adm m hO) p) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => left m hO c t
  Φ t := iprop(carried m hO c t.val ∗ (∃ r, prngReg c r) ∗ tables m c)
  q w := fullShare
  owed _ := 0

end Cert.Kernel2Ideal.Experts

end
-- ==== Proof.Experts.PI.Points.lean ====
/-
  The experts' call run: what each window's buffer holds as the body finds it, and the body at any grid point, by the four
  kinds of point: a used block's two halves, an unused block's two.
-/
module

public import proofs.«01_k».proof.Proof.Experts.PI.Data
public import Idealize.ShloMosaic.Lib.Claim

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : ok0 (tbl m))

theorem dats_A (c : Dev nD) (w : Fin 8) : (dats m hO 0 c).A w = V m c (Pipeline.arrRef spec0 w) := by dsimp only [dats]
theorem after_0 (c : Dev nD) (t : Fin grid0.N) : (dats m hO 0 c).after 0 t = iblk m hO c 0 t := rfl
theorem after_1 (c : Dev nD) (t : Fin grid0.N) : (dats m hO 0 c).after 1 t = iblk m hO c 1 t := rfl
theorem after_2 (c : Dev nD) (t : Fin grid0.N) : (dats m hO 0 c).after 2 t = iblk m hO c 2 t := rfl
theorem after_3 (c : Dev nD) (t : Fin grid0.N) : (dats m hO 0 c).after 3 t = iblk m hO c 3 t := rfl
theorem after_4 (c : Dev nD) (t : Fin grid0.N) : (dats m hO 0 c).after 4 t = iblk m hO c 4 t := rfl
theorem after_5 (c : Dev nD) (t : Fin grid0.N) : (dats m hO 0 c).after 5 t = iblk m hO c 5 t := rfl
theorem after_6 (c : Dev nD) (t : Fin grid0.N) : (dats m hO 0 c).after 6 t = iblk m hO c 6 t := rfl
theorem after_7 (c : Dev nD) (t : Fin grid0.N) : (dats m hO 0 c).after 7 t = left m hO c t := rfl

theorem before_0 (c : Dev nD) (t : Fin grid0.N) (d) : (dats m hO 0 c).before 0 t d = iblk m hO c 0 t :=
  ((dats m hO 0 c).before_in_eq_fetched 0 rfl (fun _ => rfl) (fun _ _ _ => rfl) (fun t => by rw [after_0]; unfold Dat.blockOf iblk; rw [dats_A]; try rfl) t d).trans
    (by unfold Dat.fetched Dat.blockOf iblk; rw [dats_A]; try rfl)
theorem before_1 (c : Dev nD) (t : Fin grid0.N) (d) : (dats m hO 0 c).before 1 t d = iblk m hO c 1 t :=
  ((dats m hO 0 c).before_in_eq_fetched 1 rfl (fun _ => rfl) (fun _ _ _ => rfl) (fun t => by rw [after_1]; unfold Dat.blockOf iblk; rw [dats_A]; try rfl) t d).trans
    (by unfold Dat.fetched Dat.blockOf iblk; rw [dats_A]; try rfl)
theorem before_2 (c : Dev nD) (t : Fin grid0.N) (d) : (dats m hO 0 c).before 2 t d = iblk m hO c 2 t :=
  ((dats m hO 0 c).before_in_eq_fetched 2 rfl (fun _ => rfl) (fun _ _ _ => rfl) (fun t => by rw [after_2]; unfold Dat.blockOf iblk; rw [dats_A]; try rfl) t d).trans
    (by unfold Dat.fetched Dat.blockOf iblk; rw [dats_A]; try rfl)
theorem before_3 (c : Dev nD) (t : Fin grid0.N) (d) : (dats m hO 0 c).before 3 t d = iblk m hO c 3 t :=
  ((dats m hO 0 c).before_in_eq_fetched 3 rfl (fun _ => rfl) (fun _ _ _ => rfl) (fun t => by rw [after_3]; unfold Dat.blockOf iblk; rw [dats_A]; try rfl) t d).trans
    (by unfold Dat.fetched Dat.blockOf iblk; rw [dats_A]; try rfl)
theorem before_4 (c : Dev nD) (t : Fin grid0.N) (d) : (dats m hO 0 c).before 4 t d = iblk m hO c 4 t :=
  ((dats m hO 0 c).before_in_eq_fetched 4 rfl (fun _ => rfl) (fun _ _ _ => rfl) (fun t => by rw [after_4]; unfold Dat.blockOf iblk; rw [dats_A]; try rfl) t d).trans
    (by unfold Dat.fetched Dat.blockOf iblk; rw [dats_A]; try rfl)
theorem before_5 (c : Dev nD) (t : Fin grid0.N) (d) : (dats m hO 0 c).before 5 t d = iblk m hO c 5 t :=
  ((dats m hO 0 c).before_in_eq_fetched 5 rfl (fun _ => rfl) (fun _ _ _ => rfl) (fun t => by rw [after_5]; unfold Dat.blockOf iblk; rw [dats_A]; try rfl) t d).trans
    (by unfold Dat.fetched Dat.blockOf iblk; rw [dats_A]; try rfl)
theorem before_6 (c : Dev nD) (t : Fin grid0.N) (d) : (dats m hO 0 c).before 6 t d = iblk m hO c 6 t :=
  ((dats m hO 0 c).before_in_eq_fetched 6 rfl (fun _ => rfl) (fun _ _ _ => rfl) (fun t => by rw [after_6]; unfold Dat.blockOf iblk; rw [dats_A]; try rfl) t d).trans
    (by unfold Dat.fetched Dat.blockOf iblk; rw [dats_A]; try rfl)

theorem used_prev (t : Fin grid0.N) (h : t.val % 2 = 1) (n : BitVec 32) : isUsed (grid0.coords (prev t)) n = isUsed (grid0.coords t) n := by
  unfold isUsed
  rw [co0, co0]
  rw [show (prev t).val / 2 = t.val / 2 from by show (t.val - 1) / 2 = _; omega]

theorem left_used (c : Dev nD) (t : Fin grid0.N) (h : isUsed (grid0.coords t) (nu m) = true) : left m hO c t
    = k0_pay2 (keep1 m hO c (prev t)) (k0_pay7 (keep0 m hO c (prev t)) (iblk m hO c 1 t) (iblk m hO c 3 t) (iblk m hO c 2 t) (iblk m hO c 4 t) (iblk m hO c 5 t)) (iblk m hO c 6 t) := by
  unfold left; exact if_pos h

theorem left_unused (c : Dev nD) (t : Fin grid0.N) (h : ¬ isUsed (grid0.coords t) (nu m) = true) : left m hO c t = k0_pay3 (F := F) := by
  unfold left; exact if_neg h

/-- An unused block's second half finds what its first half stored. -/
theorem before_7 (c : Dev nD) (t : Fin grid0.N) (h : t.val % 2 = 1) (hu : isUsed (grid0.coords t) (nu m) = false) (d) :
    (dats m hO 0 c).before 7 t d = k0_pay3 (F := F) := by
  rw [(dats m hO 0 c).before_of_pos 7 t (by omega) rfl d]
  have hf : ((cfg0 (adm m hO)).win 7).flush (prev t) = false := by
    rw [flush7]; exact decide_eq_false (by show ¬ (t.val - 1) % 2 = 1; omega)
  have hi : (cfg0 (adm m hO)).idle 7 (grid0.coords (prev t)) = false := by
    rw [idle7, used_prev t h, hu, decide_eq_true (by show (t.val - 1) % 2 = 0; omega)]; rfl
  refine (if_neg (ne_true_of_eq_false hf)).trans ?_
  unfold Dat.left
  have key : ∀ (b : Bool) (X Y : Vec F S512x2048 .f32), b = false → (match b with | true => X | false => Y) = Y := fun b X Y e => by subst e; rfl
  refine (key _ _ _ hi).trans ?_
  exact left_unused m hO c (prev t) (by rw [used_prev t h, hu]; exact Bool.false_ne_true)

/-! ## The body at a point -/

abbrev st0 (t : Fin grid0.N) : Memref sig .tc .vmem S512x2048 .f32 := spec0_0.stage ((cfg0 (adm m hO)).slots t 0)
abbrev wh0 (t : Fin grid0.N) : (st0 m hO t).IsWhole := hstage0_0 (((cfg0 (adm m hO)).slots t 0).cast nbuf0_0)
abbrev st1 (t : Fin grid0.N) : Memref sig .tc .vmem S1x2048x1024 .bf16 := spec0_1.stage ((cfg0 (adm m hO)).slots t 1)
abbrev wh1 (t : Fin grid0.N) : (st1 m hO t).IsWhole := hstage0_1 (((cfg0 (adm m hO)).slots t 1).cast nbuf0_1)
abbrev st2 (t : Fin grid0.N) : Memref sig .tc .vmem S1x2048x1024 .bf16 := spec0_2.stage ((cfg0 (adm m hO)).slots t 2)
abbrev wh2 (t : Fin grid0.N) : (st2 m hO t).IsWhole := hstage0_2 (((cfg0 (adm m hO)).slots t 2).cast nbuf0_2)
abbrev st3 (t : Fin grid0.N) : Memref sig .tc .vmem S1x1x1024 .f32 := spec0_3.stage ((cfg0 (adm m hO)).slots t 3)
abbrev wh3 (t : Fin grid0.N) : (st3 m hO t).IsWhole := hstage0_3 (((cfg0 (adm m hO)).slots t 3).cast nbuf0_3)
abbrev st4 (t : Fin grid0.N) : Memref sig .tc .vmem S1x1x1024 .f32 := spec0_4.stage ((cfg0 (adm m hO)).slots t 4)
abbrev wh4 (t : Fin grid0.N) : (st4 m hO t).IsWhole := hstage0_4 (((cfg0 (adm m hO)).slots t 4).cast nbuf0_4)
abbrev st5 (t : Fin grid0.N) : Memref sig .tc .vmem S1x1024x2048 .bf16 := spec0_5.stage ((cfg0 (adm m hO)).slots t 5)
abbrev wh5 (t : Fin grid0.N) : (st5 m hO t).IsWhole := hstage0_5 (((cfg0 (adm m hO)).slots t 5).cast nbuf0_5)
abbrev st6 (t : Fin grid0.N) : Memref sig .tc .vmem S1x1x2048 .f32 := spec0_6.stage ((cfg0 (adm m hO)).slots t 6)
abbrev wh6 (t : Fin grid0.N) : (st6 m hO t).IsWhole := hstage0_6 (((cfg0 (adm m hO)).slots t 6).cast nbuf0_6)
abbrev st7 (t : Fin grid0.N) : Memref sig .tc .vmem S512x2048 .f32 := spec0_7.stage ((cfg0 (adm m hO)).slots t 7)
abbrev wh7 (t : Fin grid0.N) : (st7 m hO t).IsWhole := hstage0_7 (((cfg0 (adm m hO)).slots t 7).cast nbuf0_7)

abbrev bodyT (t : Fin grid0.N) : Prog (TpuEff nD τ sig (Elt F) Λ₀ .tc) PUnit :=
  bodyP (grid0.coords t) (Memref.whole main_v19) (Memref.isWhole_whole _) (Memref.isWhole_whole _) (st0 m hO t) (wh0 m hO t) (st1 m hO t) (wh1 m hO t) (st2 m hO t) (wh2 m hO t) (st3 m hO t) (wh3 m hO t) (st4 m hO t) (wh4 m hO t) (st5 m hO t) (wh5 m hO t) (st6 m hO t) (wh6 m hO t) (st7 m hO t) (wh7 m hO t) (Memref.whole cc0_scratch0) (Memref.isWhole_whole _) (Memref.whole cc0_scratch1) (Memref.isWhole_whole _)

/-- The staged blocks at a point. -/
abbrev staged (c : Dev nD) (t : Fin grid0.N) : sProp 𝕄 :=
  blocks c (st0 m hO t) (st1 m hO t) (st2 m hO t) (st3 m hO t) (st4 m hO t) (st5 m hO t) (st6 m hO t) (iblk m hO c 0 t) (iblk m hO c 1 t) (iblk m hO c 2 t) (iblk m hO c 3 t) (iblk m hO c 4 t) (iblk m hO c 5 t) (iblk m hO c 6 t)

/-- What a point owes of a window: what it found where it neither stores nor flushes, else what it names. -/
def owed7 (b f : Bool) (P Q : sProp 𝕄) : sProp 𝕄 := match b with
  | true => match f with
    | false => P
    | true => Q
  | false => Q

theorem owed_stored {b f : Bool} {P Q : sProp 𝕄} (h : b = false ∨ f = true) : owed7 b f P Q = Q := by
  rcases h with rfl | rfl
  · rfl
  · cases b <;> rfl

theorem owed_kept {b f : Bool} {P Q : sProp 𝕄} (hb : b = true) (hf : f = false) : owed7 b f P Q = P := by subst hb hf; rfl

def bodyPre (c : Dev nD) (t : Fin grid0.N) : sProp 𝕄 :=
  iprop((dats m hO 0 c).Φ t.castSucc ∗ (dats m hO 0 c).owesAt () t.castSucc
    ∗ (∃ d, owns (c : Thread nD τ) (st0 m hO t) fullShare ((dats m hO 0 c).before 0 t d))
    ∗ (∃ d, owns (c : Thread nD τ) (st1 m hO t) fullShare ((dats m hO 0 c).before 1 t d))
    ∗ (∃ d, owns (c : Thread nD τ) (st2 m hO t) fullShare ((dats m hO 0 c).before 2 t d))
    ∗ (∃ d, owns (c : Thread nD τ) (st3 m hO t) fullShare ((dats m hO 0 c).before 3 t d))
    ∗ (∃ d, owns (c : Thread nD τ) (st4 m hO t) fullShare ((dats m hO 0 c).before 4 t d))
    ∗ (∃ d, owns (c : Thread nD τ) (st5 m hO t) fullShare ((dats m hO 0 c).before 5 t d))
    ∗ (∃ d, owns (c : Thread nD τ) (st6 m hO t) fullShare ((dats m hO 0 c).before 6 t d))
    ∗ (∃ d, owns (c : Thread nD τ) (st7 m hO t) fullShare ((dats m hO 0 c).before 7 t d)))

def bodyPost (b f : Bool) (c : Dev nD) (t : Fin grid0.N) : sProp 𝕄 :=
  iprop((dats m hO 0 c).Φ t.succ ∗ (dats m hO 0 c).owesAt () t.succ
    ∗ owns (c : Thread nD τ) (st0 m hO t) fullShare ((dats m hO 0 c).after 0 t)
    ∗ owns (c : Thread nD τ) (st1 m hO t) fullShare ((dats m hO 0 c).after 1 t)
    ∗ owns (c : Thread nD τ) (st2 m hO t) fullShare ((dats m hO 0 c).after 2 t)
    ∗ owns (c : Thread nD τ) (st3 m hO t) fullShare ((dats m hO 0 c).after 3 t)
    ∗ owns (c : Thread nD τ) (st4 m hO t) fullShare ((dats m hO 0 c).after 4 t)
    ∗ owns (c : Thread nD τ) (st5 m hO t) fullShare ((dats m hO 0 c).after 5 t)
    ∗ owns (c : Thread nD τ) (st6 m hO t) fullShare ((dats m hO 0 c).after 6 t)
    ∗ owed7 b f iprop(∃ d, owns (c : Thread nD τ) (st7 m hO t) fullShare ((dats m hO 0 c).before 7 t d)) (owns (c : Thread nD τ) (st7 m hO t) fullShare ((dats m hO 0 c).after 7 t)))

/-- A point's resources beside the result's buffer and the scratch. -/
theorem not_first {i : grid0.Coords} {n : BitVec 32} (h : ¬ (isUsed i n = true ∧ (i 1).val = 0)) : ¬ isFirst i n = 1#1 := fun e => h ((first_iff i n).mp e)
theorem not_second {i : grid0.Coords} {n : BitVec 32} (h : ¬ (isUsed i n = true ∧ (i 1).val = 1)) : ¬ k0_cond2 i n = 1#1 := fun e => h ((second_iff i n).mp e)

theorem sound_body (b f : Bool) (c : Dev nD) (t : Fin grid0.N) (hb : b = (isUsed (grid0.coords t) (nu m) == decide (t.val % 2 = 0))) (hf : f = decide (t.val % 2 = 1)) :
    bodyPre m hO c t ⊢ wp frame (wpE (defs₀ (F := F)) 𝒱s c none) Set.univ (bodyT m hO t) (fun _ => bodyPost m hO b f c t) := by
  unfold bodyPre bodyPost
  simp only [before_0, before_1, before_2, before_3, before_4, before_5, before_6]
  rw [show (dats m hO 0 c).Φ t.succ = iprop(carried m hO c (t.val + 1) ∗ (∃ r, prngReg c r) ∗ tables m c) from rfl,
    show (dats m hO 0 c).Φ t.castSucc = iprop(carried m hO c t.val ∗ (∃ r, prngReg c r) ∗ tables m c) from rfl,
    show (dats m hO 0 c).owesAt () t.succ = (dats m hO 0 c).owesAt () t.castSucc from rfl, after_0, after_1, after_2, after_3, after_4, after_5, after_6, after_7, hb, hf]
  have hc1 := co1 t
  unfold carried
  iintro ⟨⟨⟨%f0, %f1, HS, HP, %hk⟩, HR, HT0, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rcases hu : isUsed (grid0.coords t) (nu m) with _ | _ <;> rcases Nat.mod_two_eq_zero_or_one t.val with hp | hp
  · rw [hp] at hc1
    iapply (run_empty c (grid0.coords t) _ _ _ _ _ _ _ _ _ _ _ _ _ _ _ _ _ _ _ _ _ _ _ (tbl m 1) _ (not_first (by rw [hu]; exact fun h => Bool.false_ne_true h.1)) (not_second (by rw [hu]; exact fun h => Bool.false_ne_true h.1)) ((empty_iff _ _).mpr ⟨hu, hc1⟩) Set.univ _)
    isplitl [HT]; · iexact HT
    isplitl [H7]; · iexact H7
    iintro ⟨HT, H7⟩
    isplitl [HS HP HR HT0 HT]
    · isplitl [HS HP]
      · iexists _; iexists _
        isplitl [HS]; · iexact HS
        isplitl [HP]; · iexact HP
        ipureintro
        exact fun u e _ hu' => absurd (show isUsed (grid0.coords t) (nu m) = true from (Fin.ext (by omega) : u = t) ▸ hu') (by rw [hu]; exact Bool.false_ne_true)
      isplitl [HR]; · iexact HR
      isplitl [HT0]; · iexact HT0
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    rw [owed_stored, left_unused m hO c t (by rw [hu]; exact Bool.false_ne_true)]
    · iexact H7
    · left; rw [decide_eq_true hp]; rfl
  · rw [hp] at hc1
    iapply (run_rest c (grid0.coords t) _ _ _ _ _ _ _ _ _ _ _ _ _ _ _ _ _ _ _ _ _ _ _ (tbl m 1) (not_first (by rw [hu]; exact fun h => Bool.false_ne_true h.1)) (not_second (by rw [hu]; exact fun h => Bool.false_ne_true h.1)) (fun e => by have := ((empty_iff _ _).mp e).2; omega) Set.univ _)
    isplitl [HT]; · iexact HT
    iintro HT
    isplitl [HS HP HR HT0 HT]
    · isplitl [HS HP]
      · iexists _; iexists _
        isplitl [HS]; · iexact HS
        isplitl [HP]; · iexact HP
        ipureintro
        exact fun u e h' _ => by omega
      isplitl [HR]; · iexact HR
      isplitl [HT0]; · iexact HT0
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    rw [before_7 m hO c t hp hu, owed_stored, left_unused m hO c t (by rw [hu]; exact Bool.false_ne_true)]
    · iexact H7
    · exact .inr (decide_eq_true hp)
  · rw [hp] at hc1
    iapply (run_first c (grid0.coords t) _ _ _ _ _ _ _ _ _ _ _ _ _ _ _ _ _ _ _ _ _ _ _ (tbl m 1) _ _ _ _ _ _ _ _ _ ((first_iff _ _).mpr ⟨hu, hc1⟩) (not_second (fun h => by omega)) (fun e => absurd (hu.symm.trans ((empty_iff _ _).mp e).1) (by decide)) Set.univ _)
    isplitl [HT]; · iexact HT
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [HS]; · iexact HS
    isplitl [HP]; · iexact HP
    iintro ⟨HT, ⟨H0, H1, H2, H3, H4, H5, H6⟩, HS, HP⟩
    isplitl [HS HP HR HT0 HT]
    · isplitl [HS HP]
      · iexists _; iexists _
        isplitl [HS]; · iexact HS
        isplitl [HP]; · iexact HP
        ipureintro
        exact fun u e _ _ => by rw [(Fin.ext (by omega) : u = t)]; exact ⟨rfl, rfl⟩
      isplitl [HR]; · iexact HR
      isplitl [HT0]; · iexact HT0
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    rw [owed_kept]
    · iexists d7; iexact H7
    · rw [decide_eq_true hp]; rfl
    · exact decide_eq_false (by omega)
  · rw [hp] at hc1
    iapply (run_second c (grid0.coords t) _ _ _ _ _ _ _ _ _ _ _ _ _ _ _ _ _ _ _ _ _ _ _ (tbl m 1) _ _ _ _ _ _ _ _ _ _ (not_first (fun h => by omega)) ((second_iff _ _).mpr ⟨hu, hc1⟩) (fun e => absurd (hu.symm.trans ((empty_iff _ _).mp e).1) (by decide)) Set.univ _)
    isplitl [HT]; · iexact HT
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexact H7
    isplitl [HS]; · iexact HS
    isplitl [HP]; · iexact HP
    iintro ⟨HT, ⟨H0, H1, H2, H3, H4, H5, H6⟩, H7, HS, HP⟩
    obtain ⟨rfl, rfl⟩ := hk (prev t) (by show t.val - 1 + 1 = t.val; omega) (by show (t.val - 1) % 2 = 0; omega) (by rw [used_prev t hp, hu])
    isplitl [HS HP HR HT0 HT]
    · isplitl [HS HP]
      · iexists _; iexists _
        isplitl [HS]; · iexact HS
        isplitl [HP]; · iexact HP
        ipureintro
        exact fun u e h' _ => by omega
      isplitl [HR]; · iexact HR
      isplitl [HT0]; · iexact HT0
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    rw [owed_stored, left_used m hO c t hu]
    · iexact H7
    · exact .inr (decide_eq_true hp)

theorem row (t : Fin grid0.N) : defs₀ (F := F) .tc (cfg0 (adm m hO)).body ((cfg0 (adm m hO)).bodyArgs t ((cfg0 (adm m hO)).slots t)) = bodyT m hO t := by
  unfold defs₀; rw [Defs.onTc_tc]

theorem obligation (c : Dev nD) : BodyObligation (dats (F := F) m hO 0 c) (defs₀ (F := F)) 𝒱s () Set.univ := fun t => by
  rw [bigSep_W0, bigSep_W0, row]
  exact triple_restated (sound_body m hO _ _ c t (idle7 m hO t) (flush7 (adm m hO) t)) rfl .rfl fun _ => .rfl

end Cert.Kernel2Ideal.Experts

end
-- ==== Proof.Experts.PI.Frame.lean ====
/-
  The experts' call run: every final state of the program: the arguments unchanged, the counters at zero, the result's
  array at what the points leave.
-/
module

public import proofs.«01_k».proof.Proof.Experts.PI.Points
public import proofs.«01_k».proof.Proof.Gen.Kernel2Ideal.Launch
public import Idealize.ShloMosaic.Lib.Claim

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : ok0 (tbl m))

theorem tbl_eq (c : Dev nD) (k : Fin 2) : V m c (pre0.ref k) = tbl m k := by
  rw [Subsingleton.elim c 0]; rfl

theorem enter (c : Dev nD) : iprop(Pipeline.ΦA spec0 c ∗ Pipeline.ΦT pre0 (tbl m) c) ⊢ (dats (F := F) m hO 0 c).Φ 0 := by
  rw [show (dats (F := F) m hO 0 c).Φ 0 = iprop(carried m hO c 0 ∗ (∃ r, prngReg c r) ∗ tables m c) from rfl]
  unfold Pipeline.ΦA Pipeline.ΦT Pipeline.prefHeld carried
  rw [scopedRest0_eq, show (Finset.univ : Finset (Fin 2)) = {0, 1} from by decide, bigSep_insert (by decide), bigSep_singleton]
  rw [show ∀ X Y : sProp 𝕄, BI.sep X Y = iprop(X ∗ Y) from fun _ _ => rfl]
  iintro ⟨⟨⟨⟨%f0, HS⟩, ⟨%f1, HP⟩⟩, HR⟩, HT0, HT⟩
  isplitl [HS HP]
  · iexists f0; iexists f1
    isplitl [HS]; · rw [owns_whole]; iexact HS
    isplitl [HP]; · rw [owns_whole]; iexact HP
    ipureintro
    exact fun u e _ _ => by omega
  isplitl [HR]; · iexact HR
  isplitl [HT0]; · iexact HT0
  iexact HT

theorem leave (c : Dev nD) : (dats (F := F) m hO 0 c).Φ (Fin.last grid0.N) ⊢ Pipeline.ΦA spec0 c := by
  rw [show (dats (F := F) m hO 0 c).Φ (Fin.last grid0.N) = iprop(carried m hO c grid0.N ∗ (∃ r, prngReg c r) ∗ tables m c) from rfl]
  unfold Pipeline.ΦA carried
  rw [scopedRest0_eq]
  simp only [owns_whole]
  iintro ⟨⟨%f0, %f1, HS, HP, -⟩, HR, -⟩
  isplitl [HS HP]
  · isplitl [HS]
    · iexists _; iexact HS
    · iexists _; iexact HP
  iexact HR

set_option backward.isDefEq.respectTransparency.types false in
theorem run_quiet : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ 𝒱s m ρ main
    (hbody := fun c => (obligation m hO c).loose) (hshare := fun c w => by fin_cases w <;> rfl)
    (howed := fun _ _ => rfl) (V := V m) (hmain := entry m) (hA := dats_A m hO) (hpf := tbl_eq m)
    (hin := enter m hO) (hout := leave m hO)

theorem run_blocks : θ_run defs (onTc (τ := τ) (main (F := F))) (s₀ m ρ) (Pipeline.FramePost (Pipeline.pin pcfgs fun _ => adm m hO) (dats m hO) 0 (V m)) :=
  (θ_run defs _ _).mono (fun _ h => h.1) (run_quiet m ρ hO)

/-- The host stretch writes none of the arguments. -/
theorem unwritten (b : Ref sig .tc) (hb : b ∉ [main_v0, main_v1, main_v2, main_v3, main_v4, main_v5, main_v6, main_v7, main_v8, main_c, main_v9, main_c_0, main_v10, main_c_1, main_v11, main_v12, main_v13, main_v14, main_v15, main_v16, main_v17, main_v18, main_v19]) (c : Dev nD) : V m c b = m ((c : Thread nD τ).loc b) :=
  StableHlo.after_of_forall_not_mem (b := Proc.devRef .tc b) _ _ (List.forall_iff_forall_mem.mp (by
    simp only [List.mem_cons, List.not_mem_nil, or_false, not_or] at hb
    simp only [hostOps0, List.Forall, StableHlo.unary_writes, StableHlo.reshape_writes, StableHlo.nullary_writes, StableHlo.binary_writes, StableHlo.ternary_writes, StableHlo.unaryIndexed_writes, Finset.mem_singleton]
    obtain ⟨h0, h1, h2, h3, h4, h5, h6, h7, h8, h9, h10, h11, h12, h13, h14, h15, h16, h17, h18, h19, h20, h21, h22⟩ := hb
    exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5, StableHlo.devRef_ne_of_ne h6, StableHlo.devRef_ne_of_ne h7, StableHlo.devRef_ne_of_ne h8, StableHlo.devRef_ne_of_ne h9, StableHlo.devRef_ne_of_ne h10, StableHlo.devRef_ne_of_ne h11, StableHlo.devRef_ne_of_ne h12, StableHlo.devRef_ne_of_ne h13, StableHlo.devRef_ne_of_ne h14, StableHlo.devRef_ne_of_ne h15, StableHlo.devRef_ne_of_ne h16, StableHlo.devRef_ne_of_ne h17, StableHlo.devRef_ne_of_ne h18, StableHlo.devRef_ne_of_ne h19, StableHlo.devRef_ne_of_ne h20, StableHlo.devRef_ne_of_ne h21, StableHlo.devRef_ne_of_ne h22⟩))

end Cert.Kernel2Ideal.Experts

end
-- ==== Proof.Experts.PI.Ok.lean ====
/-
  The blocks the experts' call moves lie inside their arrays when every entry of its table names an expert and at least
  one block is used; and where each block lies.
-/
module

public import proofs.«01_k».proof.Proof.Experts.PI.Frame
public import Idealize.ShloMosaic.Lib.Claim
public import Idealize.ShloMosaic.Lib.Pointwise

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre0.Contents (Elt F)) (i : grid0.Coords)

/-! ## The words the block indices are computed from -/

/-- The expert the table names for a point's block. -/
abbrev expert : BitVec 32 := pf 0 (ix1 (i 0 : Fin 288))

/-- The half of the hidden columns a point works on: its own on a used block, else the last. -/
abbrev half : BitVec 32 := Scalar.select (Scalar.cmpi .slt (BitVec.ofNat 32 (i 0).val) (used (pf 1))) (BitVec.ofNat 32 (i 1).val) 1#32

/-- The block of rows a point reads: its own on a used block, else the last used one. -/
abbrev rowBlk : BitVec 32 := Scalar.minsi (BitVec.ofNat 32 (i 0).val) (Scalar.subi (used (pf 1)) 1#32)

theorem i0_toNat : (BitVec.ofNat 32 (i 0).val).toNat = (i 0).val := by
  rw [BitVec.toNat_ofNat]
  have : (i 0).val < 288 := (i 0).isLt
  exact Nat.mod_eq_of_lt (by omega)

theorem i1_toNat : (BitVec.ofNat 32 (i 1).val).toNat = (i 1).val := by
  rw [BitVec.toNat_ofNat]
  have : (i 1).val < 2 := (i 1).isLt
  exact Nat.mod_eq_of_lt (by omega)

theorem used_iff (n : BitVec 32) : isUsed i n = true ↔ ((i 0).val : ℤ) < n.toInt := by
  have h0 : (i 0).val < 288 := (i 0).isLt
  unfold isUsed
  rw [decide_eq_true_iff]
  show BitVec.ofBool (BitVec.slt _ _) = 1#1 ↔ _
  have e : (BitVec.ofNat 32 (i 0).val).toInt = ((i 0).val : ℤ) := by
    rw [BitVec.toInt_eq_toNat_of_lt (by rw [i0_toNat]; omega), i0_toNat]
  rw [← e, ← BitVec.slt_iff_toInt_lt]
  cases BitVec.slt (BitVec.ofNat 32 (i 0).val) n <;> decide

theorem half_lt : (half pf i).toNat < 2 := by
  show (if _ = 1#1 then BitVec.ofNat 32 (i 1).val else 1#32).toNat < 2
  have h1 : (i 1).val < 2 := (i 1).isLt
  split
  · rw [i1_toNat]; exact h1
  · decide

theorem half_used (h : isUsed i (used (pf 1)) = true) : (half pf i).toNat = (i 1).val := by
  unfold isUsed at h
  rw [decide_eq_true_iff] at h
  show (if _ = 1#1 then BitVec.ofNat 32 (i 1).val else 1#32).toNat = _
  rw [if_pos h, i1_toNat]

theorem pred_toNat (n : BitVec 32) (h : 1 ≤ n.toInt) : (n - 1#32).toNat = n.toNat - 1 ∧ n.toInt = n.toNat ∧ 1 ≤ n.toNat ∧ n.toNat < 2 ^ 31 := by
  have hn := n.isLt
  have e : n.toInt = n.toNat := by
    rw [BitVec.toInt_eq_toNat_cond] at h ⊢
    split at h <;> split <;> omega
  rw [BitVec.toInt_eq_toNat_cond] at e
  have : n.toNat < 2 ^ 31 := by split at e <;> omega
  have h1 : 1 ≤ n.toNat := by rw [BitVec.toInt_eq_toNat_cond] at h; split at h <;> omega
  refine ⟨?_, ?_, h1, this⟩
  · rw [BitVec.toNat_sub]
    show (2 ^ 32 - 1 + n.toNat) % 2 ^ 32 = _
    omega
  · rw [BitVec.toInt_eq_toNat_of_lt (by omega)]

theorem rowBlk_toNat (h : 1 ≤ (used (pf 1)).toInt) : (rowBlk pf i).toNat = min (i 0).val ((used (pf 1)).toInt.toNat - 1) := by
  obtain ⟨e, e', h1, h2⟩ := pred_toNat _ h
  have h0 : (i 0).val < 288 := (i 0).isLt
  rw [e']
  have es : BitVec.slt (BitVec.ofNat 32 (i 0).val) (used (pf 1) - 1#32) = true ↔ (i 0).val < (used (pf 1)).toNat - 1 := by
    rw [BitVec.slt_iff_toInt_lt, BitVec.toInt_eq_toNat_of_lt (by rw [i0_toNat]; omega), BitVec.toInt_eq_toNat_of_lt (by rw [e]; omega), i0_toNat, e]
    omega
  show (if BitVec.slt (BitVec.ofNat 32 (i 0).val) (used (pf 1) - 1#32) = true then BitVec.ofNat 32 (i 0).val else used (pf 1) - 1#32).toNat = _
  rw [Int.toNat_natCast]
  split
  · rename_i hs; rw [i0_toNat]; have := es.mp hs; omega
  · rename_i hs; rw [e]; have := mt es.mpr hs; omega

theorem rowBlk_used (h : 1 ≤ (used (pf 1)).toInt) (hu : isUsed i (used (pf 1)) = true) : (rowBlk pf i).toNat = (i 0).val := by
  rw [rowBlk_toNat pf i h]
  have := (used_iff i _).mp hu
  omega

theorem rowBlk_lt (h : 1 ≤ (used (pf 1)).toInt) : (rowBlk pf i).toNat < 288 := by
  rw [rowBlk_toNat pf i h]
  have h0 : (i 0).val < 288 := (i 0).isLt
  omega

/-! ## Where the blocks lie -/

theorem at_count : pf.at 1 (Rect.unit (s := S1) ![0] S1.size inb_S1_S1_0) numel1_S1 = used (pf 1) := by
  unfold Pipeline.Prefetch.Contents.at
  refine congrArg (pf 1) ?_
  funext a
  apply Fin.ext
  have h1 : ∀ a : Fin 1, S1.size a = 1 := by decide
  have e : ∀ y : Fin (S1.size a), y.val = 0 := fun y => by have := h1 a; have := y.isLt; omega
  exact (e _).trans (e ⟨_, _⟩).symm

theorem at_expert (h : ∀ a, (![(Scalar.indexCast (BitVec.ofNat 32 (i 0).val)).toNat] : Fin 1 → ℕ) a + S1.size a ≤ S288.size a) : pf.at 0 (Rect.unit (s := S288) ![(Scalar.indexCast (BitVec.ofNat 32 (i 0).val)).toNat] S1.size h) numel1_S1 = expert pf i := by
  unfold Pipeline.Prefetch.Contents.at
  refine congrArg (pf 0) ?_
  funext a
  apply Fin.ext
  match a with
  | ⟨0, _⟩ =>
    show (BitVec.ofNat 32 (i 0).val).toNat + 1 * 0 = (i 0).val
    rw [i0_toNat]; omega

theorem tr0 : cc0_transform_0 inb_S1_S1_0 numel1_S1 pf i = ![(rowBlk pf i).toNat, 0] := by
  unfold cc0_transform_0; dsimp only; rw [at_count]; rfl
theorem tr1 : cc0_transform_1 k0_off1_inb numel1_S1 inb_S1_S1_0 pf i = ![(expert pf i).toNat, 0, (half pf i).toNat] :=
  congrArg₂ (fun a b : BitVec 32 => ![a.toNat, 0, (Scalar.select (Scalar.cmpi .slt (BitVec.ofNat 32 (i 0).val) b) (BitVec.ofNat 32 (i 1).val) 1#32).toNat]) (at_expert pf i (k0_off1_inb i)) (at_count pf)
theorem tr2 : cc0_transform_2 k0_off1_inb numel1_S1 inb_S1_S1_0 pf i = ![(expert pf i).toNat, 0, (half pf i).toNat] :=
  congrArg₂ (fun a b : BitVec 32 => ![a.toNat, 0, (Scalar.select (Scalar.cmpi .slt (BitVec.ofNat 32 (i 0).val) b) (BitVec.ofNat 32 (i 1).val) 1#32).toNat]) (at_expert pf i (k0_off1_inb i)) (at_count pf)
theorem tr3 : cc0_transform_3 k0_off1_inb numel1_S1 inb_S1_S1_0 pf i = ![(expert pf i).toNat, 0, (half pf i).toNat] :=
  congrArg₂ (fun a b : BitVec 32 => ![a.toNat, 0, (Scalar.select (Scalar.cmpi .slt (BitVec.ofNat 32 (i 0).val) b) (BitVec.ofNat 32 (i 1).val) 1#32).toNat]) (at_expert pf i (k0_off1_inb i)) (at_count pf)
theorem tr4 : cc0_transform_4 k0_off1_inb numel1_S1 inb_S1_S1_0 pf i = ![(expert pf i).toNat, 0, (half pf i).toNat] :=
  congrArg₂ (fun a b : BitVec 32 => ![a.toNat, 0, (Scalar.select (Scalar.cmpi .slt (BitVec.ofNat 32 (i 0).val) b) (BitVec.ofNat 32 (i 1).val) 1#32).toNat]) (at_expert pf i (k0_off1_inb i)) (at_count pf)
theorem tr5 : cc0_transform_5 k0_off1_inb numel1_S1 inb_S1_S1_0 pf i = ![(expert pf i).toNat, (half pf i).toNat, 0] :=
  congrArg₂ (fun a b : BitVec 32 => ![a.toNat, (Scalar.select (Scalar.cmpi .slt (BitVec.ofNat 32 (i 0).val) b) (BitVec.ofNat 32 (i 1).val) 1#32).toNat, 0]) (at_expert pf i (k0_off1_inb i)) (at_count pf)
theorem tr6 : cc0_transform_6 k0_off1_inb numel1_S1 pf i = ![(expert pf i).toNat, 0, 0] :=
  congrArg (fun a : BitVec 32 => ![a.toNat, 0, 0]) (at_expert pf i (k0_off1_inb i))
theorem tr7 : cc0_transform_7 i = ![(i 0).val, 0] := by
  unfold cc0_transform_7; dsimp only; rw [i0_toNat]; rfl

/-- Every block lies inside its array. -/
theorem ok_of (h0 : ∀ j, (pf 0 j).toNat < 32) (h1 : 1 ≤ (used (pf 1)).toInt) : ok0 pf := by
  have hr := fun i => rowBlk_lt pf i h1
  have hh := half_lt pf
  have he : ∀ i : grid0.Coords, (expert pf i).toNat < 32 := fun i => h0 _
  unfold ok0
  refine ⟨fun i => ⟨?_, .inl rfl⟩, fun i => ⟨?_, .inr ?_⟩, fun i => ⟨?_, .inr ?_⟩, fun i => ⟨?_, .inl rfl⟩, fun i => ⟨?_, .inl rfl⟩, fun i => ⟨?_, .inr ?_⟩, fun i => ⟨?_, .inl rfl⟩⟩
  · rw [tr0]
    intro a
    match a with
    | ⟨0, _⟩ => show ((rowBlk pf i).toNat + 1) * 512 ≤ 147456; have := hr i; omega
    | ⟨1, _⟩ => show (0 + 1) * 2048 ≤ 2048; omega
  · rw [tr1]
    intro a
    match a with
    | ⟨0, _⟩ => show ((expert pf i).toNat + 1) * 1 ≤ 32; have := he i; omega
    | ⟨1, _⟩ => show (0 + 1) * 2048 ≤ 2048; omega
    | ⟨2, _⟩ => show ((half pf i).toNat + 1) * 1024 ≤ 2048; have := hh i; omega
  · exact .inl (.inr ⟨by decide, rfl, .inl ⟨(show 2 ∣ _ * 2048 from Dvd.dvd.mul_left (by decide) _), ⟨1024, rfl⟩⟩⟩)
  · rw [tr2]
    intro a
    match a with
    | ⟨0, _⟩ => show ((expert pf i).toNat + 1) * 1 ≤ 32; have := he i; omega
    | ⟨1, _⟩ => show (0 + 1) * 2048 ≤ 2048; omega
    | ⟨2, _⟩ => show ((half pf i).toNat + 1) * 1024 ≤ 2048; have := hh i; omega
  · exact .inl (.inr ⟨by decide, rfl, .inl ⟨(show 2 ∣ _ * 2048 from Dvd.dvd.mul_left (by decide) _), ⟨1024, rfl⟩⟩⟩)
  · rw [tr3]
    intro a
    match a with
    | ⟨0, _⟩ => show ((expert pf i).toNat + 1) * 1 ≤ 32; have := he i; omega
    | ⟨1, _⟩ => show (0 + 1) * 1 ≤ 1; omega
    | ⟨2, _⟩ => show ((half pf i).toNat + 1) * 1024 ≤ 2048; have := hh i; omega
  · rw [tr4]
    intro a
    match a with
    | ⟨0, _⟩ => show ((expert pf i).toNat + 1) * 1 ≤ 32; have := he i; omega
    | ⟨1, _⟩ => show (0 + 1) * 1 ≤ 1; omega
    | ⟨2, _⟩ => show ((half pf i).toNat + 1) * 1024 ≤ 2048; have := hh i; omega
  · rw [tr5]
    intro a
    match a with
    | ⟨0, _⟩ => show ((expert pf i).toNat + 1) * 1 ≤ 32; have := he i; omega
    | ⟨1, _⟩ => show ((half pf i).toNat + 1) * 1024 ≤ 2048; have := hh i; omega
    | ⟨2, _⟩ => show (0 + 1) * 2048 ≤ 2048; omega
  · exact .inl (.inr ⟨by decide, rfl, .inl ⟨(show 2 ∣ _ * 1024 from Dvd.dvd.mul_left (by decide) _), ⟨512, rfl⟩⟩⟩)
  · rw [tr6]
    intro a
    match a with
    | ⟨0, _⟩ => show ((expert pf i).toNat + 1) * 1 ≤ 32; have := he i; omega
    | ⟨1, _⟩ => show (0 + 1) * 1 ≤ 1; omega
    | ⟨2, _⟩ => show (0 + 1) * 2048 ≤ 2048; omega

/-! ## The table -/

variable (m : (ℓ : Loc nD τ sig) → Buf (Elt F) ℓ)

/-- The blocks' experts and the count of used blocks, as the arguments give them. -/
abbrev blockExperts : IVec S288 32 := m (((0 : Dev nD) : Thread nD τ).loc main_arg1)
abbrev count : IVec S1 32 := m (((0 : Dev nD) : Thread nD τ).loc main_arg2)

theorem tbl_1 : tbl m 1 = count m := unwritten m main_arg2 (by decide) 0

/-- The table as the host's operations leave it. -/
theorem tbl_0_eq : ∃ z : Fin 1 → ℤ, tbl m 0 = select (cmpi .slt (iotaInDim S288 32 0) (broadcastInDim S288 ![] bcast_S_S288 (shapeCast S_ (count m) shapeCasts_S1_S_)))
    (blockExperts m) (broadcastInDim S288 ![0] bcast_S1_S288_0 (Host.dynamicSlice S1 (blockExperts m) z sliceFits_S288_S1)) := by
  rw [show tbl m 0 = StableHlo.after hostOps0 (fun b => m ((0 : Dev nD), b)) (Proc.devRef .tc main_v19) from rfl]
  simp only [hostOps0, StableHlo.after_cons, StableHlo.after_nil]
  exact ⟨_, rfl⟩

theorem one_idx (x y : S1.Idx) : x = y := by
  have h1 : ∀ a : Fin 1, S1.size a = 1 := by decide
  funext a
  apply Fin.ext
  have e : ∀ y : Fin (S1.size a), y.val = 0 := fun y => by have := h1 a; have := y.isLt; omega
  exact (e _).trans (e _).symm

/-- An entry of the table: a used block's expert, else some block's. -/
theorem tbl_0 (j : S288.Idx) : ∃ j', tbl m 0 j = blockExperts m j' ∧ (((j 0).val : ℤ) < (used (count m)).toInt → j' = j) := by
  obtain ⟨z, hz⟩ := tbl_0_eq m
  have hj : (j 0).val < 288 := (j 0).isLt
  have e : select (cmpi .slt (iotaInDim S288 32 0) (broadcastInDim S288 ![] bcast_S_S288 (shapeCast S_ (count m) shapeCasts_S1_S_)))
    (blockExperts m) (broadcastInDim S288 ![0] bcast_S1_S288_0 (Host.dynamicSlice S1 (blockExperts m) z sliceFits_S288_S1)) j
      = if BitVec.ofBool (BitVec.slt (BitVec.ofNat 32 (j 0).val) (used (count m))) = 1#1 then blockExperts m j
        else broadcastInDim S288 ![0] bcast_S1_S288_0 (Host.dynamicSlice S1 (blockExperts m) z sliceFits_S288_S1) j := by
    rw [show used (count m) = broadcastInDim S288 ![] bcast_S_S288 (shapeCast S_ (count m) shapeCasts_S1_S_) j from congrArg (count m) (one_idx _ _)]
    rfl
  rw [hz, e]
  have es : BitVec.slt (BitVec.ofNat 32 (j 0).val) (used (count m)) = true ↔ ((j 0).val : ℤ) < (used (count m)).toInt := by
    rw [BitVec.slt_iff_toInt_lt, BitVec.toInt_eq_toNat_of_lt (by rw [BitVec.toNat_ofNat]; omega), BitVec.toNat_ofNat, Nat.mod_eq_of_lt (by omega)]
  split
  · exact ⟨j, rfl, fun _ => rfl⟩
  · rename_i hn
    refine ⟨_, rfl, fun hlt => absurd ?_ hn⟩
    rw [es.mpr hlt]; rfl

end Cert.Kernel2Ideal.Experts

end
-- ==== Proof.Experts.PI.Run.lean ====
/-
  The experts' call from any memory its precondition admits: the tables are admitted, the arguments end unchanged and every
  counter ends at zero.
-/
module

public import proofs.«01_k».proof.Proof.Experts.PI.Ok
public import proofs.«01_k».proof.Pre_routed
public import Idealize.ShloMosaic.Lib.Claim

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every argument ends as it began. -/
def Kept (s : MemSt nD τ sig (Elt F)) : Prop := ∀ c : Dev nD,
s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)

/-- What the precondition says: every block names an expert, and at least one block is used. -/
theorem routed_words [Cert.Pre_routed.Facts] (h : ∀ c : Dev nD, Cert.Pre_routed.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = fun _ => 1#1) :
    (∀ j, 0 ≤ (blockExperts m j).toInt ∧ (blockExperts m j).toInt < 32) ∧ 1 ≤ (used (count m)).toInt := by
  have key : ∀ j : S288.Idx, (BitVec.ofBool (BitVec.sle 0#32 (blockExperts m j)) &&& BitVec.ofBool (BitVec.slt (blockExperts m j) 32#32)) &&& BitVec.ofBool (BitVec.sle 1#32 (used (count m))) = 1#1 := fun j => by
    refine Eq.trans ?_ (congrFun (h 0) j)
    rw [show used (count m) = broadcastInDim S288 ![] bcast_S_S288 (shapeCast S_ (count m) shapeCasts_S1_S_) j from congrArg (count m) (one_idx _ _)]
    rfl
  have split3 : ∀ a b d : Bool, (BitVec.ofBool a &&& BitVec.ofBool b) &&& BitVec.ofBool d = 1#1 → a = true ∧ b = true ∧ d = true := by decide
  refine ⟨fun j => ?_, ?_⟩
  · obtain ⟨h1, h2, -⟩ := split3 _ _ _ (key j)
    exact ⟨BitVec.sle_iff_toInt_le.mp h1, BitVec.slt_iff_toInt_lt.mp h2⟩
  · obtain ⟨-, -, h3⟩ := split3 _ _ _ (key (ix1 (0 : Fin 288)))
    exact BitVec.sle_iff_toInt_le.mp h3

/-- No window stages these. -/
theorem unstaged : ∀ b ∈ ([main_arg1, main_arg2, main_arg3, main_arg4, main_arg5, main_arg6, main_arg7] : List (Ref sig .tc)), ∀ w : Fin 8, (spec0 w).arr.view.ref ≠ b := by decide

variable (hw : (∀ j, 0 ≤ (blockExperts m j).toInt ∧ (blockExperts m j).toInt < 32) ∧ 1 ≤ (used (count m)).toInt)
include hw

theorem admitted : ok0 (tbl m) := by
  refine ok_of (tbl m) (fun j => ?_) ?_
  · obtain ⟨j', e, -⟩ := tbl_0 m j
    rw [e]
    obtain ⟨h1, h2⟩ := hw.1 j'
    have hn := (blockExperts m j').isLt
    rw [BitVec.toInt_eq_toNat_cond] at h1 h2
    split at h1 <;> split at h2 <;> omega
  · rw [tbl_1]; exact hw.2

theorem kept_of {r : PUnit × MemSt nD τ sig (Elt F)}
    (h : Pipeline.FramePost (Pipeline.pin pcfgs fun _ => adm m (admitted m hw)) (dats m (admitted m hw)) 0 (V m) r) : Kept m r.2 := fun c =>
  ⟨((h c).1 0).trans (((dats m (admitted m hw) 0 c).arrAt_in 0 rfl _).trans ((dats_A m (admitted m hw) c 0).trans (unwritten m main_arg0 (by decide) c))),
    ((h c).2 main_arg1 (Pipeline.mem_restRefs_of main_arg1 (by decide) (unstaged main_arg1 (by decide)))).trans (unwritten m main_arg1 (by decide) c),
    ((h c).2 main_arg2 (Pipeline.mem_restRefs_of main_arg2 (by decide) (unstaged main_arg2 (by decide)))).trans (unwritten m main_arg2 (by decide) c),
    ((h c).2 main_arg3 (Pipeline.mem_restRefs_of main_arg3 (by decide) (unstaged main_arg3 (by decide)))).trans (unwritten m main_arg3 (by decide) c),
    ((h c).2 main_arg4 (Pipeline.mem_restRefs_of main_arg4 (by decide) (unstaged main_arg4 (by decide)))).trans (unwritten m main_arg4 (by decide) c),
    ((h c).2 main_arg5 (Pipeline.mem_restRefs_of main_arg5 (by decide) (unstaged main_arg5 (by decide)))).trans (unwritten m main_arg5 (by decide) c),
    ((h c).2 main_arg6 (Pipeline.mem_restRefs_of main_arg6 (by decide) (unstaged main_arg6 (by decide)))).trans (unwritten m main_arg6 (by decide) c),
    ((h c).2 main_arg7 (Pipeline.mem_restRefs_of main_arg7 (by decide) (unstaged main_arg7 (by decide)))).trans (unwritten m main_arg7 (by decide) c)⟩

/-- The frame: the arguments end unchanged and every counter at zero. -/
theorem frame : θ_run defs (onTc (τ := τ) (main (F := F))) ⟨m, fun _ => 0, ρ⟩ (fun r => Kept m r.2 ∧ r.2.sem = fun _ => 0) :=
  (θ_run defs _ _).mono (fun _ h => ⟨kept_of m hw h.1, h.2⟩) (run_quiet m ρ (admitted m hw))

end Cert.Kernel2Ideal.Experts

end
-- ==== Proof.Experts.Same.lean ====
/-
  The experts' call as printed and as idealized are one text: no operation of it is rewritten. So the run of the one, which
  holds of every float instance, is the run of the other.
-/
module

public import proofs.«01_k».proof.Defs
public import proofs.«01_k».proof.Proof.Experts.PI.Run
public import proofs.«01_k».proof.Proof.Gen.Kernel2.Skeleton

@[expose] public section

set_option maxRecDepth 65536
set_option maxHeartbeats 8000000

noncomputable section

namespace Cert.Experts

open Idealize.ShloMosaic Idealize.ShloMosaic.TcCoe Idealize.SL.Sem

section Text

local instance facts : Cert.Kernel2.Facts := Cert.Kernel2.Gen.facts
local instance facts' : Cert.Kernel2Ideal.Facts := Cert.Kernel2Ideal.Gen.facts

variable {F : FTy → Type} [FloatOps F]

theorem bodies : (@Cert.Kernel2.cc0_moe_experts F _ _) = @Cert.Kernel2Ideal.cc0_moe_experts F _ _ := rfl

theorem defs₀_same : (Cert.Kernel2.defs₀ (F := F)) = Cert.Kernel2Ideal.defs₀ := by
  unfold Cert.Kernel2.defs₀ Cert.Kernel2Ideal.defs₀
  refine congrArg Defs.onTc ?_
  funext l x
  match l, x with
  | 0, (t, s) => rfl
  | ⟨_ + 1, h⟩, _ => exact absurd h (Nat.not_lt.2 (Nat.le_add_left _ _))

theorem pcfgs_same : (Cert.Kernel2.pcfgs (F := F)) = Cert.Kernel2Ideal.pcfgs := rfl

theorem defs_same : (Cert.Kernel2.defs (F := F)) = Cert.Kernel2Ideal.defs :=
  congrArg (fun D : Defs Cert.Kernel2.nD Cert.Kernel2.τ Cert.Kernel2.sig (Elt F) Cert.Kernel2.Λ₀ => Pipeline.defs Cert.Kernel2.pcfgs D) defs₀_same

theorem main_same : (Cert.Kernel2.main (F := F)) = Cert.Kernel2Ideal.main := rfl

end Text

variable [hPre : Cert.Pre_routed.Facts]

theorem frame_pi : quiescent_Kernel2Ideal (hKernel2Ideal := Cert.Kernel2Ideal.Gen.facts) := fun m g h =>
  Cert.Kernel2Ideal.Experts.frame m g (Cert.Kernel2Ideal.Experts.routed_words m h)

theorem frame_p : quiescent_Kernel2 (hKernel2 := Cert.Kernel2.Gen.facts) := fun m g h => by
  have e := Cert.Kernel2Ideal.Experts.frame (F := Bits) m g (Cert.Kernel2Ideal.Experts.routed_words (F := Bits) m h)
  rw [← main_same, ← defs_same] at e
  exact e

end Cert.Experts

end
-- ==== Proof.Experts.Value.Pays.lean ====
/-
  What the experts' points compute, read at an index over the extended reals.
-/
module

public import proofs.«01_k».proof.Proof.Gen.Kernel2Ideal.Skeleton
public import Idealize.ShloMosaic.Lib.Pointwise

@[expose] public section

set_option maxRecDepth 16384

noncomputable section

namespace Cert.Experts

open Idealize.ShloMosaic Idealize.ShloMosaic.TcCoe

/-- The gated unit: the clamped gate times its sigmoid, times one more than the clamped linear half. -/
def unit (p q : EReal) : EReal :=
  min p (Ideal.ofBits .f32 0x40E00000#32) * Ideal.logistic (Ideal.ofBits .f32 0x3FD9DB23#32 * min p (Ideal.ofBits .f32 0x40E00000#32))
    * (min (Ideal.ofBits .f32 0x40E00000#32) (max (Ideal.ofBits .f32 0xC0E00000#32) q) + Ideal.ofBits .f32 0x3F800000#32)

end Cert.Experts

namespace Cert.Kernel2Ideal.Experts

open Cert.Kernel2Ideal Cert.Kernel2Ideal.Gen Cert.Experts
open Idealize.ShloMosaic Idealize.ShloMosaic.TcCoe

theorem pay6_at (x : Vec Ideal S512x2048 .f32) (wg wl : Vec Ideal S1x2048x1024 .bf16) (bg bl : Vec Ideal S1x1x1024 .f32) (r : Fin 512) (f : Fin 1024) :
    k0_pay6 x wg bg wl bl (ix2 r f)
      = unit (∑ k, x (ix2 r k) * wg (ix3 0 k f) + bg (ix3 0 0 f)) (∑ k, x (ix2 r k) * wl (ix3 0 k f) + bl (ix3 0 0 f)) := by
  pointwise [k0_pay6, k0_pay4, unit]

theorem pay1_at (a : FVec Ideal S512x1024 .bf16) (w : Vec Ideal S1x1024x2048 .bf16) (r : Fin 512) (d : Fin 2048) :
    k0_pay1 a w (ix2 r d) = ∑ f, a (ix2 r f) * w (ix3 0 f d) := by
  pointwise [k0_pay1]

theorem pay7_at (x : Vec Ideal S512x2048 .f32) (wg wl : Vec Ideal S1x2048x1024 .bf16) (bg bl : Vec Ideal S1x1x1024 .f32) (w : Vec Ideal S1x1024x2048 .bf16) :
    k0_pay7 (k0_pay5 x) wg bg wl bl w = k0_pay1 (k0_pay6 x wg bg wl bl) w := by
  funext j
  obtain ⟨r, c, rfl⟩ : ∃ r c, j = ix2 r c := ⟨_, _, eq_ix2 j⟩
  pointwise [k0_pay7, k0_pay5, k0_pay4, k0_pay1, k0_pay6]

theorem pay2_at (a b : Vec Ideal S512x2048 .f32) (b2 : Vec Ideal S1x1x2048 .f32) (r : Fin 512) (d : Fin 2048) :
    k0_pay2 a b b2 (ix2 r d) = a (ix2 r d) + b (ix2 r d) + b2 (ix3 0 0 d) := by
  pointwise [k0_pay2]

theorem pay3_at (j : S512x2048.Idx) : k0_pay3 (F := Ideal) j = 0 := by
  pointwise [k0_pay3]

end Cert.Kernel2Ideal.Experts

end
-- ==== Proof.Experts.Value.Result.lean ====
/-
  The experts' result array over the extended reals: each used block's rows through their expert's gated unit, nothing in a
  block not used. The blocks the points store cover the array, so a run ends with it.
-/
module

public import proofs.«01_k».proof.Proof.Experts.Value.Pays
public import proofs.«01_k».proof.Proof.Experts.PI.Run

@[expose] public section

set_option maxRecDepth 16384

noncomputable section

namespace Cert.Kernel2Ideal.Experts

open Cert.Kernel2Ideal Cert.Kernel2Ideal.Gen Cert.Experts
open Idealize.ShloMosaic Idealize.ShloMosaic.TcCoe Idealize.SL.Sem
open Idealize.ShloMosaic.Pipeline (Dat Cfg Window)

/-! ## The array -/

section Array

variable (X : FVec Ideal S147456x2048 .f32) (be : IVec S288 32) (nu : BitVec 32) (Wg Wl : FVec Ideal S32x2048x2048 .f32) (B : FVec Ideal S32x4096 .f32)
  (W2 : FVec Ideal S32x2048x2048 .f32) (B2 : FVec Ideal S32x2048 .f32)

/-- A block's expert. -/
def ex (g : Fin 288) : Fin 32 := ⟨min (be (ix1 g)).toInt.toNat 31, by omega⟩

/-- A row's gated unit under an expert. -/
def hidden (R : Fin 147456) (e : Fin 32) (f : Fin 2048) : EReal :=
  unit (∑ k, X (ix2 R k) * Wg (ix3 e k f) + B (ix2 e ⟨2 * f.val, by omega⟩)) (∑ k, X (ix2 R k) * Wl (ix3 e k f) + B (ix2 e ⟨1 + 2 * f.val, by omega⟩))

/-- The result at a row and a column. -/
def result (R : Fin 147456) (d : Fin 2048) : EReal :=
  if ((R.val / 512 : ℕ) : ℤ) < nu.toInt then
    ∑ f, hidden X Wg Wl B R (ex be ⟨R.val / 512, by omega⟩) f * W2 (ix3 (ex be ⟨R.val / 512, by omega⟩) f d) + B2 (ix2 (ex be ⟨R.val / 512, by omega⟩) d)
  else 0

def G : FVec Ideal S147456x2048 .f32 := fun j => result X be nu Wg Wl B W2 B2 (j 0) (j 1)

end Array

theorem lt_N (t : Fin grid0.N) : t.val < 576 := t.isLt

theorem at_lone (x : ℕ) : x * 1 + 1 * 0 = x := by omega
theorem at_zero (n k : ℕ) : 0 * n + 1 * k = k := by omega
theorem at_shift (a n k : ℕ) : a * n + 1 * k = a * n + k := by omega

/-- An element of a block lies where the block's index and its place in the block say. -/
theorem place2 {n0 n1 : ℕ} (i b : (⟨2, ![n0, n1]⟩ : Shape).Idx) (T s j : Fin 2 → ℕ) (A0 A1 : ℕ) (h : ∀ x, (i x).val = T x * s x + 1 * j x)
    (hT : T = ![A0, A1]) (h0 : A0 * s 0 + 1 * j 0 = (b 0).val) (h1 : A1 * s 1 + 1 * j 1 = (b 1).val) : i = b := by
  subst hT
  funext x
  apply Fin.ext
  match x with
  | 0 => exact (h 0).trans h0
  | 1 => exact (h 1).trans h1

theorem place3 {n0 n1 n2 : ℕ} (i b : (⟨3, ![n0, n1, n2]⟩ : Shape).Idx) (T s j : Fin 3 → ℕ) (A0 A1 A2 : ℕ) (h : ∀ x, (i x).val = T x * s x + 1 * j x)
    (hT : T = ![A0, A1, A2]) (h0 : A0 * s 0 + 1 * j 0 = (b 0).val) (h1 : A1 * s 1 + 1 * j 1 = (b 1).val) (h2 : A2 * s 2 + 1 * j 2 = (b 2).val) : i = b := by
  subst hT
  funext x
  apply Fin.ext
  match x with
  | 0 => exact (h 0).trans h0
  | 1 => exact (h 1).trans h1
  | 2 => exact (h 2).trans h2

section Places

variable (a : (pcfg0 (F := Ideal)).Adm) (t : Fin grid0.N)

theorem emb0 (j : S512x2048.Idx) (x : Fin 2) : ((show S147456x2048.Idx from (((cfg0 a).win 0).blk t).view.emb j) x).val
    = cc0_transform_0 inb_S1_S1_0 numel1_S1 a.1 (grid0.coords t) x * S512x2048.size x + 1 * (j x).val := rfl
theorem emb1 (j : S1x2048x1024.Idx) (x : Fin 3) : ((show S32x2048x2048.Idx from (((cfg0 a).win 1).blk t).view.emb j) x).val
    = cc0_transform_1 k0_off1_inb numel1_S1 inb_S1_S1_0 a.1 (grid0.coords t) x * S1x2048x1024.size x + 1 * (j x).val := rfl
theorem emb2 (j : S1x2048x1024.Idx) (x : Fin 3) : ((show S32x2048x2048.Idx from (((cfg0 a).win 2).blk t).view.emb j) x).val
    = cc0_transform_2 k0_off1_inb numel1_S1 inb_S1_S1_0 a.1 (grid0.coords t) x * S1x2048x1024.size x + 1 * (j x).val := rfl
theorem emb3 (j : S1x1x1024.Idx) (x : Fin 3) : ((show S32x1x2048.Idx from (((cfg0 a).win 3).blk t).view.emb j) x).val
    = cc0_transform_3 k0_off1_inb numel1_S1 inb_S1_S1_0 a.1 (grid0.coords t) x * S1x1x1024.size x + 1 * (j x).val := rfl
theorem emb4 (j : S1x1x1024.Idx) (x : Fin 3) : ((show S32x1x2048.Idx from (((cfg0 a).win 4).blk t).view.emb j) x).val
    = cc0_transform_4 k0_off1_inb numel1_S1 inb_S1_S1_0 a.1 (grid0.coords t) x * S1x1x1024.size x + 1 * (j x).val := rfl
theorem emb5 (j : S1x1024x2048.Idx) (x : Fin 3) : ((show S32x2048x2048.Idx from (((cfg0 a).win 5).blk t).view.emb j) x).val
    = cc0_transform_5 k0_off1_inb numel1_S1 inb_S1_S1_0 a.1 (grid0.coords t) x * S1x1024x2048.size x + 1 * (j x).val := rfl
theorem emb6 (j : S1x1x2048.Idx) (x : Fin 3) : ((show S32x1x2048.Idx from (((cfg0 a).win 6).blk t).view.emb j) x).val
    = cc0_transform_6 k0_off1_inb numel1_S1 a.1 (grid0.coords t) x * S1x1x2048.size x + 1 * (j x).val := rfl
theorem emb7 (j : S512x2048.Idx) (x : Fin 2) : ((show S147456x2048.Idx from (((cfg0 a).win 7).blk t).view.emb j) x).val
    = cc0_transform_7 (grid0.coords t) x * S512x2048.size x + 1 * (j x).val := rfl

end Places

theorem sum_halves (H : Fin 2048 → EReal) :
    (∑ f : Fin 1024, H ⟨0 * 1024 + f.val, by omega⟩) + (∑ f : Fin 1024, H ⟨1 * 1024 + f.val, by omega⟩) = ∑ f, H f := by
  rw [show (∑ f, H f) = _ from Fin.sum_univ_add (a := 1024) (b := 1024) H]
  refine congrArg₂ (· + ·) (Finset.sum_congr rfl fun f _ => congrArg H (Fin.ext ?_)) (Finset.sum_congr rfl fun f _ => congrArg H (Fin.ext ?_))
  · show 0 * 1024 + f.val = f.val; omega
  · show 1 * 1024 + f.val = 1024 + f.val; omega

/-! ## The host's preparation -/

section Run

variable (m : (ℓ : Loc nD τ sig) → Buf (Elt Ideal) ℓ) (ρ : Dev nD → PrngReg) (c : Dev nD)

theorem V_v4 (e : Fin 32) (k f : Fin 2048) : V m c main_v4 (ix3 e k f) = m ((c : Thread nD τ).loc main_arg3) (ix3 e k f) := by
  show StableHlo.after hostOps0 _ (Proc.devRef .tc main_v4) _ = _
  simp only [hostOps0, StableHlo.after_cons, StableHlo.after_nil]
  rfl
theorem V_v5 (e : Fin 32) (k f : Fin 2048) : V m c main_v5 (ix3 e k f) = m ((c : Thread nD τ).loc main_arg4) (ix3 e k f) := by
  show StableHlo.after hostOps0 _ (Proc.devRef .tc main_v5) _ = _
  simp only [hostOps0, StableHlo.after_cons, StableHlo.after_nil]
  rfl
theorem V_v6 (e : Fin 32) (k f : Fin 2048) : V m c main_v6 (ix3 e k f) = m ((c : Thread nD τ).loc main_arg6) (ix3 e k f) := by
  show StableHlo.after hostOps0 _ (Proc.devRef .tc main_v6) _ = _
  simp only [hostOps0, StableHlo.after_cons, StableHlo.after_nil]
  rfl
theorem V_v1 (e : Fin 32) (z : Fin 1) (f : Fin 2048) : V m c main_v1 (ix3 e z f) = m ((c : Thread nD τ).loc main_arg5) (ix2 e ⟨2 * f.val, by omega⟩) := by
  have h : V m c main_v1 = shapeCast S32x1x2048 (Host.slice S32x2048 ![0, 0] ![1, 2] (m ((c : Thread nD τ).loc main_arg5)) slicesBy_S32x4096_S32x2048_0s1_0s2) shapeCasts_S32x2048_S32x1x2048 := by
    show StableHlo.after hostOps0 _ (Proc.devRef .tc main_v1) = _
    simp only [hostOps0, StableHlo.after_cons, StableHlo.after_nil]
    rfl
  rw [h]
  pointwise []
theorem V_v3 (e : Fin 32) (z : Fin 1) (f : Fin 2048) : V m c main_v3 (ix3 e z f) = m ((c : Thread nD τ).loc main_arg5) (ix2 e ⟨1 + 2 * f.val, by omega⟩) := by
  have h : V m c main_v3 = shapeCast S32x1x2048 (Host.slice S32x2048 ![0, 1] ![1, 2] (m ((c : Thread nD τ).loc main_arg5)) slicesBy_S32x4096_S32x2048_0s1_1s2) shapeCasts_S32x2048_S32x1x2048 := by
    show StableHlo.after hostOps0 _ (Proc.devRef .tc main_v3) = _
    simp only [hostOps0, StableHlo.after_cons, StableHlo.after_nil]
    rfl
  rw [h]
  pointwise []
theorem V_v7 (e : Fin 32) (z : Fin 1) (d : Fin 2048) : V m c main_v7 (ix3 e z d) = m ((c : Thread nD τ).loc main_arg7) (ix2 e d) := by
  have h : V m c main_v7 = shapeCast S32x1x2048 (m ((c : Thread nD τ).loc main_arg7)) shapeCasts_S32x2048_S32x1x2048 := by
    show StableHlo.after hostOps0 _ (Proc.devRef .tc main_v7) = _
    simp only [hostOps0, StableHlo.after_cons, StableHlo.after_nil]
    rfl
  rw [h]
  pointwise []

theorem V_arg0 : V m c main_arg0 = m ((c : Thread nD τ).loc main_arg0) := unwritten m main_arg0 (by decide) c

/-! ## The blocks' places -/

variable {m} (hw : (∀ j, 0 ≤ (blockExperts m j).toInt ∧ (blockExperts m j).toInt < 32) ∧ 1 ≤ (used (count m)).toInt)
include hw

variable (t : Fin grid0.N) (hu : isUsed (grid0.coords t) (nu m) = true)
include hu

theorem used_lt : ((t.val / 2 : ℕ) : ℤ) < (used (count m)).toInt := by
  have := (used_iff _ _).mp hu
  rw [co0] at this
  rw [← tbl_1]
  exact this

/-- The point's expert. -/
theorem expert_used : (expert (tbl m) (grid0.coords t)).toNat = (ex (blockExperts m) ⟨t.val / 2, by have := lt_N t; omega⟩).val := by
  have hl := lt_N t
  obtain ⟨j', e, h⟩ := tbl_0 m (ix1 (grid0.coords t 0))
  have h' := h (by
    show (((grid0.coords t 0).val : ℕ) : ℤ) < _
    rw [co0]; exact used_lt hw t hu)
  subst h'
  have ei : (ix1 (grid0.coords t 0) : S288.Idx) = ix1 (⟨t.val / 2, by omega⟩ : Fin 288) := congrArg ix1 (Fin.ext (co0 t))
  show (tbl m 0 (ix1 (grid0.coords t 0))).toNat = min _ 31
  rw [e, ei]
  obtain ⟨h1, h2⟩ := hw.1 (ix1 (⟨t.val / 2, by omega⟩ : Fin 288))
  have hn := (blockExperts m (ix1 (⟨t.val / 2, by omega⟩ : Fin 288))).isLt
  rw [BitVec.toInt_eq_toNat_cond] at h1 h2 ⊢
  split at h1 <;> split at h2 <;> split <;> omega

theorem half_eq : (half (tbl m) (grid0.coords t)).toNat = t.val % 2 := by rw [half_used _ _ hu, co1]
theorem rowBlk_eq : (rowBlk (tbl m) (grid0.coords t)).toNat = t.val / 2 := by
  rw [rowBlk_used _ _ _ hu, co0]
  rw [tbl_1]; exact hw.2

theorem iblk0_at (r : Fin 512) (k : Fin 2048) :
    iblk m (admitted m hw) c 0 t (ix2 r k) = m ((c : Thread nD τ).loc main_arg0) (ix2 ⟨t.val / 2 * 512 + r.val, by have := lt_N t; omega⟩ k) := by
  have hT := tr0 (tbl m) (grid0.coords t)
  rw [rowBlk_eq hw t hu] at hT
  refine (congrArg (V m c main_arg0) (place2 (n0 := 147456) (n1 := 2048) _ _ _ _ _ _ _ (emb0 (adm m (admitted m hw)) t (ix2 r k)) hT ?_ ?_)).trans (congrFun (V_arg0 m c) _)
  · exact at_shift _ _ _
  · exact at_zero _ _

theorem iblk1_at (k : Fin 2048) (f : Fin 1024) :
    iblk m (admitted m hw) c 1 t (ix3 0 k f) = m ((c : Thread nD τ).loc main_arg3) (ix3 (ex (blockExperts m) ⟨t.val / 2, by have := lt_N t; omega⟩) k ⟨t.val % 2 * 1024 + f.val, by omega⟩) := by
  have hT := tr1 (tbl m) (grid0.coords t)
  rw [expert_used hw t hu, half_eq hw t hu] at hT
  refine (congrArg (V m c main_v4) (place3 (n0 := 32) (n1 := 2048) (n2 := 2048) _ (ix3 (ex (blockExperts m) ⟨t.val / 2, by have := lt_N t; omega⟩) k ⟨t.val % 2 * 1024 + f.val, by omega⟩) _ _ _ _ _ _ (emb1 (adm m (admitted m hw)) t (ix3 0 k f)) hT ?_ ?_ ?_)).trans (V_v4 m c _ _ _)
  · exact at_lone _
  · exact at_zero _ _
  · exact at_shift _ _ _

theorem iblk2_at (k : Fin 2048) (f : Fin 1024) :
    iblk m (admitted m hw) c 2 t (ix3 0 k f) = m ((c : Thread nD τ).loc main_arg4) (ix3 (ex (blockExperts m) ⟨t.val / 2, by have := lt_N t; omega⟩) k ⟨t.val % 2 * 1024 + f.val, by omega⟩) := by
  have hT := tr2 (tbl m) (grid0.coords t)
  rw [expert_used hw t hu, half_eq hw t hu] at hT
  refine (congrArg (V m c main_v5) (place3 (n0 := 32) (n1 := 2048) (n2 := 2048) _ (ix3 (ex (blockExperts m) ⟨t.val / 2, by have := lt_N t; omega⟩) k ⟨t.val % 2 * 1024 + f.val, by omega⟩) _ _ _ _ _ _ (emb2 (adm m (admitted m hw)) t (ix3 0 k f)) hT ?_ ?_ ?_)).trans (V_v5 m c _ _ _)
  · exact at_lone _
  · exact at_zero _ _
  · exact at_shift _ _ _

theorem iblk3_at (z : Fin 1) (f : Fin 1024) :
    iblk m (admitted m hw) c 3 t (ix3 0 z f) = m ((c : Thread nD τ).loc main_arg5) (ix2 (ex (blockExperts m) ⟨t.val / 2, by have := lt_N t; omega⟩) ⟨2 * (t.val % 2 * 1024 + f.val), by omega⟩) := by
  have hT := tr3 (tbl m) (grid0.coords t)
  rw [expert_used hw t hu, half_eq hw t hu] at hT
  refine (congrArg (V m c main_v1) (place3 (n0 := 32) (n1 := 1) (n2 := 2048) _ (ix3 (ex (blockExperts m) ⟨t.val / 2, by have := lt_N t; omega⟩) z ⟨t.val % 2 * 1024 + f.val, by omega⟩) _ _ _ _ _ _ (emb3 (adm m (admitted m hw)) t (ix3 0 z f)) hT ?_ ?_ ?_)).trans (V_v1 m c _ _ _)
  · exact at_lone _
  · exact at_zero _ _
  · exact at_shift _ _ _

theorem iblk4_at (z : Fin 1) (f : Fin 1024) :
    iblk m (admitted m hw) c 4 t (ix3 0 z f) = m ((c : Thread nD τ).loc main_arg5) (ix2 (ex (blockExperts m) ⟨t.val / 2, by have := lt_N t; omega⟩) ⟨1 + 2 * (t.val % 2 * 1024 + f.val), by omega⟩) := by
  have hT := tr4 (tbl m) (grid0.coords t)
  rw [expert_used hw t hu, half_eq hw t hu] at hT
  refine (congrArg (V m c main_v3) (place3 (n0 := 32) (n1 := 1) (n2 := 2048) _ (ix3 (ex (blockExperts m) ⟨t.val / 2, by have := lt_N t; omega⟩) z ⟨t.val % 2 * 1024 + f.val, by omega⟩) _ _ _ _ _ _ (emb4 (adm m (admitted m hw)) t (ix3 0 z f)) hT ?_ ?_ ?_)).trans (V_v3 m c _ _ _)
  · exact at_lone _
  · exact at_zero _ _
  · exact at_shift _ _ _

theorem iblk5_at (f : Fin 1024) (d : Fin 2048) :
    iblk m (admitted m hw) c 5 t (ix3 0 f d) = m ((c : Thread nD τ).loc main_arg6) (ix3 (ex (blockExperts m) ⟨t.val / 2, by have := lt_N t; omega⟩) ⟨t.val % 2 * 1024 + f.val, by omega⟩ d) := by
  have hT := tr5 (tbl m) (grid0.coords t)
  rw [expert_used hw t hu, half_eq hw t hu] at hT
  refine (congrArg (V m c main_v6) (place3 (n0 := 32) (n1 := 2048) (n2 := 2048) _ (ix3 (ex (blockExperts m) ⟨t.val / 2, by have := lt_N t; omega⟩) ⟨t.val % 2 * 1024 + f.val, by omega⟩ d) _ _ _ _ _ _ (emb5 (adm m (admitted m hw)) t (ix3 0 f d)) hT ?_ ?_ ?_)).trans (V_v6 m c _ _ _)
  · exact at_lone _
  · exact at_shift _ _ _
  · exact at_zero _ _

theorem iblk6_at (z : Fin 1) (d : Fin 2048) :
    iblk m (admitted m hw) c 6 t (ix3 0 z d) = m ((c : Thread nD τ).loc main_arg7) (ix2 (ex (blockExperts m) ⟨t.val / 2, by have := lt_N t; omega⟩) d) := by
  have hT := tr6 (tbl m) (grid0.coords t)
  rw [expert_used hw t hu] at hT
  refine (congrArg (V m c main_v7) (place3 (n0 := 32) (n1 := 1) (n2 := 2048) _ (ix3 (ex (blockExperts m) ⟨t.val / 2, by have := lt_N t; omega⟩) z d) _ _ _ _ _ _ (emb6 (adm m (admitted m hw)) t (ix3 0 z d)) hT ?_ ?_ ?_)).trans (V_v7 m c _ _ _)
  · exact at_lone _
  · exact at_zero _ _
  · exact at_zero _ _

/-- The result's array. -/
abbrev Out (m : (ℓ : Loc nD τ sig) → Buf (Elt Ideal) ℓ) (c : Dev nD) : FVec Ideal S147456x2048 .f32 :=
  G (m ((c : Thread nD τ).loc main_arg0)) (blockExperts m) (used (count m)) (m ((c : Thread nD τ).loc main_arg3)) (m ((c : Thread nD τ).loc main_arg4))
    (m ((c : Thread nD τ).loc main_arg5)) (m ((c : Thread nD τ).loc main_arg6)) (m ((c : Thread nD τ).loc main_arg7))

/-- A row's term of the result at a hidden unit. -/
def term (m : (ℓ : Loc nD τ sig) → Buf (Elt Ideal) ℓ) (c : Dev nD) (g : Fin 288) (R : Fin 147456) (d f : Fin 2048) : EReal :=
  hidden (m ((c : Thread nD τ).loc main_arg0)) (m ((c : Thread nD τ).loc main_arg3)) (m ((c : Thread nD τ).loc main_arg4))
    (m ((c : Thread nD τ).loc main_arg5)) R (ex (blockExperts m) g) f * m ((c : Thread nD τ).loc main_arg6) (ix3 (ex (blockExperts m) g) f d)

/-- A half's product, its rows read at another point of the block. -/
theorem half_sum (t' : Fin grid0.N) (hu' : isUsed (grid0.coords t') (nu m) = true) (ht : t'.val / 2 = t.val / 2) (r : Fin 512) (d : Fin 2048) :
    k0_pay1 (k0_pay6 (iblk m (admitted m hw) c 0 t') (iblk m (admitted m hw) c 1 t) (iblk m (admitted m hw) c 3 t) (iblk m (admitted m hw) c 2 t)
        (iblk m (admitted m hw) c 4 t)) (iblk m (admitted m hw) c 5 t) (ix2 r d)
      = ∑ f : Fin 1024, term m c ⟨t.val / 2, by have := lt_N t; omega⟩ ⟨t.val / 2 * 512 + r.val, by have := lt_N t; omega⟩ d ⟨t.val % 2 * 1024 + f.val, by omega⟩ := by
  refine (pay1_at _ _ r d).trans (Finset.sum_congr rfl fun f _ => ?_)
  refine congrArg₂ (· * ·) ((pay6_at _ _ _ _ _ r f).trans ?_) (iblk5_at c hw t hu f d)
  refine congrArg₂ unit (congrArg₂ (· + ·) (Finset.sum_congr rfl fun k _ => congrArg₂ (· * ·) ?_ (iblk1_at c hw t hu k f)) (iblk3_at c hw t hu 0 f))
    (congrArg₂ (· + ·) (Finset.sum_congr rfl fun k _ => congrArg₂ (· * ·) ?_ (iblk2_at c hw t hu k f)) (iblk4_at c hw t hu 0 f))
  all_goals
    refine (iblk0_at c hw t' hu' r k).trans (congrArg (fun R : Fin 147456 => m ((c : Thread nD τ).loc main_arg0) (ix2 R k)) (Fin.ext ?_))
    show t'.val / 2 * 512 + r.val = t.val / 2 * 512 + r.val
    rw [ht]

theorem left_used_at (ho : t.val % 2 = 1) (r : Fin 512) (d : Fin 2048) :
    left m (admitted m hw) c t (ix2 r d) = Out m c (ix2 ⟨t.val / 2 * 512 + r.val, by have := lt_N t; omega⟩ d) := by
  have hl := lt_N t
  have hp : isUsed (grid0.coords (prev t)) (nu m) = true := (used_prev t ho _).trans hu
  have pv : (prev t).val = t.val - 1 := rfl
  have hg : (t.val / 2 * 512 + r.val) / 512 = t.val / 2 := by have := r.isLt; omega
  rw [left_used m (admitted m hw) c t hu]
  refine (pay2_at _ _ _ r d).trans ?_
  rw [show k0_pay7 (keep0 m (admitted m hw) c (prev t)) (iblk m (admitted m hw) c 1 t) (iblk m (admitted m hw) c 3 t) (iblk m (admitted m hw) c 2 t)
    (iblk m (admitted m hw) c 4 t) (iblk m (admitted m hw) c 5 t) = _ from pay7_at (iblk m (admitted m hw) c 0 (prev t)) _ _ _ _ _]
  rw [half_sum c hw t hu (prev t) hp (by omega) r d, show keep1 m (admitted m hw) c (prev t) (ix2 r d) = _ from half_sum c hw (prev t) hp (prev t) hp rfl r d]
  show _ = result _ _ _ _ _ _ _ _ (⟨t.val / 2 * 512 + r.val, by omega⟩ : Fin 147456) d
  unfold result
  rw [if_pos (by show (((t.val / 2 * 512 + r.val) / 512 : ℕ) : ℤ) < _; rw [hg]; exact used_lt hw t hu)]
  have eg : (⟨(t.val / 2 * 512 + r.val) / 512, by omega⟩ : Fin 288) = ⟨t.val / 2, by omega⟩ := Fin.ext hg
  have q : ∀ (g : ℕ) (hg : g < 288) (R : ℕ) (hR : R < 147456) (p : ℕ) (hp : p < 2), g = t.val / 2 → R = t.val / 2 * 512 + r.val → ∀ p', p = p' → ∀ hp' : p' < 2,
      (∑ f : Fin 1024, term m c ⟨g, hg⟩ ⟨R, hR⟩ d ⟨p * 1024 + f.val, by omega⟩)
      = ∑ f : Fin 1024, term m c ⟨t.val / 2, by omega⟩ ⟨t.val / 2 * 512 + r.val, by omega⟩ d ⟨p' * 1024 + f.val, by omega⟩ := by
    intro g hg R hR p hp eg eR p' ep hp'
    subst eg eR ep
    rfl
  have s1 := q ((prev t).val / 2) (by omega) ((prev t).val / 2 * 512 + r.val) (by omega) ((prev t).val % 2) (by omega) (by omega) (by omega) 0 (by omega) (by omega)
  have s2 := q (t.val / 2) (by omega) (t.val / 2 * 512 + r.val) (by omega) (t.val % 2) (by omega) rfl rfl 1 ho (by omega)
  have hs := (congrArg₂ (fun a b : EReal => a + b) s1 s2).trans ((sum_halves (term m c ⟨t.val / 2, by omega⟩ ⟨t.val / 2 * 512 + r.val, by omega⟩ d)).trans
    (Finset.sum_congr rfl fun f _ => congrArg (fun g => term m c g ⟨t.val / 2 * 512 + r.val, by omega⟩ d f) eg.symm))
  exact congrArg₂ (fun a b : EReal => a + b) hs
    ((iblk6_at c hw t hu 0 d).trans (congrArg (fun g => m ((c : Thread nD τ).loc main_arg7) (ix2 (ex (blockExperts m) g) d)) eg.symm))

omit hu in
theorem left_at (ho : t.val % 2 = 1) (r : Fin 512) (d : Fin 2048) :
    left m (admitted m hw) c t (ix2 r d) = Out m c (ix2 ⟨t.val / 2 * 512 + r.val, by have := lt_N t; omega⟩ d) := by
  by_cases hu : isUsed (grid0.coords t) (nu m) = true
  · exact left_used_at c hw t hu ho r d
  have hl := lt_N t
  have hg : (t.val / 2 * 512 + r.val) / 512 = t.val / 2 := by have := r.isLt; omega
  rw [left_unused m (admitted m hw) c t hu]
  refine (pay3_at _).trans ?_
  show _ = result _ _ _ _ _ _ _ _ (⟨t.val / 2 * 512 + r.val, by omega⟩ : Fin 147456) d
  unfold result
  rw [if_neg]
  intro h
  refine hu ((used_iff _ _).mpr ?_)
  rw [co0]
  show ((t.val / 2 : ℕ) : ℤ) < (used (tbl m 1)).toInt
  rw [tbl_1, ← hg]
  exact h

omit hu in
theorem flushed_eq (ho : t.val % 2 = 1) : (dats m (admitted m hw) 0 c).flushed 7 t = (((cfg0 (adm m (admitted m hw))).win 7).blk t).view.read (Elt Ideal) (Out m c) := by
  funext j
  obtain ⟨r, d, rfl⟩ : ∃ r d, j = (ix2 r d : S512x2048.Idx) := ⟨_, _, eq_ix2 j⟩
  refine (left_at c hw t ho r d).trans (congrArg (Out m c) ?_)
  exact (place2 (n0 := 147456) (n1 := 2048) _ _ _ _ _ _ _ (emb7 (adm m (admitted m hw)) t (ix2 r d)) ((tr7 (grid0.coords t)).trans (by rw [co0])) (at_shift _ _ _) (at_zero _ _)).symm

omit hu t in
theorem covered (i : S147456x2048.Idx) :
    ∃ t : Fin grid0.N, ((cfg0 (adm m (admitted m hw))).win 7).flush t = true ∧ i ∈ (((cfg0 (adm m (admitted m hw))).win 7).blk t).view.set := by
  have i0 : (i 0).val < 147456 := (i 0).isLt
  let t : Fin grid0.N := ⟨(i 0).val / 512 * 2 + 1, by show _ < 576; omega⟩
  let j : S512x2048.Idx := ix2 ⟨(i 0).val % 512, by omega⟩ (i 1)
  have tv : t.val = (i 0).val / 512 * 2 + 1 := rfl
  refine ⟨t, (flush7 _ t).trans (decide_eq_true (by omega)), ?_⟩
  have h := (((cfg0 (adm m (admitted m hw))).win 7).blk t).view.emb_mem_set j
  have e : (((cfg0 (adm m (admitted m hw))).win 7).blk t).view.emb j = i := by
    refine place2 (n0 := 147456) (n1 := 2048) _ _ _ _ _ _ _ (emb7 (adm m (admitted m hw)) t j) ((tr7 (grid0.coords t)).trans (by rw [co0])) ?_ (at_zero _ _)
    show t.val / 2 * 512 + 1 * ((i 0).val % 512) = (i 0).val
    omega
  rwa [e] at h

omit hu t in
theorem final : (dats m (admitted m hw) 0 c).arrAt 7 grid0.N = Out m c :=
  (dats m (admitted m hw) 0 c).arrAt_eq_of_cover 7 (Out m c) (fun t ht => flushed_eq c hw t (of_decide_eq_true ((flush7 _ t).symm.trans ht))) (covered hw)

end Run

/-- Every admitted run ends with the result's array at `Out`, the arguments unchanged. -/
theorem run (m : (ℓ : Loc nD τ sig) → Buf (Elt Ideal) ℓ) (ρ : Dev nD → PrngReg)
    (hw : (∀ j, 0 ≤ (blockExperts m j).toInt ∧ (blockExperts m j).toInt < 32) ∧ 1 ≤ (used (count m)).toInt) :
    θ_run defs (onTc (τ := τ) (main (F := Ideal))) ⟨m, fun _ => 0, ρ⟩ fun r =>
      (∀ c : Dev nD, r.2.mem ((c.tc : Thread nD τ).loc main_v20) = Out m c) ∧ Kept m r.2 :=
  (θ_run defs _ _).mono (fun _ h => ⟨fun c => ((h c).1 7).trans (final c hw), kept_of m hw h⟩) (run_blocks m ρ (admitted m hw))

end Cert.Kernel2Ideal.Experts

end
-- ==== Proof.Experts.Value.Ref.lean ====
/-
  The experts' reference over the extended reals: its composed term in named stages, each read at an index, and the result as
  the array the kernel's points leave.
-/
module

public import proofs.«01_k».proof.Proof.Experts.Value.Result
public import proofs.«01_k».proof.Proof.Gen.Reference2Ideal.Run

@[expose] public section

set_option maxRecDepth 16384

noncomputable section

namespace Cert.Reference2Ideal.Experts

open Cert.Reference2Ideal Cert.Reference2Ideal.Gen Cert.Experts
open Idealize.ShloMosaic Idealize.ShloMosaic.TcCoe Idealize.SL.Sem
open Cert.Kernel2Ideal.Experts (ex result G)

/-! ## The stages -/

abbrev T := FVec Ideal S288x512x2048 .f32

/-- A constant in every place. -/
def cst (w : BitVec 32) : T := broadcastInDim S288x512x2048 ![] bcast_S_S288x512x2048 (constant (F := Ideal) S_ .f32 w)

/-- The blocks' experts as the gathers' indices. -/
def idxT (be : IVec S288 32) : IVec S288x1 32 :=
  broadcastInDim S288x1 ![0] bcast_S288_S288x1_0 (select (cmpi .slt be (broadcastInDim S288 ![] bcast_S_S288 (constantI S_ 32 0#32)))
    (addi be (broadcastInDim S288 ![] bcast_S_S288 (constantI S_ 32 32#32))) be)

/-- The blocks' matrices. -/
def gat (w : FVec Ideal S32x2048x2048 .f32) (be : IVec S288 32) : FVec Ideal S288x2048x2048 .f32 :=
  Host.gather gather_S32x2048x2048_S288x1_S288x2048x2048_12_0_n_n_0_1_120482048 w (idxT be)

/-- The blocks' hidden biases and result biases. -/
def hid (b : FVec Ideal S32x4096 .f32) (be : IVec S288 32) : FVec Ideal S288x4096 .f32 :=
  Host.gather gather_S32x4096_S288x1_S288x4096_1_0_n_n_0_1_14096 b (idxT be)
def res (b : FVec Ideal S32x2048 .f32) (be : IVec S288 32) : FVec Ideal S288x2048 .f32 :=
  Host.gather gather_S32x2048_S288x1_S288x2048_1_0_n_n_0_1_12048 b (idxT be)

/-- A bias along every row. -/
def along (b : FVec Ideal S288x2048 .f32) : T :=
  broadcastInDim S288x512x2048 ![0, 1, 2] bcast_S288x1x2048_S288x512x2048_0_1_2 (broadcastInDim S288x1x2048 ![0, 2] bcast_S288x2048_S288x1x2048_0_2 b)

/-- The rows by block. -/
def rows (X : FVec Ideal S147456x2048 .f32) : T := shapeCast _ X shapeCasts_S147456x2048_S288x512x2048

def dotT (x : T) (w : FVec Ideal S288x2048x2048 .f32) : T :=
  Host.dotGeneral dot_S288x512x2048_S288x2048x2048_S288x512x2048_2_1_1_2_0_0 none x w

/-- The gated unit of a gate and a linear half. -/
def unitT (p q : T) : T :=
  mulf (mulf (minimumf p (cst 0x40E00000#32))
      (Host.divf (cst 0x3F800000#32) (addf (cst 0x3F800000#32) (Host.exp (Host.negf (mulf (cst 0x3FD9DB23#32) (minimumf p (cst 0x40E00000#32))))))))
    (addf (minimumf (cst 0x40E00000#32) (maximumf (cst 0xC0E00000#32) q)) (cst 0x3F800000#32))

/-- The hidden units. -/
def hidT (X : FVec Ideal S147456x2048 .f32) (be : IVec S288 32) (Wg Wl : FVec Ideal S32x2048x2048 .f32) (B : FVec Ideal S32x4096 .f32) : T :=
  unitT (addf (dotT (rows X) (gat Wg be)) (along (Host.slice S288x2048 ![0, 0] ![1, 2] (hid B be) slicesBy_S288x4096_S288x2048_0s1_0s2)))
    (addf (dotT (rows X) (gat Wl be)) (along (Host.slice S288x2048 ![0, 1] ![1, 2] (hid B be) slicesBy_S288x4096_S288x2048_0s1_1s2)))

/-- The used blocks. -/
def usedT (n : IVec S1 32) : IVec S288x512x2048 1 :=
  broadcastInDim S288x512x2048 ![0, 1, 2] bcast_S288x1x1_S288x512x2048_0_1_2 (broadcastInDim S288x1x1 ![0] bcast_S288_S288x1x1_0
    (cmpi .slt (iotaInDim S288 32 0) (broadcastInDim S288 ![] bcast_S_S288 (shapeCast _ n shapeCasts_S1_S_))))

/-- The result by block. -/
def outT (h : T) (be : IVec S288 32) (n : IVec S1 32) (W2 : FVec Ideal S32x2048x2048 .f32) (B2 : FVec Ideal S32x2048 .f32) : T :=
  select (usedT n) (addf (dotT h (gat W2 be)) (along (res B2 be))) (cst 0x00000000#32)

theorem res_eq (m : (ℓ : Loc nD τ sig) → Buf (Elt Ideal) ℓ) (c : Dev nD) :
    Cert.Reference2Ideal.Value.res_main_v71 m c
      = shapeCast S147456x2048 (outT (hidT (m ((c : Thread nD τ).loc main_arg0)) (m ((c : Thread nD τ).loc main_arg1)) (m ((c : Thread nD τ).loc main_arg3))
          (m ((c : Thread nD τ).loc main_arg4)) (m ((c : Thread nD τ).loc main_arg5))) (m ((c : Thread nD τ).loc main_arg1)) (m ((c : Thread nD τ).loc main_arg2))
          (m ((c : Thread nD τ).loc main_arg6)) (m ((c : Thread nD τ).loc main_arg7))) shapeCasts_S288x512x2048_S147456x2048 := by
  unfold Cert.Reference2Ideal.Value.res_main_v71
  rfl

/-! ## At an index -/

section At

variable (be : IVec S288 32) (hb : ∀ j, 0 ≤ (be j).toInt)

theorem idx_at (g : Fin 288) (hb : 0 ≤ (be (ix1 g)).toInt) (z : Fin 1) : idxT be (ix2 g z) = be (ix1 g) := by
  have h : BitVec.slt (be (ix1 g)) 0#32 = false := by
    rw [Bool.eq_false_iff]
    intro h
    have := BitVec.slt_iff_toInt_lt.mp h
    have z : (0#32 : BitVec 32).toInt = 0 := rfl
    omega
  pointwise [idxT]
  rw [show IntOp.cmpi .slt (be (ix1 g)) 0#32 = 0#1 from by show BitVec.ofBool (BitVec.slt (be (ix1 g)) 0#32) = 0#1; rw [h]; rfl]
  rfl

include hb

theorem gat_at (w : FVec Ideal S32x2048x2048 .f32) (g : Fin 288) (k f : Fin 2048) : gat w be (ix3 g k f) = w (ix3 (ex be g) k f) := by
  have e := idx_at be g (hb _) 0
  unfold gat Host.gather
  refine congrArg _ (funext fun x => Fin.ext ?_)
  match x with
  | 0 =>
    show GatherDims.start _ (ix3 g k f) (idxT be) 0 + 0 + 0 = min (be (ix1 g)).toInt.toNat 31
    rw [← e]
    unfold GatherDims.start
    rw [dif_pos (show 0 ∈ gather_S32x2048x2048_S288x1_S288x2048x2048_12_0_n_n_0_1_120482048.startIndexMap from List.mem_singleton.mpr rfl)]
    refine congrArg (fun i => min (idxT be i).toInt.toNat 31) ?_
    funext b
    apply Fin.ext
    match b with
    | 0 => rfl
    | 1 => rfl
  | 1 => exact Nat.zero_add k.val
  | 2 => exact Nat.zero_add f.val

theorem hid_at (b : FVec Ideal S32x4096 .f32) (g : Fin 288) (f : Fin 4096) : hid b be (ix2 g f) = b (ix2 (ex be g) f) := by
  have e := idx_at be g (hb _) 0
  unfold hid Host.gather
  refine congrArg _ (funext fun x => Fin.ext ?_)
  match x with
  | 0 =>
    show GatherDims.start _ (ix2 g f) (idxT be) 0 + 0 + 0 = min (be (ix1 g)).toInt.toNat 31
    rw [← e]
    unfold GatherDims.start
    rw [dif_pos (show 0 ∈ gather_S32x4096_S288x1_S288x4096_1_0_n_n_0_1_14096.startIndexMap from List.mem_singleton.mpr rfl)]
    refine congrArg (fun i => min (idxT be i).toInt.toNat 31) ?_
    funext b
    apply Fin.ext
    match b with
    | 0 => rfl
    | 1 => rfl
  | 1 => exact Nat.zero_add f.val

theorem res_at (b : FVec Ideal S32x2048 .f32) (g : Fin 288) (d : Fin 2048) : res b be (ix2 g d) = b (ix2 (ex be g) d) := by
  have e := idx_at be g (hb _) 0
  unfold res Host.gather
  refine congrArg _ (funext fun x => Fin.ext ?_)
  match x with
  | 0 =>
    show GatherDims.start _ (ix2 g d) (idxT be) 0 + 0 + 0 = min (be (ix1 g)).toInt.toNat 31
    rw [← e]
    unfold GatherDims.start
    rw [dif_pos (show 0 ∈ gather_S32x2048_S288x1_S288x2048_1_0_n_n_0_1_12048.startIndexMap from List.mem_singleton.mpr rfl)]
    refine congrArg (fun i => min (idxT be i).toInt.toNat 31) ?_
    funext b
    apply Fin.ext
    match b with
    | 0 => rfl
    | 1 => rfl
  | 1 => exact Nat.zero_add d.val

omit hb in
theorem dot_at (x : T) (w : FVec Ideal S288x2048x2048 .f32) (g : Fin 288) (r : Fin 512) (f : Fin 2048) :
    dotT x w (ix3 g r f) = ∑ k, x (ix3 g r k) * w (ix3 g k f) := by
  pointwise [dotT]

omit hb in
theorem along_at (b : FVec Ideal S288x2048 .f32) (g : Fin 288) (r : Fin 512) (f : Fin 2048) : along b (ix3 g r f) = b (ix2 g f) := by
  pointwise [along]

omit hb in
theorem rows_at (X : FVec Ideal S147456x2048 .f32) (g : Fin 288) (r : Fin 512) (k : Fin 2048) :
    rows X (ix3 g r k) = X (ix2 ⟨g.val * 512 + r.val, by omega⟩ k) := by
  pointwise [rows]

omit hb in
theorem even_at (b : FVec Ideal S288x4096 .f32) (g : Fin 288) (f : Fin 2048) :
    Host.slice S288x2048 ![0, 0] ![1, 2] b slicesBy_S288x4096_S288x2048_0s1_0s2 (ix2 g f) = b (ix2 g ⟨2 * f.val, by omega⟩) := by
  pointwise []
omit hb in
theorem odd_at (b : FVec Ideal S288x4096 .f32) (g : Fin 288) (f : Fin 2048) :
    Host.slice S288x2048 ![0, 1] ![1, 2] b slicesBy_S288x4096_S288x2048_0s1_1s2 (ix2 g f) = b (ix2 g ⟨1 + 2 * f.val, by omega⟩) := by
  pointwise []

omit hb in
theorem unit_at (p q : T) (g : Fin 288) (r : Fin 512) (f : Fin 2048) : unitT p q (ix3 g r f) = unit (p (ix3 g r f)) (q (ix3 g r f)) := by
  pointwise [unitT, unit, cst]
  rfl

theorem hid_units (X : FVec Ideal S147456x2048 .f32) (Wg Wl : FVec Ideal S32x2048x2048 .f32) (B : FVec Ideal S32x4096 .f32) (g : Fin 288) (r : Fin 512) (f : Fin 2048) :
    hidT X be Wg Wl B (ix3 g r f) = Cert.Kernel2Ideal.Experts.hidden X Wg Wl B ⟨g.val * 512 + r.val, by omega⟩ (ex be g) f := by
  unfold hidT Cert.Kernel2Ideal.Experts.hidden
  rw [unit_at]
  pointwise []
  simp only [dot_at, along_at, rows_at, gat_at be hb, even_at, odd_at, hid_at be hb]

omit hb in
theorem used_at (n : IVec S1 32) (g : Fin 288) (r : Fin 512) (d : Fin 2048) :
    usedT n (ix3 g r d) = BitVec.ofBool (BitVec.slt (BitVec.ofNat 32 g.val) (n (ix1 0))) := by
  pointwise [usedT]
  rfl

theorem out_at (n : IVec S1 32) (X : FVec Ideal S147456x2048 .f32) (Wg Wl W2 : FVec Ideal S32x2048x2048 .f32) (B : FVec Ideal S32x4096 .f32)
    (B2 : FVec Ideal S32x2048 .f32) (R : Fin 147456) (d : Fin 2048) :
    outT (hidT X be Wg Wl B) be n W2 B2 (ix3 ⟨R.val / 512, by omega⟩ ⟨R.val % 512, by omega⟩ d) = result X be (n (ix1 0)) Wg Wl B W2 B2 R d := by
  have hg : R.val / 512 < 288 := by omega
  have hn : BitVec.slt (BitVec.ofNat 32 (R.val / 512)) (n (ix1 0)) = true ↔ ((R.val / 512 : ℕ) : ℤ) < (n (ix1 0)).toInt := by
    rw [BitVec.slt_iff_toInt_lt, BitVec.toInt_eq_toNat_of_lt (x := BitVec.ofNat 32 (R.val / 512)) (by rw [BitVec.toNat_ofNat]; omega), BitVec.toNat_ofNat,
      Nat.mod_eq_of_lt (by omega)]
  have eR : (⟨R.val / 512 * 512 + R.val % 512, by omega⟩ : Fin 147456) = R := Fin.ext (by show R.val / 512 * 512 + R.val % 512 = R.val; omega)
  unfold outT result
  pointwise []
  simp only [used_at, dot_at, along_at, gat_at be hb, res_at be hb, hid_units be hb, eR]
  by_cases h : ((R.val / 512 : ℕ) : ℤ) < (n (ix1 0)).toInt
  · rw [if_pos h, hn.mpr h]; rfl
  · rw [if_neg h, Bool.eq_false_iff.mpr (mt hn.mp h)]
    exact Ideal.ofBits_zero_f32

end At

theorem res_value (m : (ℓ : Loc nD τ sig) → Buf (Elt Ideal) ℓ) (c : Dev nD) (hb : ∀ j : S288.Idx, 0 ≤ (m ((c : Thread nD τ).loc main_arg1) j : BitVec 32).toInt) :
    Cert.Reference2Ideal.Value.res_main_v71 m c
      = G (m ((c : Thread nD τ).loc main_arg0)) (m ((c : Thread nD τ).loc main_arg1)) (m ((c : Thread nD τ).loc main_arg2) (ix1 0)) (m ((c : Thread nD τ).loc main_arg3))
          (m ((c : Thread nD τ).loc main_arg4)) (m ((c : Thread nD τ).loc main_arg5)) (m ((c : Thread nD τ).loc main_arg6)) (m ((c : Thread nD τ).loc main_arg7)) := by
  rw [res_eq]
  funext j
  obtain ⟨R, d, rfl⟩ : ∃ R d, j = (ix2 R d : S147456x2048.Idx) := ⟨_, _, eq_ix2 j⟩
  refine Eq.trans ?_ (out_at _ hb _ _ _ _ _ _ _ R d)
  pointwise []

end Cert.Reference2Ideal.Experts

end
-- ==== Proof.Experts.Claims.lean ====
/-
  The experts' claims on the reference and on the values: the reference runs to its end, and on routed arguments kernel and
  reference end with the same array.
-/
module

public import proofs.«01_k».proof.Defs
public import proofs.«01_k».proof.Proof.Experts.Value.Ref

@[expose] public section

noncomputable section

namespace Cert.Experts

open Idealize.ShloMosaic Idealize.ShloMosaic.TcCoe Idealize.SL.Sem

theorem frame_ri : Cert.quiescent_Reference2Ideal (hReference2Ideal := Cert.Reference2Ideal.Gen.facts) := by
  intro m ρ _
  exact (θ_run Cert.Reference2Ideal.defs _ _).mono
    (fun r h => ⟨fun c => (h c).2, Idealize.ShloMosaic.sem_eq_zero_of_no_sems (by decide) r.2⟩)
    (Cert.Reference2Ideal.Value.run (F := Ideal) m ρ)

variable [hPre : Cert.Pre_routed.Facts]

theorem values : Cert.algebraic_Kernel2Ideal_Reference2Ideal (hKernel2Ideal := Cert.Kernel2Ideal.Gen.facts)
    (hReference2Ideal := Cert.Reference2Ideal.Gen.facts) := by
  intro m ρ m' ρ' h same
  have hw := Cert.Kernel2Ideal.Experts.routed_words (F := Ideal) m h
  refine ⟨fun c => Cert.Kernel2Ideal.Experts.Out m c, ?_, ?_⟩
  · exact (θ_run Cert.Kernel2Ideal.defs _ _).mono (fun _ h c => ⟨h.1 c, h.2 c⟩) (Cert.Kernel2Ideal.Experts.run m ρ hw)
  · refine (θ_run Cert.Reference2Ideal.defs _ _).mono (fun _ h c => ⟨(h c).1.trans ?_, (h c).2⟩) (Cert.Reference2Ideal.Value.run (F := Ideal) m' ρ')
    obtain rfl : c = 0 := Subsingleton.elim (α := Fin 1) c 0
    obtain ⟨e0, e1, e2, e3, e4, e5, e6, e7⟩ := same 0
    rw [Cert.Reference2Ideal.Experts.res_value m' 0 (fun j => by rw [e1]; exact (hw.1 j).1), e0, e1, e2, e3, e4, e5, e6, e7,
      show m ((0 : Dev Cert.Kernel2Ideal.nD).tc.loc Cert.Kernel2Ideal.main_arg2) (ix1 0) = Cert.Kernel2Ideal.Experts.used (Cert.Kernel2Ideal.Experts.count m) from
        congrArg (Cert.Kernel2Ideal.Experts.count m) (Cert.Kernel2Ideal.Experts.one_idx _ _)]

end Cert.Experts

end
-- ==== Proof.Gate.Value.lean ====
/-
  The projection of the branch gates over the extended reals: its result array, the reference's, and the claims on them.
-/
module

public import proofs.«01_k».proof.Defs
public import proofs.«01_k».proof.Proof.Gen.Kernel3Ideal.Frame
public import proofs.«01_k».proof.Proof.Gen.Reference3Ideal.Run
public import Idealize.ShloMosaic.Lib.Pipeline.ValueKit.Basic
public import Idealize.ShloMosaic.Lib.Pointwise

@[expose] public section

set_option maxRecDepth 16384

noncomputable section

namespace Cert.Kernel3Ideal.Gate

open Cert.Kernel3Ideal Cert.Kernel3Ideal.Gen
open Idealize.ShloMosaic Idealize.ShloMosaic.TcCoe Idealize.SL.Sem
open Idealize.ShloMosaic.Pipeline (Dat Cfg Window)

/-! ## The array -/

/-- The sigmoid of a row against a gate column. -/
def G (H : FVec Ideal S32768x2048 .f32) (W : FVec Ideal S2048x9808 .f32) : Vec Ideal S32768x4096 .bf16 := fun j =>
  Ideal.logistic (∑ k : Fin 2048, H (ix2 (j 0) k) * W (ix2 k ⟨5712 + (j 1 : Fin 4096).val, by have h : (j 1 : Fin 4096).val < 4096 := (j 1 : Fin 4096).isLt; exact Nat.lt_of_lt_of_le (Nat.add_lt_add_left h 5712) (by decide)⟩))

/-! ## The blocks' places -/

theorem index0 : ∀ t : Fin cfg0.N, win0_0.index t (0 : Fin 2) = t.val / 4 ∧ win0_0.index t (1 : Fin 2) = 0 :=
  (by decide +kernel : ∀ t : Fin grid0.N, _)
theorem index1 : ∀ t : Fin cfg0.N, win0_1.index t (0 : Fin 2) = 0 ∧ win0_1.index t (1 : Fin 2) = t.val % 4 :=
  (by decide +kernel : ∀ t : Fin grid0.N, _)
theorem index2 : ∀ t : Fin cfg0.N, win0_2.index t (0 : Fin 2) = t.val / 4 ∧ win0_2.index t (1 : Fin 2) = t.val % 4 :=
  (by decide +kernel : ∀ t : Fin grid0.N, _)

theorem lt_N (t : Fin cfg0.N) : t.val < 128 := t.isLt

theorem emb0 (t : Fin cfg0.N) (r : Fin 1024) (k : Fin 2048) :
    ((cfg0.win 0).blk t).view.emb (ix2 r k : S1024x2048.Idx) = (ix2 ⟨1024 * (t.val / 4) + r.val, by have := lt_N t; omega⟩ k : S32768x2048.Idx) := by
  obtain ⟨e0, e1⟩ := index0 t
  funext a
  apply Fin.ext
  match a with
  | 0 => show win0_0.index t (0 : Fin 2) * 1024 + 1 * r.val = 1024 * (t.val / 4) + r.val; omega
  | 1 => show win0_0.index t (1 : Fin 2) * 2048 + 1 * k.val = k.val; omega
theorem emb1 (t : Fin cfg0.N) (k : Fin 2048) (d : Fin 1024) :
    ((cfg0.win 1).blk t).view.emb (ix2 k d : S2048x1024.Idx) = (ix2 k ⟨1024 * (t.val % 4) + d.val, by omega⟩ : S2048x4096.Idx) := by
  obtain ⟨e0, e1⟩ := index1 t
  funext a
  apply Fin.ext
  match a with
  | 0 => show win0_1.index t (0 : Fin 2) * 2048 + 1 * k.val = k.val; omega
  | 1 => show win0_1.index t (1 : Fin 2) * 1024 + 1 * d.val = 1024 * (t.val % 4) + d.val; omega
theorem emb2 (t : Fin cfg0.N) (r : Fin 1024) (d : Fin 1024) :
    ((cfg0.win 2).blk t).view.emb (ix2 r d : S1024x1024.Idx)
      = (ix2 ⟨1024 * (t.val / 4) + r.val, by have := lt_N t; omega⟩ ⟨1024 * (t.val % 4) + d.val, by omega⟩ : S32768x4096.Idx) := by
  obtain ⟨e0, e1⟩ := index2 t
  funext a
  apply Fin.ext
  match a with
  | 0 => show win0_2.index t (0 : Fin 2) * 1024 + 1 * r.val = 1024 * (t.val / 4) + r.val; omega
  | 1 => show win0_2.index t (1 : Fin 2) * 1024 + 1 * d.val = 1024 * (t.val % 4) + d.val; omega

/-! ## The run -/

theorem pay_at (x : Vec Ideal S1024x2048 .bf16) (w : Vec Ideal S2048x1024 .bf16) (r : Fin 1024) (d : Fin 1024) :
    k0_pay1 x w (ix2 r d) = Ideal.logistic (∑ k, x (ix2 r k) * w (ix2 k d)) := by
  pointwise [k0_pay1]

theorem out_eq (x : Vec Ideal S1024x2048 .bf16) (w : Vec Ideal S2048x1024 .bf16) : out0_2 x w = k0_pay1 x w := by
  unfold out0_2
  rw [View.canon_cons_unit_lit _ _ _ (by decide), View.ld_unit_lit _ _ (by decide), View.ld_unit_lit _ _ (by decide)]

section Run

variable (m : (ℓ : Loc nD τ sig) → Buf (Elt Ideal) ℓ) (ρ : Dev nD → PrngReg) (c : Dev nD)

theorem V_v1 : V m c main_v1 = m ((c : Thread nD τ).loc main_arg0) := by
  show StableHlo.after hostOps0 _ (Proc.devRef .tc main_v1) = _
  simp only [hostOps0, StableHlo.after_cons, StableHlo.after_nil]
  rfl
theorem V_v2 (k : Fin 2048) (f : Fin 4096) : V m c main_v2 (ix2 k f) = m ((c : Thread nD τ).loc main_arg1) (ix2 k ⟨5712 + f.val, by omega⟩) := by
  have h : V m c main_v2 = extractStridedSlice S2048x4096 ![0, 5712] (m ((c : Thread nD τ).loc main_arg1)) slices_S2048x9808_S2048x4096_0_5712 := by
    show StableHlo.after hostOps0 _ (Proc.devRef .tc main_v2) = _
    simp only [hostOps0, StableHlo.after_cons, StableHlo.after_nil]
    rfl
  rw [h]
  pointwise []

/-- The array the region leaves. -/
def Out : Vec Ideal S32768x4096 .bf16 := G (m ((c : Thread nD τ).loc main_arg0)) (m ((c : Thread nD τ).loc main_arg1))

variable {m c} (t : Fin cfg0.N)

theorem iblk0_at (r : Fin 1024) (k : Fin 2048) :
    iblk m c 0 t (ix2 r k : S1024x2048.Idx) = m ((c : Thread nD τ).loc main_arg0) (ix2 ⟨1024 * (t.val / 4) + r.val, by have := lt_N t; omega⟩ k) := by
  show V m c main_v1 (((cfg0.win 0).blk t).view.emb (ix2 r k : S1024x2048.Idx)) = _
  rw [V_v1, emb0]
theorem iblk1_at (k : Fin 2048) (d : Fin 1024) :
    iblk m c 1 t (ix2 k d : S2048x1024.Idx) = m ((c : Thread nD τ).loc main_arg1) (ix2 k ⟨5712 + (1024 * (t.val % 4) + d.val), by omega⟩) := by
  show V m c main_v2 (((cfg0.win 1).blk t).view.emb (ix2 k d : S2048x1024.Idx)) = _
  rw [emb1]
  exact V_v2 m c k _

theorem left_at (r : Fin 1024) (d : Fin 1024) : out0_2 (iblk m c 0 t) (iblk m c 1 t) (ix2 r d)
    = Out m c (ix2 ⟨1024 * (t.val / 4) + r.val, by have := lt_N t; omega⟩ ⟨1024 * (t.val % 4) + d.val, by omega⟩) := by
  refine (congrFun (out_eq _ _) _).trans ((pay_at _ _ r d).trans ?_)
  refine congrArg Ideal.logistic (Finset.sum_congr rfl fun k _ => ?_)
  exact congrArg₂ (fun a b : EReal => a * b) (iblk0_at t r k) (iblk1_at t k d)

theorem flushed_eq : (dats m 0 c).flushed 2 t = ((cfg0.win 2).blk t).view.read (Elt Ideal) (Out m c) := by
  funext j
  obtain ⟨r, d, rfl⟩ : ∃ r d, j = (ix2 r d : S1024x1024.Idx) := ⟨_, _, eq_ix2 j⟩
  refine (congrFun (after0_2 m c t) (ix2 r d : S1024x1024.Idx)).trans ((left_at t r d).trans (congrArg (Out m c) ?_))
  exact (emb2 t r d).symm

theorem covered (i : S32768x4096.Idx) :
    ∃ t : Fin cfg0.N, (cfg0.win 2).flush t = true ∧ i ∈ ((cfg0.win 2).blk t).view.set := by
  have i0 : (i 0).val < 32768 := (i 0).isLt
  have i1 : (i 1).val < 4096 := (i 1).isLt
  have hN : cfg0.N = 128 := rfl
  let t : Fin cfg0.N := ⟨(i 0).val / 1024 * 4 + (i 1).val / 1024, by omega⟩
  let j : S1024x1024.Idx := ix2 ⟨(i 0).val % 1024, by omega⟩ ⟨(i 1).val % 1024, by omega⟩
  refine ⟨t, flush0_2 _, ?_⟩
  have h := ((cfg0.win 2).blk t).view.emb_mem_set j
  have e : ((cfg0.win 2).blk t).view.emb j = i := by
    have tv : t.val = (i 0).val / 1024 * 4 + (i 1).val / 1024 := rfl
    refine (emb2 t _ _).trans ?_
    funext a
    apply Fin.ext
    match a with
    | 0 => show 1024 * (t.val / 4) + (i 0).val % 1024 = (i 0).val; omega
    | 1 => show 1024 * (t.val % 4) + (i 1).val % 1024 = (i 1).val; omega
  rwa [e] at h

theorem final : (dats m 0 c).arrAt 2 cfg0.N = Out m c :=
  (dats m 0 c).arrAt_eq_of_cover 2 _ (fun t _ => flushed_eq t) covered

end Run

/-- Every run ends with the result's array at `G`, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 2).trans final, h.2 c⟩) (θ_run_and (run_main m ρ) (unchanged m ρ))

end Cert.Kernel3Ideal.Gate

namespace Cert.Gate

open Idealize.ShloMosaic Idealize.ShloMosaic.TcCoe Idealize.SL.Sem

section Reference

open Cert.Reference3Ideal Cert.Reference3Ideal.Gen

theorem ref_at (H : FVec Ideal S32768x2048 .f32) (W : FVec Ideal S2048x9808 .f32) :
    (truncf .bf16 (Host.divf (broadcastInDim S32768x4096 ![] bcast_S_S32768x4096 (constant (F := Ideal) S_ .f32 0x3F800000#32))
        (addf (broadcastInDim S32768x4096 ![] bcast_S_S32768x4096 (constant S_ .f32 0x3F800000#32)) (Host.exp (Host.negf (extractStridedSlice S32768x4096 ![0, 5712]
          (Host.dotGeneral dot_S32768x2048_S2048x9808_S32768x9808_1_0_0_1_n_n none H W) slices_S32768x9808_S32768x4096_0_5712))))) bitsLt_bf16_f32 : FVec Ideal S32768x4096 .bf16)
      = Cert.Kernel3Ideal.Gate.G H W := by
  funext j
  obtain ⟨r, d, rfl⟩ : ∃ r d, j = (ix2 r d : S32768x4096.Idx) := ⟨_, _, eq_ix2 j⟩
  show _ = Ideal.logistic (∑ k : Fin 2048, H (ix2 r k) * W (ix2 k ⟨5712 + d.val, by omega⟩))
  pointwise []
  rfl

end Reference

theorem frame_ri : Cert.quiescent_Reference3Ideal (hReference3Ideal := Cert.Reference3Ideal.Gen.facts) := by
  intro m ρ _
  exact (θ_run Cert.Reference3Ideal.defs _ _).mono
    (fun r h => ⟨fun c => (h c).2, Idealize.ShloMosaic.sem_eq_zero_of_no_sems (by decide) r.2⟩)
    (Cert.Reference3Ideal.Value.run (F := Ideal) m ρ)

theorem values : Cert.algebraic_Kernel3Ideal_Reference3Ideal (hKernel3Ideal := Cert.Kernel3Ideal.Gen.facts) (hReference3Ideal := Cert.Reference3Ideal.Gen.facts) := by
  intro m ρ m' ρ' _ same
  refine ⟨fun c => Cert.Kernel3Ideal.Gate.G (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    Cert.Kernel3Ideal.Gate.run m ρ, ?_⟩
  refine (θ_run Cert.Reference3Ideal.defs _ _).mono (fun _ h c => ⟨(h c).1.trans ?_, (h c).2⟩) (Cert.Reference3Ideal.Value.run (F := Ideal) m' ρ')
  obtain ⟨e0, e1⟩ := same c
  rw [e0, e1]
  exact ref_at _ _

end Cert.Gate

end
-- ==== Proof.Plain.Value.lean ====
/-
  The projection of the sparse branch's values and of the stick-breaking columns over the extended reals: its result array, the
  reference's, and the claims on them.
-/
module

public import proofs.«01_k».proof.Defs
public import proofs.«01_k».proof.Proof.Gen.Kernel4Ideal.Frame
public import proofs.«01_k».proof.Proof.Gen.Reference4Ideal.Run
public import Idealize.ShloMosaic.Lib.Pipeline.ValueKit.Basic
public import Idealize.ShloMosaic.Lib.Pointwise

@[expose] public section

set_option maxRecDepth 16384

noncomputable section

namespace Cert.Kernel4Ideal.Plain

open Cert.Kernel4Ideal Cert.Kernel4Ideal.Gen
open Idealize.ShloMosaic Idealize.ShloMosaic.TcCoe Idealize.SL.Sem
open Idealize.ShloMosaic.Pipeline (Dat Cfg Window)

/-! ## The array -/

/-- A row against a column of the sparse values and of the stick-breaking queries, keys and values. -/
def G (H : FVec Ideal S32768x2048 .f32) (W : FVec Ideal S2048x9808 .f32) : Vec Ideal S32768x3328 .bf16 := fun j =>
  (∑ k : Fin 2048, H (ix2 (j 0) k) * W (ix2 k ⟨1280 + (j 1 : Fin 3328).val, by have h : (j 1 : Fin 3328).val < 3328 := (j 1 : Fin 3328).isLt; exact Nat.lt_of_lt_of_le (Nat.add_lt_add_left h 1280) (by decide)⟩))

/-! ## The blocks' places -/

theorem index0 : ∀ t : Fin cfg0.N, win0_0.index t (0 : Fin 2) = t.val / 2 ∧ win0_0.index t (1 : Fin 2) = 0 :=
  (by decide +kernel : ∀ t : Fin grid0.N, _)
theorem index1 : ∀ t : Fin cfg0.N, win0_1.index t (0 : Fin 2) = 0 ∧ win0_1.index t (1 : Fin 2) = t.val % 2 :=
  (by decide +kernel : ∀ t : Fin grid0.N, _)
theorem index2 : ∀ t : Fin cfg0.N, win0_2.index t (0 : Fin 2) = t.val / 2 ∧ win0_2.index t (1 : Fin 2) = t.val % 2 :=
  (by decide +kernel : ∀ t : Fin grid0.N, _)

theorem lt_N (t : Fin cfg0.N) : t.val < 64 := t.isLt

theorem emb0 (t : Fin cfg0.N) (r : Fin 1024) (k : Fin 2048) :
    ((cfg0.win 0).blk t).view.emb (ix2 r k : S1024x2048.Idx) = (ix2 ⟨1024 * (t.val / 2) + r.val, by have := lt_N t; omega⟩ k : S32768x2048.Idx) := by
  obtain ⟨e0, e1⟩ := index0 t
  funext a
  apply Fin.ext
  match a with
  | 0 => show win0_0.index t (0 : Fin 2) * 1024 + 1 * r.val = 1024 * (t.val / 2) + r.val; omega
  | 1 => show win0_0.index t (1 : Fin 2) * 2048 + 1 * k.val = k.val; omega
theorem emb1 (t : Fin cfg0.N) (k : Fin 2048) (d : Fin 1664) :
    ((cfg0.win 1).blk t).view.emb (ix2 k d : S2048x1664.Idx) = (ix2 k ⟨1664 * (t.val % 2) + d.val, by omega⟩ : S2048x3328.Idx) := by
  obtain ⟨e0, e1⟩ := index1 t
  funext a
  apply Fin.ext
  match a with
  | 0 => show win0_1.index t (0 : Fin 2) * 2048 + 1 * k.val = k.val; omega
  | 1 => show win0_1.index t (1 : Fin 2) * 1664 + 1 * d.val = 1664 * (t.val % 2) + d.val; omega
theorem emb2 (t : Fin cfg0.N) (r : Fin 1024) (d : Fin 1664) :
    ((cfg0.win 2).blk t).view.emb (ix2 r d : S1024x1664.Idx)
      = (ix2 ⟨1024 * (t.val / 2) + r.val, by have := lt_N t; omega⟩ ⟨1664 * (t.val % 2) + d.val, by omega⟩ : S32768x3328.Idx) := by
  obtain ⟨e0, e1⟩ := index2 t
  funext a
  apply Fin.ext
  match a with
  | 0 => show win0_2.index t (0 : Fin 2) * 1024 + 1 * r.val = 1024 * (t.val / 2) + r.val; omega
  | 1 => show win0_2.index t (1 : Fin 2) * 1664 + 1 * d.val = 1664 * (t.val % 2) + d.val; omega

/-! ## The run -/

theorem pay_at (x : Vec Ideal S1024x2048 .bf16) (w : Vec Ideal S2048x1664 .bf16) (r : Fin 1024) (d : Fin 1664) :
    k0_pay1 x w (ix2 r d) = (∑ k, x (ix2 r k) * w (ix2 k d)) := by
  pointwise [k0_pay1]

theorem out_eq (x : Vec Ideal S1024x2048 .bf16) (w : Vec Ideal S2048x1664 .bf16) : out0_2 x w = k0_pay1 x w := by
  unfold out0_2
  rw [View.canon_cons_unit_lit _ _ _ (by decide), View.ld_unit_lit _ _ (by decide), View.ld_unit_lit _ _ (by decide)]

section Run

variable (m : (ℓ : Loc nD τ sig) → Buf (Elt Ideal) ℓ) (ρ : Dev nD → PrngReg) (c : Dev nD)

theorem V_v1 : V m c main_v1 = m ((c : Thread nD τ).loc main_arg0) := by
  show StableHlo.after hostOps0 _ (Proc.devRef .tc main_v1) = _
  simp only [hostOps0, StableHlo.after_cons, StableHlo.after_nil]
  rfl
theorem V_v2 (k : Fin 2048) (f : Fin 3328) : V m c main_v2 (ix2 k f) = m ((c : Thread nD τ).loc main_arg1) (ix2 k ⟨1280 + f.val, by omega⟩) := by
  have h : V m c main_v2 = extractStridedSlice S2048x3328 ![0, 1280] (m ((c : Thread nD τ).loc main_arg1)) slices_S2048x9808_S2048x3328_0_1280 := by
    show StableHlo.after hostOps0 _ (Proc.devRef .tc main_v2) = _
    simp only [hostOps0, StableHlo.after_cons, StableHlo.after_nil]
    rfl
  rw [h]
  pointwise []

/-- The array the region leaves. -/
def Out : Vec Ideal S32768x3328 .bf16 := G (m ((c : Thread nD τ).loc main_arg0)) (m ((c : Thread nD τ).loc main_arg1))

variable {m c} (t : Fin cfg0.N)

theorem iblk0_at (r : Fin 1024) (k : Fin 2048) :
    iblk m c 0 t (ix2 r k : S1024x2048.Idx) = m ((c : Thread nD τ).loc main_arg0) (ix2 ⟨1024 * (t.val / 2) + r.val, by have := lt_N t; omega⟩ k) := by
  show V m c main_v1 (((cfg0.win 0).blk t).view.emb (ix2 r k : S1024x2048.Idx)) = _
  rw [V_v1, emb0]
theorem iblk1_at (k : Fin 2048) (d : Fin 1664) :
    iblk m c 1 t (ix2 k d : S2048x1664.Idx) = m ((c : Thread nD τ).loc main_arg1) (ix2 k ⟨1280 + (1664 * (t.val % 2) + d.val), by omega⟩) := by
  show V m c main_v2 (((cfg0.win 1).blk t).view.emb (ix2 k d : S2048x1664.Idx)) = _
  rw [emb1]
  exact V_v2 m c k _

theorem left_at (r : Fin 1024) (d : Fin 1664) : out0_2 (iblk m c 0 t) (iblk m c 1 t) (ix2 r d)
    = Out m c (ix2 ⟨1024 * (t.val / 2) + r.val, by have := lt_N t; omega⟩ ⟨1664 * (t.val % 2) + d.val, by omega⟩) := by
  refine (congrFun (out_eq _ _) _).trans ((pay_at _ _ r d).trans ?_)
  unfold Out G
  refine (Finset.sum_congr rfl fun k _ => ?_)
  exact congrArg₂ (fun a b : EReal => a * b) (iblk0_at t r k) (iblk1_at t k d)

theorem flushed_eq : (dats m 0 c).flushed 2 t = ((cfg0.win 2).blk t).view.read (Elt Ideal) (Out m c) := by
  funext j
  obtain ⟨r, d, rfl⟩ : ∃ r d, j = (ix2 r d : S1024x1664.Idx) := ⟨_, _, eq_ix2 j⟩
  refine (congrFun (after0_2 m c t) (ix2 r d : S1024x1664.Idx)).trans ((left_at t r d).trans (congrArg (Out m c) ?_))
  exact (emb2 t r d).symm

theorem covered (i : S32768x3328.Idx) :
    ∃ t : Fin cfg0.N, (cfg0.win 2).flush t = true ∧ i ∈ ((cfg0.win 2).blk t).view.set := by
  have i0 : (i 0).val < 32768 := (i 0).isLt
  have i1 : (i 1).val < 3328 := (i 1).isLt
  have hN : cfg0.N = 64 := rfl
  let t : Fin cfg0.N := ⟨(i 0).val / 1024 * 2 + (i 1).val / 1664, by omega⟩
  let j : S1024x1664.Idx := ix2 ⟨(i 0).val % 1024, by omega⟩ ⟨(i 1).val % 1664, by omega⟩
  refine ⟨t, flush0_2 _, ?_⟩
  have h := ((cfg0.win 2).blk t).view.emb_mem_set j
  have e : ((cfg0.win 2).blk t).view.emb j = i := by
    have tv : t.val = (i 0).val / 1024 * 2 + (i 1).val / 1664 := rfl
    refine (emb2 t _ _).trans ?_
    funext a
    apply Fin.ext
    match a with
    | 0 => show 1024 * (t.val / 2) + (i 0).val % 1024 = (i 0).val; omega
    | 1 => show 1664 * (t.val % 2) + (i 1).val % 1664 = (i 1).val; omega
  rwa [e] at h

theorem final : (dats m 0 c).arrAt 2 cfg0.N = Out m c :=
  (dats m 0 c).arrAt_eq_of_cover 2 _ (fun t _ => flushed_eq t) covered

end Run

/-- Every run ends with the result's array at `G`, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 2).trans final, h.2 c⟩) (θ_run_and (run_main m ρ) (unchanged m ρ))

end Cert.Kernel4Ideal.Plain

namespace Cert.Plain

open Idealize.ShloMosaic Idealize.ShloMosaic.TcCoe Idealize.SL.Sem

section Reference

open Cert.Reference4Ideal Cert.Reference4Ideal.Gen

theorem ref_at (H : FVec Ideal S32768x2048 .f32) (W : FVec Ideal S2048x9808 .f32) :
    (truncf .bf16 (extractStridedSlice S32768x3328 ![0, 1280]
        (Host.dotGeneral dot_S32768x2048_S2048x9808_S32768x9808_1_0_0_1_n_n none H W) slices_S32768x9808_S32768x3328_0_1280) bitsLt_bf16_f32 : FVec Ideal S32768x3328 .bf16)
      = Cert.Kernel4Ideal.Plain.G H W := by
  funext j
  obtain ⟨r, d, rfl⟩ : ∃ r d, j = (ix2 r d : S32768x3328.Idx) := ⟨_, _, eq_ix2 j⟩
  show _ = (∑ k : Fin 2048, H (ix2 r k) * W (ix2 k ⟨1280 + d.val, by omega⟩))
  pointwise []

end Reference

theorem frame_ri : Cert.quiescent_Reference4Ideal (hReference4Ideal := Cert.Reference4Ideal.Gen.facts) := by
  intro m ρ _
  exact (θ_run Cert.Reference4Ideal.defs _ _).mono
    (fun r h => ⟨fun c => (h c).2, Idealize.ShloMosaic.sem_eq_zero_of_no_sems (by decide) r.2⟩)
    (Cert.Reference4Ideal.Value.run (F := Ideal) m ρ)

theorem values : Cert.algebraic_Kernel4Ideal_Reference4Ideal (hKernel4Ideal := Cert.Kernel4Ideal.Gen.facts) (hReference4Ideal := Cert.Reference4Ideal.Gen.facts) := by
  intro m ρ m' ρ' _ same
  refine ⟨fun c => Cert.Kernel4Ideal.Plain.G (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
    Cert.Kernel4Ideal.Plain.run m ρ, ?_⟩
  refine (θ_run Cert.Reference4Ideal.defs _ _).mono (fun _ h c => ⟨(h c).1.trans ?_, (h c).2⟩) (Cert.Reference4Ideal.Value.run (F := Ideal) m' ρ')
  obtain ⟨e0, e1⟩ := same c
  rw [e0, e1]
  exact ref_at _ _

end Cert.Plain

end
-- ==== Proof.Merge.Rows.lean ====
/-
  The merge of the two branches over the extended reals, a row at a time: the row's functions, the body's arithmetic and the
  reference's terms at an index.
-/
module

public import proofs.«01_k».proof.Defs
public import proofs.«01_k».proof.Proof.Gen.Kernel5Ideal.Frame
public import proofs.«01_k».proof.Proof.Gen.Reference5Ideal.Run
public import Idealize.ShloMosaic.Lib.Pipeline.ValueKit.Basic
public import Idealize.ShloMosaic.Lib.Pointwise

@[expose] public section

set_option maxRecDepth 16384

noncomputable section

namespace Cert.Merge

open Idealize.ShloMosaic

/-- The mixed row: the gated sum of the two branches' projections, through the output's matrix. -/
def mixRow (oa ob : Fin 1024 → EReal) (zl zh : Fin 2048 → EReal) (wa wb : Fin 1024 → Fin 2048 → EReal) (wo : Fin 2048 → Fin 2048 → EReal) (d : Fin 2048) : EReal :=
  ∑ k, (zl k * (∑ i, oa i * wa i k) + zh k * ∑ i, ob i * wb i k) * wo k d

/-- The row's scale: one over the root of the mean of its squares. -/
def rnorm (f : Fin 2048 → EReal) : EReal :=
  Ideal.rsqrt (Ideal.div (∑ k, f k * f k) (Ideal.ofBits .f32 0x45000000#32) + Ideal.ofBits .f32 0x358637BD#32)

/-- The residual row. -/
def x1Row (mix x ga gp : Fin 2048 → EReal) (d : Fin 2048) : EReal := x d + ga d * (mix d * rnorm mix * gp d)

/-- Its modulated norm. -/
def h2Row (x1 g sc sh : Fin 2048 → EReal) (d : Fin 2048) : EReal := x1 d * rnorm x1 * g d * (1 + sc d) + sh d

/-- The left and the right half of a gate row. -/
def lo (k : Fin 2048) : Fin 4096 := ⟨k.val, by omega⟩
def hi (k : Fin 2048) : Fin 4096 := ⟨2048 + k.val, by omega⟩

end Cert.Merge

namespace Cert.Kernel5Ideal.Merge

open Cert.Kernel5Ideal Cert.Kernel5Ideal.Gen Cert.Merge
open Idealize.ShloMosaic Idealize.ShloMosaic.TcCoe Idealize.SL.Sem

theorem ld_lo (x : Vec Ideal S256x4096 .bf16) (r : Fin 256) (k : Fin 2048) : View.ld x r0_2 (ix2 r k : S256x2048.Idx) = x (ix2 r (lo k)) := by
  show x (r0_2.idx (ix2 r k)) = _
  congr 1
  funext a
  apply Fin.ext
  match a with
  | 0 => show 0 + 1 * r.val = r.val; omega
  | 1 => show 0 + 1 * k.val = k.val; omega
theorem ld_hi (x : Vec Ideal S256x4096 .bf16) (r : Fin 256) (k : Fin 2048) : View.ld x r0_3 (ix2 r k : S256x2048.Idx) = x (ix2 r (hi k)) := by
  show x (r0_3.idx (ix2 r k)) = _
  congr 1
  funext a
  apply Fin.ext
  match a with
  | 0 => show 0 + 1 * r.val = r.val; omega
  | 1 => show 2048 + 1 * k.val = 2048 + k.val; omega

theorem pay3_at (oa ob : Vec Ideal S256x1024 .bf16) (wa wb : Vec Ideal S1024x2048 .bf16) (zl zh : Vec Ideal S256x2048 .bf16) (wo : Vec Ideal S2048x2048 .bf16) (r : Fin 256) :
    (fun d => k0_pay3 oa wa ob wb zl zh wo (ix2 r d)) = fun d =>
      mixRow (fun i => oa (ix2 r i)) (fun i => ob (ix2 r i)) (fun k => zl (ix2 r k)) (fun k => zh (ix2 r k)) (fun i k => wa (ix2 i k)) (fun i k => wb (ix2 i k)) (fun k d => wo (ix2 k d)) d
        * rnorm (mixRow (fun i => oa (ix2 r i)) (fun i => ob (ix2 r i)) (fun k => zl (ix2 r k)) (fun k => zh (ix2 r k)) (fun i k => wa (ix2 i k)) (fun i k => wb (ix2 i k)) (fun k d => wo (ix2 k d))) := by
  funext d
  pointwise [k0_pay3]
  rfl
theorem pay1_at (y x : Vec Ideal S256x2048 .f32) (ga : Vec Ideal S1x1x2048 .f32) (gp : Vec Ideal S1x2048 .f32) (r : Fin 256) (d : Fin 2048) :
    k0_pay1 y x ga gp (ix2 r d) = x (ix2 r d) + ga (ix3 0 0 d) * (y (ix2 r d) * gp (ix2 0 d)) := by
  pointwise [k0_pay1]
theorem pay2_at (y x : Vec Ideal S256x2048 .f32) (ga : Vec Ideal S1x1x2048 .f32) (gp g : Vec Ideal S1x2048 .f32) (sc sh : Vec Ideal S1x1x2048 .f32) (r : Fin 256) (d : Fin 2048) :
    k0_pay2 y x ga gp g sc sh (ix2 r d) = h2Row (fun d => k0_pay1 y x ga gp (ix2 r d)) (fun d => g (ix2 0 d)) (fun d => sc (ix3 0 0 d)) (fun d => sh (ix3 0 0 d)) d := by
  generalize hp : k0_pay1 y x ga gp = p
  unfold k0_pay2
  rw [hp]
  pointwise []
  unfold h2Row rnorm
  rfl

section Blocks

variable (x0 x1 : Vec Ideal S256x1024 .bf16) (x2 : Vec Ideal S256x4096 .bf16) (x3 : Vec Ideal S256x2048 .f32) (x4 x5 : Vec Ideal S1024x2048 .bf16)
  (x6 : Vec Ideal S2048x2048 .bf16) (x7 : Vec Ideal S1x2048 .f32) (x8 : Vec Ideal S1x1x2048 .f32) (x9 : Vec Ideal S1x2048 .f32) (x10 x11 : Vec Ideal S1x1x2048 .f32)

theorem out12_eq : out0_12 x0 x1 x2 x3 x4 x5 x6 x7 x8 x9 x10 x11 = k0_pay1 (k0_pay3 x0 x4 x1 x5 (View.ld x2 r0_2) (View.ld x2 r0_3) x6) x3 x8 x7 := by
  unfold out0_12 k0_pay4
  rw [View.canon_cons_unit_lit _ _ _ (by decide), View.ld_unit_lit _ x0 (by decide), View.ld_unit_lit _ x1 (by decide), View.ld_unit_lit _ x3 (by decide),
    View.ld_unit_lit _ x4 (by decide), View.ld_unit_lit _ x5 (by decide), View.ld_unit_lit _ x6 (by decide), View.ld_unit_lit _ x7 (by decide), View.ld_unit_lit _ x8 (by decide)]
theorem out13_eq : out0_13 x0 x1 x2 x3 x4 x5 x6 x7 x8 x9 x10 x11 = k0_pay2 (k0_pay3 x0 x4 x1 x5 (View.ld x2 r0_2) (View.ld x2 r0_3) x6) x3 x8 x7 x9 x10 x11 := by
  unfold out0_13 k0_pay4
  rw [View.canon_cons_unit_lit _ _ _ (by decide), View.ld_unit_lit _ x0 (by decide), View.ld_unit_lit _ x1 (by decide), View.ld_unit_lit _ x3 (by decide),
    View.ld_unit_lit _ x4 (by decide), View.ld_unit_lit _ x5 (by decide), View.ld_unit_lit _ x6 (by decide), View.ld_unit_lit _ x7 (by decide), View.ld_unit_lit _ x8 (by decide),
    View.ld_unit_lit _ x9 (by decide), View.ld_unit_lit _ x10 (by decide), View.ld_unit_lit _ x11 (by decide)]

variable {x0 x1 x2 x3 x4 x5 x6 x7 x8 x9 x10 x11}
variable (r : Fin 256) {oa ob : Fin 1024 → EReal} {zl zh : Fin 2048 → EReal} {wa wb : Fin 1024 → Fin 2048 → EReal} {wo : Fin 2048 → Fin 2048 → EReal}
  {x ga gp g sc sh : Fin 2048 → EReal}
  (h0 : ∀ i, x0 (ix2 r i) = oa i) (h1 : ∀ i, x1 (ix2 r i) = ob i) (hl : ∀ k, x2 (ix2 r (lo k)) = zl k) (hh : ∀ k, x2 (ix2 r (hi k)) = zh k)
  (h3 : ∀ d, x3 (ix2 r d) = x d) (h4 : ∀ i k, x4 (ix2 i k) = wa i k) (h5 : ∀ i k, x5 (ix2 i k) = wb i k) (h6 : ∀ k d, x6 (ix2 k d) = wo k d)
  (h7 : ∀ d, x7 (ix2 0 d) = gp d) (h8 : ∀ d, x8 (ix3 0 0 d) = ga d) (h9 : ∀ d, x9 (ix2 0 d) = g d) (h10 : ∀ d, x10 (ix3 0 0 d) = sc d) (h11 : ∀ d, x11 (ix3 0 0 d) = sh d)

include h0 h1 hl hh h3 h4 h5 h6 h7 h8 in
theorem row12 : (fun d => k0_pay1 (k0_pay3 x0 x4 x1 x5 (View.ld x2 r0_2) (View.ld x2 r0_3) x6) x3 x8 x7 (ix2 r d)) = x1Row (mixRow oa ob zl zh wa wb wo) x ga gp := by
  have e := pay3_at x0 x1 x4 x5 (View.ld x2 r0_2) (View.ld x2 r0_3) x6 r
  rw [show (fun k => View.ld x2 r0_2 (ix2 r k : S256x2048.Idx)) = zl from funext fun k => (ld_lo x2 r k).trans (hl k),
    show (fun k => View.ld x2 r0_3 (ix2 r k : S256x2048.Idx)) = zh from funext fun k => (ld_hi x2 r k).trans (hh k),
    show (fun i => x0 (ix2 r i)) = oa from funext h0, show (fun i => x1 (ix2 r i)) = ob from funext h1,
    show (fun i k => x4 (ix2 i k)) = wa from funext fun i => funext (h4 i), show (fun i k => x5 (ix2 i k)) = wb from funext fun i => funext (h5 i),
    show (fun k d => x6 (ix2 k d)) = wo from funext fun k => funext (h6 k)] at e
  funext d
  refine (pay1_at _ _ _ _ r d).trans ?_
  rw [h3, h8, h7, show k0_pay3 x0 x4 x1 x5 (View.ld x2 r0_2) (View.ld x2 r0_3) x6 (ix2 r d) = _ from congrFun e d]
  rfl

include h0 h1 hl hh h3 h4 h5 h6 h7 h8 in
theorem out12_at (d : Fin 2048) : out0_12 x0 x1 x2 x3 x4 x5 x6 x7 x8 x9 x10 x11 (ix2 r d) = x1Row (mixRow oa ob zl zh wa wb wo) x ga gp d :=
  (congrFun (out12_eq _ _ _ _ _ _ _ _ _ _ _ _) _).trans (congrFun (row12 r h0 h1 hl hh h3 h4 h5 h6 h7 h8) d)

include h0 h1 hl hh h3 h4 h5 h6 h7 h8 h9 h10 h11 in
theorem out13_at (d : Fin 2048) : out0_13 x0 x1 x2 x3 x4 x5 x6 x7 x8 x9 x10 x11 (ix2 r d) = h2Row (x1Row (mixRow oa ob zl zh wa wb wo) x ga gp) g sc sh d := by
  refine (congrFun (out13_eq _ _ _ _ _ _ _ _ _ _ _ _) _).trans ((pay2_at _ _ _ _ _ _ _ r d).trans ?_)
  rw [row12 r h0 h1 hl hh h3 h4 h5 h6 h7 h8, show (fun d => x9 (ix2 0 d)) = g from funext h9, show (fun d => x10 (ix3 0 0 d)) = sc from funext h10,
    show (fun d => x11 (ix3 0 0 d)) = sh from funext h11]

end Blocks

end Cert.Kernel5Ideal.Merge

/-! ## The two arrays -/

namespace Cert.Merge

open Cert.Kernel5Ideal Idealize.ShloMosaic

section Arrays

variable (A0 A1 : FVec Ideal S32768x1024 .f32) (A2 : FVec Ideal S32768x4096 .f32) (A3 : FVec Ideal S32768x2048 .f32) (A4 A5 : FVec Ideal S1024x2048 .f32)
  (A6 : FVec Ideal S2048x2048 .f32) (A7 : FVec Ideal S2048 .f32) (A8 : FVec Ideal S4x2048 .f32) (A9 : FVec Ideal S2048 .f32) (A10 A11 : FVec Ideal S4x2048 .f32)

/-- Row `r`'s batch. -/
def batch (r : Fin 32768) : Fin 4 := ⟨r.val / 8192, by omega⟩

/-- The mixed row `r`. -/
def mixAt (r : Fin 32768) : Fin 2048 → EReal :=
  mixRow (fun i => A0 (ix2 r i)) (fun i => A1 (ix2 r i)) (fun k => A2 (ix2 r (lo k))) (fun k => A2 (ix2 r (hi k))) (fun i k => A4 (ix2 i k)) (fun i k => A5 (ix2 i k)) (fun k d => A6 (ix2 k d))

/-- The residual row `r`. -/
def x1At (r : Fin 32768) : Fin 2048 → EReal :=
  x1Row (mixAt A0 A1 A2 A4 A5 A6 r) (fun d => A3 (ix2 r d)) (fun d => A8 (ix2 (batch r) d)) (fun d => A7 (ix1 d))

/-- The residual stream after the token mixing. -/
def X1 : FVec Ideal S32768x2048 .f32 := fun j => x1At A0 A1 A2 A3 A4 A5 A6 A7 A8 (j 0) (j 1)

/-- Its modulated norm. -/
def H2 : FVec Ideal S32768x2048 .f32 := fun j =>
  h2Row (x1At A0 A1 A2 A3 A4 A5 A6 A7 A8 (j 0)) (fun d => A9 (ix1 d)) (fun d => A10 (ix2 (batch (j 0)) d)) (fun d => A11 (ix2 (batch (j 0)) d)) (j 1)

end Arrays

end Cert.Merge

/-! ## The reference's terms -/

namespace Cert.Reference5Ideal.Merge

open Cert.Reference5Ideal Cert.Reference5Ideal.Gen Cert.Merge
open Idealize.ShloMosaic

section Terms

variable (A0 A1 : FVec Ideal S32768x1024 .f32) (A2 : FVec Ideal S32768x4096 .f32) (A3 : FVec Ideal S32768x2048 .f32) (A4 A5 : FVec Ideal S1024x2048 .f32)
  (A6 : FVec Ideal S2048x2048 .f32) (A7 : FVec Ideal S2048 .f32) (A8 : FVec Ideal S4x2048 .f32) (A9 : FVec Ideal S2048 .f32) (A10 A11 : FVec Ideal S4x2048 .f32)

/-- Row `s` of batch `b`. -/
def row (b : Fin 4) (s : Fin 8192) : Fin 32768 := ⟨b.val * 8192 + s.val, by omega⟩

/-- The reference's mixed rows, -/
def mixT : FVec Ideal S4x8192x2048 .f32 :=
  shapeCast _ (Host.dotGeneral dot_S32768x2048_S2048x2048_S32768x2048_1_0_0_1_n_n none (addf (mulf (extractStridedSlice S32768x2048 ![0, 0] A2 slices_S32768x4096_S32768x2048_0_0) (Host.dotGeneral dot_S32768x1024_S1024x2048_S32768x2048_1_0_0_1_n_n none A0 A4)) (mulf (extractStridedSlice S32768x2048 ![0, 2048] A2 slices_S32768x4096_S32768x2048_0_2048) (Host.dotGeneral dot_S32768x1024_S1024x2048_S32768x2048_1_0_0_1_n_n none A1 A5))) A6) shapeCasts_S32768x2048_S4x8192x2048
/-- rows over the root of their mean squares and times a weight, -/
def normT (y : FVec Ideal S4x8192x2048 .f32) (g : FVec Ideal S2048 .f32) : FVec Ideal S4x8192x2048 .f32 :=
  mulf (mulf y (broadcastInDim S4x8192x2048 ![0, 1, 2] bcast_S4x8192x1_S4x8192x2048_0_1_2 (Host.rsqrt (addf (Host.divf (broadcastInDim S4x8192x1 ![0, 1] bcast_S4x8192_S4x8192x1_0_1 (Host.reduceAdd (mulf y y) (constant S_ .f32 0x00000000#32) reducesTo_S4x8192x2048_S4x8192_d2 h_S_)) (broadcastInDim S4x8192x1 ![] bcast_S_S4x8192x1 (constant S_ .f32 0x45000000#32))) (broadcastInDim S4x8192x1 ![] bcast_S_S4x8192x1 (constant S_ .f32 0x358637BD#32)))))) (broadcastInDim S4x8192x2048 ![0, 1, 2] bcast_S1x1x2048_S4x8192x2048_0_1_2 (broadcastInDim S1x1x2048 ![2] bcast_S2048_S1x1x2048_2 g))
/-- the residual stream, -/
def x1T : FVec Ideal S4x8192x2048 .f32 :=
  addf (shapeCast _ A3 shapeCasts_S32768x2048_S4x8192x2048) (mulf (broadcastInDim S4x8192x2048 ![0, 1, 2] bcast_S4x1x2048_S4x8192x2048_0_1_2 (broadcastInDim S4x1x2048 ![0, 2] bcast_S4x2048_S4x1x2048_0_2 A8)) (normT (mixT A0 A1 A2 A4 A5 A6) A7))
/-- and a modulated norm. -/
def h2T (y : FVec Ideal S4x8192x2048 .f32) : FVec Ideal S4x8192x2048 .f32 :=
  addf (mulf (normT y A9) (broadcastInDim S4x8192x2048 ![0, 1, 2] bcast_S4x1x2048_S4x8192x2048_0_1_2 (addf (broadcastInDim S4x1x2048 ![] bcast_S_S4x1x2048 (constant S_ .f32 0x3F800000#32)) (broadcastInDim S4x1x2048 ![0, 2] bcast_S4x2048_S4x1x2048_0_2 A10)))) (broadcastInDim S4x8192x2048 ![0, 1, 2] bcast_S4x1x2048_S4x8192x2048_0_1_2 (broadcastInDim S4x1x2048 ![0, 2] bcast_S4x2048_S4x1x2048_0_2 A11))

theorem mixT_at (b : Fin 4) (s : Fin 8192) : (fun d => mixT A0 A1 A2 A4 A5 A6 (ix3 b s d)) = mixAt A0 A1 A2 A4 A5 A6 (row b s) := by
  funext d
  unfold mixT
  pointwise []
  unfold mixAt mixRow row lo hi
  rfl
theorem normT_at (y : FVec Ideal S4x8192x2048 .f32) (g : FVec Ideal S2048 .f32) (b : Fin 4) (s : Fin 8192) (d : Fin 2048) :
    normT y g (ix3 b s d) = y (ix3 b s d) * rnorm (fun d => y (ix3 b s d)) * g (ix1 d) := by
  unfold normT
  pointwise []
  unfold rnorm
  rfl
theorem batch_row (b : Fin 4) (s : Fin 8192) : batch (row b s) = b := Fin.ext (by show (b.val * 8192 + s.val) / 8192 = b.val; omega)
theorem x1T_at (b : Fin 4) (s : Fin 8192) : (fun d => x1T A0 A1 A2 A3 A4 A5 A6 A7 A8 (ix3 b s d)) = x1At A0 A1 A2 A3 A4 A5 A6 A7 A8 (row b s) := by
  have e := mixT_at A0 A1 A2 A4 A5 A6 b s
  funext d
  unfold x1T
  generalize mixT A0 A1 A2 A4 A5 A6 = y at e ⊢
  have k := normT_at y A7 b s d
  generalize normT y A7 = n at k ⊢
  pointwise []
  rw [k, e, show y (ix3 b s d) = _ from congrFun e d]
  unfold x1At x1Row
  rw [batch_row]
  rfl
theorem h2T_at (y : FVec Ideal S4x8192x2048 .f32) (b : Fin 4) (s : Fin 8192) (d : Fin 2048) :
    h2T A9 A10 A11 y (ix3 b s d) = h2Row (fun d => y (ix3 b s d)) (fun d => A9 (ix1 d)) (fun d => A10 (ix2 b d)) (fun d => A11 (ix2 b d)) d := by
  unfold h2T
  have k := normT_at y A9 b s d
  generalize normT y A9 = n at k ⊢
  pointwise []
  rw [k]
  rfl

theorem rows_at (r : Fin 32768) : row ⟨r.val / 8192, by omega⟩ ⟨r.val % 8192, Nat.mod_lt _ (by decide)⟩ = r :=
  Fin.ext (by show r.val / 8192 * 8192 + r.val % 8192 = r.val; omega)

theorem flat_at (y : FVec Ideal S4x8192x2048 .f32) (r : Fin 32768) (d : Fin 2048) :
    (shapeCast S32768x2048 y shapeCasts_S4x8192x2048_S32768x2048 : FVec Ideal S32768x2048 .f32) (ix2 r d)
      = y (ix3 ⟨r.val / 8192, by omega⟩ ⟨r.val % 8192, Nat.mod_lt _ (by decide)⟩ d) := by
  pointwise []

theorem ref_x1 : (shapeCast S32768x2048 (x1T A0 A1 A2 A3 A4 A5 A6 A7 A8) shapeCasts_S4x8192x2048_S32768x2048 : FVec Ideal S32768x2048 .f32) = X1 A0 A1 A2 A3 A4 A5 A6 A7 A8 := by
  funext j
  obtain ⟨r, d, rfl⟩ : ∃ r d, j = (ix2 r d : S32768x2048.Idx) := ⟨_, _, eq_ix2 j⟩
  refine (flat_at _ r d).trans ((congrFun (x1T_at A0 A1 A2 A3 A4 A5 A6 A7 A8 _ _) d).trans ?_)
  rw [rows_at]
  rfl

theorem ref_h2 : (shapeCast S32768x2048 (h2T A9 A10 A11 (x1T A0 A1 A2 A3 A4 A5 A6 A7 A8)) shapeCasts_S4x8192x2048_S32768x2048 : FVec Ideal S32768x2048 .f32)
    = H2 A0 A1 A2 A3 A4 A5 A6 A7 A8 A9 A10 A11 := by
  funext j
  obtain ⟨r, d, rfl⟩ : ∃ r d, j = (ix2 r d : S32768x2048.Idx) := ⟨_, _, eq_ix2 j⟩
  refine (flat_at _ r d).trans ((h2T_at _ _ _ _ _ _ d).trans ?_)
  rw [x1T_at, rows_at]
  rfl

end Terms

end Cert.Reference5Ideal.Merge

end
-- ==== Proof.Merge.Value.lean ====
/-
  The merge's two result arrays over the extended reals, the reference's, and the claims on them.
-/
module

public import proofs.«01_k».proof.Proof.Merge.Rows

@[expose] public section

set_option maxRecDepth 16384

noncomputable section

namespace Cert.Kernel5Ideal.Merge

open Cert.Kernel5Ideal Cert.Kernel5Ideal.Gen Cert.Merge
open Idealize.ShloMosaic Idealize.ShloMosaic.TcCoe Idealize.SL.Sem
open Idealize.ShloMosaic.Pipeline (Dat Cfg Window)

/-! ## The blocks' places -/

theorem lt_N (t : Fin cfg0.N) : t.val < 128 := t.isLt

/-- Row `r` of grid point `t`'s block. -/
def at_row (t : Fin cfg0.N) (r : Fin 256) : Fin 32768 := ⟨256 * t.val + r.val, by have := lt_N t; omega⟩
/-- Grid point `t`'s batch. -/
def at_batch (t : Fin cfg0.N) : Fin 4 := ⟨t.val / 32, by have := lt_N t; omega⟩

theorem batch_at (t : Fin cfg0.N) (r : Fin 256) : batch (at_row t r) = at_batch t := Fin.ext (by show (256 * t.val + r.val) / 8192 = t.val / 32; omega)

theorem index0 : ∀ t : Fin cfg0.N, win0_0.index t (0 : Fin 2) = t.val ∧ win0_0.index t (1 : Fin 2) = 0 :=
  (by decide +kernel : ∀ t : Fin grid0.N, _)
theorem emb0 (t : Fin cfg0.N) (r : Fin 256) (d : Fin 1024) : ((cfg0.win 0).blk t).view.emb (ix2 r d : S256x1024.Idx) = (ix2 (at_row t r) d : S32768x1024.Idx) := by
  obtain ⟨e0, e1⟩ := index0 t
  funext a
  apply Fin.ext
  match a with
  | 0 => show win0_0.index t (0 : Fin 2) * 256 + 1 * r.val = 256 * t.val + r.val; omega
  | 1 => show win0_0.index t (1 : Fin 2) * 1024 + 1 * d.val = d.val; omega
theorem index1 : ∀ t : Fin cfg0.N, win0_1.index t (0 : Fin 2) = t.val ∧ win0_1.index t (1 : Fin 2) = 0 :=
  (by decide +kernel : ∀ t : Fin grid0.N, _)
theorem emb1 (t : Fin cfg0.N) (r : Fin 256) (d : Fin 1024) : ((cfg0.win 1).blk t).view.emb (ix2 r d : S256x1024.Idx) = (ix2 (at_row t r) d : S32768x1024.Idx) := by
  obtain ⟨e0, e1⟩ := index1 t
  funext a
  apply Fin.ext
  match a with
  | 0 => show win0_1.index t (0 : Fin 2) * 256 + 1 * r.val = 256 * t.val + r.val; omega
  | 1 => show win0_1.index t (1 : Fin 2) * 1024 + 1 * d.val = d.val; omega
theorem index2 : ∀ t : Fin cfg0.N, win0_2.index t (0 : Fin 2) = t.val ∧ win0_2.index t (1 : Fin 2) = 0 :=
  (by decide +kernel : ∀ t : Fin grid0.N, _)
theorem emb2 (t : Fin cfg0.N) (r : Fin 256) (d : Fin 4096) : ((cfg0.win 2).blk t).view.emb (ix2 r d : S256x4096.Idx) = (ix2 (at_row t r) d : S32768x4096.Idx) := by
  obtain ⟨e0, e1⟩ := index2 t
  funext a
  apply Fin.ext
  match a with
  | 0 => show win0_2.index t (0 : Fin 2) * 256 + 1 * r.val = 256 * t.val + r.val; omega
  | 1 => show win0_2.index t (1 : Fin 2) * 4096 + 1 * d.val = d.val; omega
theorem index3 : ∀ t : Fin cfg0.N, win0_3.index t (0 : Fin 2) = t.val ∧ win0_3.index t (1 : Fin 2) = 0 :=
  (by decide +kernel : ∀ t : Fin grid0.N, _)
theorem emb3 (t : Fin cfg0.N) (r : Fin 256) (d : Fin 2048) : ((cfg0.win 3).blk t).view.emb (ix2 r d : S256x2048.Idx) = (ix2 (at_row t r) d : S32768x2048.Idx) := by
  obtain ⟨e0, e1⟩ := index3 t
  funext a
  apply Fin.ext
  match a with
  | 0 => show win0_3.index t (0 : Fin 2) * 256 + 1 * r.val = 256 * t.val + r.val; omega
  | 1 => show win0_3.index t (1 : Fin 2) * 2048 + 1 * d.val = d.val; omega
theorem index4 : ∀ t : Fin cfg0.N, win0_4.index t (0 : Fin 2) = 0 ∧ win0_4.index t (1 : Fin 2) = 0 :=
  (by decide +kernel : ∀ t : Fin grid0.N, _)
theorem emb4 (t : Fin cfg0.N) (k : Fin 1024) (d : Fin 2048) : ((cfg0.win 4).blk t).view.emb (ix2 k d : S1024x2048.Idx) = (ix2 k d : S1024x2048.Idx) := by
  obtain ⟨e0, e1⟩ := index4 t
  funext a
  apply Fin.ext
  match a with
  | 0 => show win0_4.index t (0 : Fin 2) * 1024 + 1 * k.val = k.val; omega
  | 1 => show win0_4.index t (1 : Fin 2) * 2048 + 1 * d.val = d.val; omega
theorem index5 : ∀ t : Fin cfg0.N, win0_5.index t (0 : Fin 2) = 0 ∧ win0_5.index t (1 : Fin 2) = 0 :=
  (by decide +kernel : ∀ t : Fin grid0.N, _)
theorem emb5 (t : Fin cfg0.N) (k : Fin 1024) (d : Fin 2048) : ((cfg0.win 5).blk t).view.emb (ix2 k d : S1024x2048.Idx) = (ix2 k d : S1024x2048.Idx) := by
  obtain ⟨e0, e1⟩ := index5 t
  funext a
  apply Fin.ext
  match a with
  | 0 => show win0_5.index t (0 : Fin 2) * 1024 + 1 * k.val = k.val; omega
  | 1 => show win0_5.index t (1 : Fin 2) * 2048 + 1 * d.val = d.val; omega
theorem index6 : ∀ t : Fin cfg0.N, win0_6.index t (0 : Fin 2) = 0 ∧ win0_6.index t (1 : Fin 2) = 0 :=
  (by decide +kernel : ∀ t : Fin grid0.N, _)
theorem emb6 (t : Fin cfg0.N) (k : Fin 2048) (d : Fin 2048) : ((cfg0.win 6).blk t).view.emb (ix2 k d : S2048x2048.Idx) = (ix2 k d : S2048x2048.Idx) := by
  obtain ⟨e0, e1⟩ := index6 t
  funext a
  apply Fin.ext
  match a with
  | 0 => show win0_6.index t (0 : Fin 2) * 2048 + 1 * k.val = k.val; omega
  | 1 => show win0_6.index t (1 : Fin 2) * 2048 + 1 * d.val = d.val; omega
theorem index7 : ∀ t : Fin cfg0.N, win0_7.index t (0 : Fin 2) = 0 ∧ win0_7.index t (1 : Fin 2) = 0 :=
  (by decide +kernel : ∀ t : Fin grid0.N, _)
theorem emb7 (t : Fin cfg0.N) (k : Fin 1) (d : Fin 2048) : ((cfg0.win 7).blk t).view.emb (ix2 k d : S1x2048.Idx) = (ix2 k d : S1x2048.Idx) := by
  obtain ⟨e0, e1⟩ := index7 t
  funext a
  apply Fin.ext
  match a with
  | 0 => show win0_7.index t (0 : Fin 2) * 1 + 1 * k.val = k.val; omega
  | 1 => show win0_7.index t (1 : Fin 2) * 2048 + 1 * d.val = d.val; omega
theorem index8 : ∀ t : Fin cfg0.N, win0_8.index t (0 : Fin 3) = t.val / 32 ∧ win0_8.index t (1 : Fin 3) = 0 ∧ win0_8.index t (2 : Fin 3) = 0 :=
  (by decide +kernel : ∀ t : Fin grid0.N, _)
theorem emb8 (t : Fin cfg0.N) (d : Fin 2048) : ((cfg0.win 8).blk t).view.emb (ix3 0 0 d : S1x1x2048.Idx) = (ix3 (at_batch t) 0 d : S4x1x2048.Idx) := by
  obtain ⟨e0, e1, e2⟩ := index8 t
  funext a
  apply Fin.ext
  match a with
  | 0 => show win0_8.index t (0 : Fin 3) * 1 + 1 * 0 = t.val / 32; omega
  | 1 => show win0_8.index t (1 : Fin 3) * 1 + 1 * 0 = 0; omega
  | 2 => show win0_8.index t (2 : Fin 3) * 2048 + 1 * d.val = d.val; omega
theorem index9 : ∀ t : Fin cfg0.N, win0_9.index t (0 : Fin 2) = 0 ∧ win0_9.index t (1 : Fin 2) = 0 :=
  (by decide +kernel : ∀ t : Fin grid0.N, _)
theorem emb9 (t : Fin cfg0.N) (k : Fin 1) (d : Fin 2048) : ((cfg0.win 9).blk t).view.emb (ix2 k d : S1x2048.Idx) = (ix2 k d : S1x2048.Idx) := by
  obtain ⟨e0, e1⟩ := index9 t
  funext a
  apply Fin.ext
  match a with
  | 0 => show win0_9.index t (0 : Fin 2) * 1 + 1 * k.val = k.val; omega
  | 1 => show win0_9.index t (1 : Fin 2) * 2048 + 1 * d.val = d.val; omega
theorem index10 : ∀ t : Fin cfg0.N, win0_10.index t (0 : Fin 3) = t.val / 32 ∧ win0_10.index t (1 : Fin 3) = 0 ∧ win0_10.index t (2 : Fin 3) = 0 :=
  (by decide +kernel : ∀ t : Fin grid0.N, _)
theorem emb10 (t : Fin cfg0.N) (d : Fin 2048) : ((cfg0.win 10).blk t).view.emb (ix3 0 0 d : S1x1x2048.Idx) = (ix3 (at_batch t) 0 d : S4x1x2048.Idx) := by
  obtain ⟨e0, e1, e2⟩ := index10 t
  funext a
  apply Fin.ext
  match a with
  | 0 => show win0_10.index t (0 : Fin 3) * 1 + 1 * 0 = t.val / 32; omega
  | 1 => show win0_10.index t (1 : Fin 3) * 1 + 1 * 0 = 0; omega
  | 2 => show win0_10.index t (2 : Fin 3) * 2048 + 1 * d.val = d.val; omega
theorem index11 : ∀ t : Fin cfg0.N, win0_11.index t (0 : Fin 3) = t.val / 32 ∧ win0_11.index t (1 : Fin 3) = 0 ∧ win0_11.index t (2 : Fin 3) = 0 :=
  (by decide +kernel : ∀ t : Fin grid0.N, _)
theorem emb11 (t : Fin cfg0.N) (d : Fin 2048) : ((cfg0.win 11).blk t).view.emb (ix3 0 0 d : S1x1x2048.Idx) = (ix3 (at_batch t) 0 d : S4x1x2048.Idx) := by
  obtain ⟨e0, e1, e2⟩ := index11 t
  funext a
  apply Fin.ext
  match a with
  | 0 => show win0_11.index t (0 : Fin 3) * 1 + 1 * 0 = t.val / 32; omega
  | 1 => show win0_11.index t (1 : Fin 3) * 1 + 1 * 0 = 0; omega
  | 2 => show win0_11.index t (2 : Fin 3) * 2048 + 1 * d.val = d.val; omega
theorem index12 : ∀ t : Fin cfg0.N, win0_12.index t (0 : Fin 2) = t.val ∧ win0_12.index t (1 : Fin 2) = 0 :=
  (by decide +kernel : ∀ t : Fin grid0.N, _)
theorem emb12 (t : Fin cfg0.N) (r : Fin 256) (d : Fin 2048) : ((cfg0.win 12).blk t).view.emb (ix2 r d : S256x2048.Idx) = (ix2 (at_row t r) d : S32768x2048.Idx) := by
  obtain ⟨e0, e1⟩ := index12 t
  funext a
  apply Fin.ext
  match a with
  | 0 => show win0_12.index t (0 : Fin 2) * 256 + 1 * r.val = 256 * t.val + r.val; omega
  | 1 => show win0_12.index t (1 : Fin 2) * 2048 + 1 * d.val = d.val; omega
theorem index13 : ∀ t : Fin cfg0.N, win0_13.index t (0 : Fin 2) = t.val ∧ win0_13.index t (1 : Fin 2) = 0 :=
  (by decide +kernel : ∀ t : Fin grid0.N, _)
theorem emb13 (t : Fin cfg0.N) (r : Fin 256) (d : Fin 2048) : ((cfg0.win 13).blk t).view.emb (ix2 r d : S256x2048.Idx) = (ix2 (at_row t r) d : S32768x2048.Idx) := by
  obtain ⟨e0, e1⟩ := index13 t
  funext a
  apply Fin.ext
  match a with
  | 0 => show win0_13.index t (0 : Fin 2) * 256 + 1 * r.val = 256 * t.val + r.val; omega
  | 1 => show win0_13.index t (1 : Fin 2) * 2048 + 1 * d.val = d.val; omega

/-! ## The blocks -/

section Run

variable (m : (ℓ : Loc nD τ sig) → Buf (Elt Ideal) ℓ) (ρ : Dev nD → PrngReg) (c : Dev nD)

theorem V_v0 : V m c main_v0 = m ((c : Thread nD τ).loc main_arg0) := by
  show StableHlo.after hostOps0 _ (Proc.devRef .tc main_v0) = _
  simp only [hostOps0, StableHlo.after_cons, StableHlo.after_nil]
  rfl
theorem V_v1 : V m c main_v1 = m ((c : Thread nD τ).loc main_arg1) := by
  show StableHlo.after hostOps0 _ (Proc.devRef .tc main_v1) = _
  simp only [hostOps0, StableHlo.after_cons, StableHlo.after_nil]
  rfl
theorem V_v2 : V m c main_v2 = m ((c : Thread nD τ).loc main_arg2) := by
  show StableHlo.after hostOps0 _ (Proc.devRef .tc main_v2) = _
  simp only [hostOps0, StableHlo.after_cons, StableHlo.after_nil]
  rfl
theorem V_v3 : V m c main_v3 = m ((c : Thread nD τ).loc main_arg4) := by
  show StableHlo.after hostOps0 _ (Proc.devRef .tc main_v3) = _
  simp only [hostOps0, StableHlo.after_cons, StableHlo.after_nil]
  rfl
theorem V_v4 : V m c main_v4 = m ((c : Thread nD τ).loc main_arg5) := by
  show StableHlo.after hostOps0 _ (Proc.devRef .tc main_v4) = _
  simp only [hostOps0, StableHlo.after_cons, StableHlo.after_nil]
  rfl
theorem V_v5 : V m c main_v5 = m ((c : Thread nD τ).loc main_arg6) := by
  show StableHlo.after hostOps0 _ (Proc.devRef .tc main_v5) = _
  simp only [hostOps0, StableHlo.after_cons, StableHlo.after_nil]
  rfl
theorem V_v6 (d : Fin 2048) : V m c main_v6 (ix2 0 d) = m ((c : Thread nD τ).loc main_arg7) (ix1 d) := by
  have h : V m c main_v6 = shapeCast S1x2048 (m ((c : Thread nD τ).loc main_arg7)) shapeCasts_S2048_S1x2048 := by
    show StableHlo.after hostOps0 _ (Proc.devRef .tc main_v6) = _
    simp only [hostOps0, StableHlo.after_cons, StableHlo.after_nil]
    rfl
  rw [h]
  pointwise []
theorem V_v8 (d : Fin 2048) : V m c main_v8 (ix2 0 d) = m ((c : Thread nD τ).loc main_arg9) (ix1 d) := by
  have h : V m c main_v8 = shapeCast S1x2048 (m ((c : Thread nD τ).loc main_arg9)) shapeCasts_S2048_S1x2048 := by
    show StableHlo.after hostOps0 _ (Proc.devRef .tc main_v8) = _
    simp only [hostOps0, StableHlo.after_cons, StableHlo.after_nil]
    rfl
  rw [h]
  pointwise []
theorem V_v7 (b : Fin 4) (d : Fin 2048) : V m c main_v7 (ix3 b 0 d) = m ((c : Thread nD τ).loc main_arg8) (ix2 b d) := by
  have h : V m c main_v7 = shapeCast S4x1x2048 (m ((c : Thread nD τ).loc main_arg8)) shapeCasts_S4x2048_S4x1x2048 := by
    show StableHlo.after hostOps0 _ (Proc.devRef .tc main_v7) = _
    simp only [hostOps0, StableHlo.after_cons, StableHlo.after_nil]
    rfl
  rw [h]
  pointwise []
theorem V_v9 (b : Fin 4) (d : Fin 2048) : V m c main_v9 (ix3 b 0 d) = m ((c : Thread nD τ).loc main_arg10) (ix2 b d) := by
  have h : V m c main_v9 = shapeCast S4x1x2048 (m ((c : Thread nD τ).loc main_arg10)) shapeCasts_S4x2048_S4x1x2048 := by
    show StableHlo.after hostOps0 _ (Proc.devRef .tc main_v9) = _
    simp only [hostOps0, StableHlo.after_cons, StableHlo.after_nil]
    rfl
  rw [h]
  pointwise []
theorem V_v10 (b : Fin 4) (d : Fin 2048) : V m c main_v10 (ix3 b 0 d) = m ((c : Thread nD τ).loc main_arg11) (ix2 b d) := by
  have h : V m c main_v10 = shapeCast S4x1x2048 (m ((c : Thread nD τ).loc main_arg11)) shapeCasts_S4x2048_S4x1x2048 := by
    show StableHlo.after hostOps0 _ (Proc.devRef .tc main_v10) = _
    simp only [hostOps0, StableHlo.after_cons, StableHlo.after_nil]
    rfl
  rw [h]
  pointwise []

/-- The residual stream the region leaves, and its modulated norm. -/
def Out1 : FVec Ideal S32768x2048 .f32 :=
  X1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
def Out2 : FVec Ideal S32768x2048 .f32 :=
  H2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

variable {m c} (t : Fin cfg0.N) (r : Fin 256)

theorem iblk0_at (d : Fin 1024) : iblk m c 0 t (ix2 r d : S256x1024.Idx) = m ((c : Thread nD τ).loc main_arg0) (ix2 (at_row t r) d) :=
  (congrArg (V m c main_v0) (emb0 t r d)).trans (congrFun (V_v0 m c) _)
theorem iblk1_at (d : Fin 1024) : iblk m c 1 t (ix2 r d : S256x1024.Idx) = m ((c : Thread nD τ).loc main_arg1) (ix2 (at_row t r) d) :=
  (congrArg (V m c main_v1) (emb1 t r d)).trans (congrFun (V_v1 m c) _)
theorem iblk2_at (d : Fin 4096) : iblk m c 2 t (ix2 r d : S256x4096.Idx) = m ((c : Thread nD τ).loc main_arg2) (ix2 (at_row t r) d) :=
  (congrArg (V m c main_v2) (emb2 t r d)).trans (congrFun (V_v2 m c) _)
theorem iblk3_at (d : Fin 2048) : iblk m c 3 t (ix2 r d : S256x2048.Idx) = m ((c : Thread nD τ).loc main_arg3) (ix2 (at_row t r) d) :=
  (congrArg (V m c main_arg3) (emb3 t r d)).trans (congrFun (V_main_arg3 m c) _)
theorem iblk4_at (k : Fin 1024) (d : Fin 2048) : iblk m c 4 t (ix2 k d : S1024x2048.Idx) = m ((c : Thread nD τ).loc main_arg4) (ix2 k d) :=
  (congrArg (V m c main_v3) (emb4 t k d)).trans (congrFun (V_v3 m c) _)
theorem iblk5_at (k : Fin 1024) (d : Fin 2048) : iblk m c 5 t (ix2 k d : S1024x2048.Idx) = m ((c : Thread nD τ).loc main_arg5) (ix2 k d) :=
  (congrArg (V m c main_v4) (emb5 t k d)).trans (congrFun (V_v4 m c) _)
theorem iblk6_at (k : Fin 2048) (d : Fin 2048) : iblk m c 6 t (ix2 k d : S2048x2048.Idx) = m ((c : Thread nD τ).loc main_arg6) (ix2 k d) :=
  (congrArg (V m c main_v5) (emb6 t k d)).trans (congrFun (V_v5 m c) _)
theorem iblk7_at (d : Fin 2048) : iblk m c 7 t (ix2 0 d : S1x2048.Idx) = m ((c : Thread nD τ).loc main_arg7) (ix1 d) :=
  (congrArg (V m c main_v6) (emb7 t 0 d)).trans (V_v6 m c d)
theorem iblk8_at (d : Fin 2048) : iblk m c 8 t (ix3 0 0 d : S1x1x2048.Idx) = m ((c : Thread nD τ).loc main_arg8) (ix2 (at_batch t) d) :=
  (congrArg (V m c main_v7) (emb8 t d)).trans (V_v7 m c (at_batch t) d)
theorem iblk9_at (d : Fin 2048) : iblk m c 9 t (ix2 0 d : S1x2048.Idx) = m ((c : Thread nD τ).loc main_arg9) (ix1 d) :=
  (congrArg (V m c main_v8) (emb9 t 0 d)).trans (V_v8 m c d)
theorem iblk10_at (d : Fin 2048) : iblk m c 10 t (ix3 0 0 d : S1x1x2048.Idx) = m ((c : Thread nD τ).loc main_arg10) (ix2 (at_batch t) d) :=
  (congrArg (V m c main_v9) (emb10 t d)).trans (V_v9 m c (at_batch t) d)
theorem iblk11_at (d : Fin 2048) : iblk m c 11 t (ix3 0 0 d : S1x1x2048.Idx) = m ((c : Thread nD τ).loc main_arg11) (ix2 (at_batch t) d) :=
  (congrArg (V m c main_v10) (emb11 t d)).trans (V_v10 m c (at_batch t) d)

theorem left12 (d : Fin 2048) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d) = Out1 m c (ix2 (at_row t r) d) := by
  refine (out12_at r (iblk0_at t r) (iblk1_at t r) (fun k => iblk2_at t r (lo k)) (fun k => iblk2_at t r (hi k)) (iblk3_at t r) (iblk4_at t) (iblk5_at t) (iblk6_at t) (iblk7_at t) (iblk8_at t) d).trans ?_
  unfold Out1 X1 x1At
  rw [← batch_at t r]
  rfl
theorem left13 (d : Fin 2048) : out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d) = Out2 m c (ix2 (at_row t r) d) := by
  refine (out13_at r (iblk0_at t r) (iblk1_at t r) (fun k => iblk2_at t r (lo k)) (fun k => iblk2_at t r (hi k)) (iblk3_at t r) (iblk4_at t) (iblk5_at t) (iblk6_at t) (iblk7_at t) (iblk8_at t) (iblk9_at t) (iblk10_at t) (iblk11_at t) d).trans ?_
  unfold Out2 H2 x1At
  rw [← batch_at t r]
  rfl

theorem flushed12 : (dats m 0 c).flushed 12 t = ((cfg0.win 12).blk t).view.read (Elt Ideal) (Out1 m c) := by
  funext j
  obtain ⟨r, d, rfl⟩ : ∃ r d, j = (ix2 r d : S256x2048.Idx) := ⟨_, _, eq_ix2 j⟩
  refine (congrFun (after0_12 m c t) (ix2 r d : S256x2048.Idx)).trans ((left12 t r d).trans (congrArg (Out1 m c) ?_))
  exact (emb12 t r d).symm
theorem covered12 (i : S32768x2048.Idx) :
    ∃ t : Fin cfg0.N, (cfg0.win 12).flush t = true ∧ i ∈ ((cfg0.win 12).blk t).view.set := by
  have i0 : (i 0).val < 32768 := (i 0).isLt
  have hN : cfg0.N = 128 := rfl
  let t : Fin cfg0.N := ⟨(i 0).val / 256, by omega⟩
  let j : S256x2048.Idx := ix2 ⟨(i 0).val % 256, by omega⟩ (i 1)
  refine ⟨t, flush0_12 _, ?_⟩
  have h := ((cfg0.win 12).blk t).view.emb_mem_set j
  have e : ((cfg0.win 12).blk t).view.emb j = i := by
    have tv : t.val = (i 0).val / 256 := rfl
    refine (emb12 t _ _).trans ?_
    funext a
    apply Fin.ext
    match a with
    | 0 => show 256 * t.val + (i 0).val % 256 = (i 0).val; omega
    | 1 => rfl
  rwa [e] at h
theorem final12 : (dats m 0 c).arrAt 12 cfg0.N = Out1 m c :=
  (dats m 0 c).arrAt_eq_of_cover 12 _ (fun t _ => flushed12 t) covered12

theorem flushed13 : (dats m 0 c).flushed 13 t = ((cfg0.win 13).blk t).view.read (Elt Ideal) (Out2 m c) := by
  funext j
  obtain ⟨r, d, rfl⟩ : ∃ r d, j = (ix2 r d : S256x2048.Idx) := ⟨_, _, eq_ix2 j⟩
  refine (congrFun (after0_13 m c t) (ix2 r d : S256x2048.Idx)).trans ((left13 t r d).trans (congrArg (Out2 m c) ?_))
  exact (emb13 t r d).symm
theorem covered13 (i : S32768x2048.Idx) :
    ∃ t : Fin cfg0.N, (cfg0.win 13).flush t = true ∧ i ∈ ((cfg0.win 13).blk t).view.set := by
  have i0 : (i 0).val < 32768 := (i 0).isLt
  have hN : cfg0.N = 128 := rfl
  let t : Fin cfg0.N := ⟨(i 0).val / 256, by omega⟩
  let j : S256x2048.Idx := ix2 ⟨(i 0).val % 256, by omega⟩ (i 1)
  refine ⟨t, flush0_13 _, ?_⟩
  have h := ((cfg0.win 13).blk t).view.emb_mem_set j
  have e : ((cfg0.win 13).blk t).view.emb j = i := by
    have tv : t.val = (i 0).val / 256 := rfl
    refine (emb13 t _ _).trans ?_
    funext a
    apply Fin.ext
    match a with
    | 0 => show 256 * t.val + (i 0).val % 256 = (i 0).val; omega
    | 1 => rfl
  rwa [e] at h
theorem final13 : (dats m 0 c).arrAt 13 cfg0.N = Out2 m c :=
  (dats m 0 c).arrAt_eq_of_cover 13 _ (fun t _ => flushed13 t) covered13

end Run

/-- Every run ends with the two results' arrays at `Out1` and `Out2`, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11_0) = Out1 m c
      ∧ r.2.mem ((c.tc : Thread nD τ).loc main_v11_1) = Out2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨((h.1 c).1 12).trans final12, ((h.1 c).1 13).trans final13, h.2 c⟩) (θ_run_and (run_main m ρ) (unchanged m ρ))

end Cert.Kernel5Ideal.Merge

namespace Cert.Merge

open Idealize.ShloMosaic Idealize.ShloMosaic.TcCoe Idealize.SL.Sem

theorem frame_ri : Cert.quiescent_Reference5Ideal (hReference5Ideal := Cert.Reference5Ideal.Gen.facts) := by
  intro m ρ _
  exact (θ_run Cert.Reference5Ideal.defs _ _).mono
    (fun r h => ⟨fun c => (h c).2.2, Idealize.ShloMosaic.sem_eq_zero_of_no_sems (by decide) r.2⟩)
    (Cert.Reference5Ideal.Value.run (F := Ideal) m ρ)

theorem values : Cert.algebraic_Kernel5Ideal_Reference5Ideal (hKernel5Ideal := Cert.Kernel5Ideal.Gen.facts) (hReference5Ideal := Cert.Reference5Ideal.Gen.facts) := by
  intro m ρ m' ρ' _ same
  refine ⟨fun c => Cert.Kernel5Ideal.Merge.Out1 m c, fun c => Cert.Kernel5Ideal.Merge.Out2 m c, Cert.Kernel5Ideal.Merge.run m ρ, ?_⟩
  refine (θ_run Cert.Reference5Ideal.defs _ _).mono (fun _ h c => ⟨(h c).1.trans ?_, (h c).2.1.trans ?_, (h c).2.2⟩) (Cert.Reference5Ideal.Value.run (F := Ideal) m' ρ')
  · refine (Cert.Reference5Ideal.Merge.ref_x1 _ _ _ _ _ _ _ _ _).trans ?_
    obtain ⟨e0, e1, e2, e3, e4, e5, e6, e7, e8, -, -, -⟩ := same c
    rw [e0, e1, e2, e3, e4, e5, e6, e7, e8]
    rfl
  · refine (Cert.Reference5Ideal.Merge.ref_h2 _ _ _ _ _ _ _ _ _ _ _ _).trans ?_
    obtain ⟨e0, e1, e2, e3, e4, e5, e6, e7, e8, e9, e10, e11⟩ := same c
    rw [e0, e1, e2, e3, e4, e5, e6, e7, e8, e9, e10, e11]
    rfl

end Cert.Merge

end
-- ==== Proof.Rope.Turn.lean ====
/-
  The rotation of a head's leading lanes, over the extended reals, and the form of it that multiplies every lane by a
  cosine and its partner by a signed sine.
-/
module

public import Idealize.ShloMosaic.Lib.Pointwise

@[expose] public section

noncomputable section

namespace Cert.Rope

open Idealize.ShloMosaic

/-- The frequency of lane `n` of a half turned in `q` (a float's bits) steps. -/
def hz (q : BitVec 32) (n : Nat) : EReal :=
  Ideal.pow (Ideal.ofBits FTy.f32 1223959552#32) (Ideal.div (-FloatOps.sitofp (F := Ideal) FTy.f32 (BitVec.ofNat 32 n)) (Ideal.ofBits FTy.f32 q))

/-- Entry `n` of a row whose heads of `pd` lanes have their first two halves of `hf` lanes turned by the position `p`, lane by lane at the frequencies `w`. -/
def turn (hf pd : Nat) (w : Nat → EReal) (x : Nat → EReal) (p : EReal) (n : Nat) : EReal :=
  if n % pd < hf then x n * Ideal.cos (p * w (n % pd)) - x (n + hf) * Ideal.sin (p * w (n % pd))
  else if n % pd - hf < hf then x n * Ideal.cos (p * w (n % pd - hf)) + x (n - hf) * Ideal.sin (p * w (n % pd - hf))
  else x n

/-- A lane's frequency: nought past the two halves. -/
def freq (hf pd : Nat) (w : Nat → EReal) (n : Nat) : EReal :=
  if n % pd < hf then w (n % pd) else if n % pd - hf < hf then w (n % pd - hf) else 0

/-- A lane's sign in front of the sine. -/
def sgn (hf pd n : Nat) : EReal := if n % pd < hf then -1 else if n % pd - hf < hf then 1 else 0

section Cases

variable {hf pd : Nat} {w : Nat → EReal} {x : Nat → EReal} {p : EReal} {n : Nat}

theorem turn_lo (h : n % pd < hf) : turn hf pd w x p n = x n * Ideal.cos (p * w (n % pd)) - x (n + hf) * Ideal.sin (p * w (n % pd)) := by
  unfold turn; rw [if_pos h]
theorem turn_mid (h : ¬ n % pd < hf) (h' : n % pd - hf < hf) :
    turn hf pd w x p n = x n * Ideal.cos (p * w (n % pd - hf)) + x (n - hf) * Ideal.sin (p * w (n % pd - hf)) := by
  unfold turn; rw [if_neg h, if_pos h']
theorem turn_hi (h : ¬ n % pd < hf) (h' : ¬ n % pd - hf < hf) : turn hf pd w x p n = x n := by
  unfold turn; rw [if_neg h, if_neg h']
theorem freq_lo (h : n % pd < hf) : freq hf pd w n = w (n % pd) := by unfold freq; rw [if_pos h]
theorem freq_mid (h : ¬ n % pd < hf) (h' : n % pd - hf < hf) : freq hf pd w n = w (n % pd - hf) := by unfold freq; rw [if_neg h, if_pos h']
theorem freq_hi (h : ¬ n % pd < hf) (h' : ¬ n % pd - hf < hf) : freq hf pd w n = 0 := by unfold freq; rw [if_neg h, if_neg h']

end Cases

/-- Only the frequencies of one half are read. -/
theorem turn_congr {hf pd : Nat} {w w' x : Nat → EReal} {p : EReal} {n : Nat} (h : ∀ n, n < hf → w n = w' n) :
    turn hf pd w x p n = turn hf pd w' x p n := by
  unfold turn
  by_cases h1 : n % pd < hf
  · rw [if_pos h1, if_pos h1, h _ h1]
  · by_cases h2 : n % pd - hf < hf
    · rw [if_neg h1, if_neg h1, if_pos h2, if_pos h2, h _ h2]
    · rw [if_neg h1, if_neg h1, if_neg h2, if_neg h2]

/-- The turn by a cosine and a signed sine on every lane. -/
theorem turn_eq (hf pd : Nat) (w : Nat → EReal) (x : Nat → EReal) (p : EReal) (n : Nat) :
    x n * Ideal.cos (p * freq hf pd w n) + (if n % pd < hf then x (n + hf) else x (n - hf)) * (Ideal.sin (p * freq hf pd w n) * sgn hf pd n)
      = turn hf pd w x p n := by
  unfold turn freq sgn
  by_cases h : n % pd < hf
  · simp only [if_pos h, mul_neg, mul_one]
    rfl
  · by_cases h' : n % pd - hf < hf
    · simp only [if_neg h, if_pos h', mul_one]
    · have c0 : Ideal.cos 0 = 1 := by
        show ((Real.cos 0 : ℝ) : EReal) = 1
        rw [Real.cos_zero]; rfl
      simp only [if_neg h, if_neg h', mul_zero, c0, mul_one, add_zero]

end Cert.Rope

end
-- ==== Proof.Rope.Reference.lean ====
/-
  The reference's turned projection at an entry, over the extended reals.
-/
module

public import proofs.«01_k».proof.Defs
public import proofs.«01_k».proof.Proof.Rope.Turn
public import proofs.«01_k».proof.Proof.Gen.Reference6Ideal.Run
public import Idealize.ShloMosaic.Lib.Pointwise

@[expose] public section

set_option maxRecDepth 16384

noncomputable section

namespace Cert.Rope

open Idealize.ShloMosaic Idealize.ShloMosaic.TcCoe Idealize.SL.Sem Cert.Rope
open Cert.Reference6Ideal Cert.Reference6Ideal.Gen

/-- The reference's term over a product `Z` and a half's frequencies `v`. -/
def term (Z : FVec Ideal S32768x9808 .f32) (v : FVec Ideal S16 .f32) (P : Vec Ideal S4x8192 .i32) : FVec Ideal S32768x1280 .bf16 :=
  truncf .bf16 (shapeCast _ ((concatenate S4x8192x10x128 3 [⟨S4x8192x10x16, ((subf (mulf (extractStridedSlice S4x8192x10x16 ![0, 0, 0, 0] (shapeCast _ (extractStridedSlice S32768x1280 ![0, 0] Z slices_S32768x9808_S32768x1280_0_0) shapeCasts_S32768x1280_S4x8192x10x128) slices_S4x8192x10x128_S4x8192x10x16_0_0_0_0) (broadcastInDim S4x8192x10x16 ![0, 1, 2, 3] bcast_S4x8192x1x16_S4x8192x10x16_0_1_2_3 (broadcastInDim S4x8192x1x16 ![0, 1, 3] bcast_S4x8192x16_S4x8192x1x16_0_1_3 (Host.cos (mulf (broadcastInDim S4x8192x16 ![0, 1, 2] bcast_S4x8192x1_S4x8192x16_0_1_2 (broadcastInDim S4x8192x1 ![0, 1] bcast_S4x8192_S4x8192x1_0_1 (sitofp .f32 P))) (broadcastInDim S4x8192x16 ![0, 1, 2] bcast_S1x1x16_S4x8192x16_0_1_2 (broadcastInDim S1x1x16 ![2] bcast_S16_S1x1x16_2 v))))))) (mulf (extractStridedSlice S4x8192x10x16 ![0, 0, 0, 16] (shapeCast _ (extractStridedSlice S32768x1280 ![0, 0] Z slices_S32768x9808_S32768x1280_0_0) shapeCasts_S32768x1280_S4x8192x10x128) slices_S4x8192x10x128_S4x8192x10x16_0_0_0_16) (broadcastInDim S4x8192x10x16 ![0, 1, 2, 3] bcast_S4x8192x1x16_S4x8192x10x16_0_1_2_3 (broadcastInDim S4x8192x1x16 ![0, 1, 3] bcast_S4x8192x16_S4x8192x1x16_0_1_3 (Host.sin (mulf (broadcastInDim S4x8192x16 ![0, 1, 2] bcast_S4x8192x1_S4x8192x16_0_1_2 (broadcastInDim S4x8192x1 ![0, 1] bcast_S4x8192_S4x8192x1_0_1 (sitofp .f32 P))) (broadcastInDim S4x8192x16 ![0, 1, 2] bcast_S1x1x16_S4x8192x16_0_1_2 (broadcastInDim S1x1x16 ![2] bcast_S16_S1x1x16_2 v)))))))) : (⟨S4x8192x10x16, .f32⟩ : BufTy).Contents (Elt Ideal))⟩, ⟨S4x8192x10x16, ((addf (mulf (extractStridedSlice S4x8192x10x16 ![0, 0, 0, 16] (shapeCast _ (extractStridedSlice S32768x1280 ![0, 0] Z slices_S32768x9808_S32768x1280_0_0) shapeCasts_S32768x1280_S4x8192x10x128) slices_S4x8192x10x128_S4x8192x10x16_0_0_0_16) (broadcastInDim S4x8192x10x16 ![0, 1, 2, 3] bcast_S4x8192x1x16_S4x8192x10x16_0_1_2_3 (broadcastInDim S4x8192x1x16 ![0, 1, 3] bcast_S4x8192x16_S4x8192x1x16_0_1_3 (Host.cos (mulf (broadcastInDim S4x8192x16 ![0, 1, 2] bcast_S4x8192x1_S4x8192x16_0_1_2 (broadcastInDim S4x8192x1 ![0, 1] bcast_S4x8192_S4x8192x1_0_1 (sitofp .f32 P))) (broadcastInDim S4x8192x16 ![0, 1, 2] bcast_S1x1x16_S4x8192x16_0_1_2 (broadcastInDim S1x1x16 ![2] bcast_S16_S1x1x16_2 v))))))) (mulf (extractStridedSlice S4x8192x10x16 ![0, 0, 0, 0] (shapeCast _ (extractStridedSlice S32768x1280 ![0, 0] Z slices_S32768x9808_S32768x1280_0_0) shapeCasts_S32768x1280_S4x8192x10x128) slices_S4x8192x10x128_S4x8192x10x16_0_0_0_0) (broadcastInDim S4x8192x10x16 ![0, 1, 2, 3] bcast_S4x8192x1x16_S4x8192x10x16_0_1_2_3 (broadcastInDim S4x8192x1x16 ![0, 1, 3] bcast_S4x8192x16_S4x8192x1x16_0_1_3 (Host.sin (mulf (broadcastInDim S4x8192x16 ![0, 1, 2] bcast_S4x8192x1_S4x8192x16_0_1_2 (broadcastInDim S4x8192x1 ![0, 1] bcast_S4x8192_S4x8192x1_0_1 (sitofp .f32 P))) (broadcastInDim S4x8192x16 ![0, 1, 2] bcast_S1x1x16_S4x8192x16_0_1_2 (broadcastInDim S1x1x16 ![2] bcast_S16_S1x1x16_2 v)))))))) : (⟨S4x8192x10x16, .f32⟩ : BufTy).Contents (Elt Ideal))⟩, ⟨S4x8192x10x96, ((extractStridedSlice S4x8192x10x96 ![0, 0, 0, 32] (shapeCast _ (extractStridedSlice S32768x1280 ![0, 0] Z slices_S32768x9808_S32768x1280_0_0) shapeCasts_S32768x1280_S4x8192x10x128) slices_S4x8192x10x128_S4x8192x10x96_0_0_0_32) : (⟨S4x8192x10x96, .f32⟩ : BufTy).Contents (Elt Ideal))⟩] concatenates_S4x8192x10x16_S4x8192x10x16_S4x8192x10x96_S4x8192x10x128_d3 : (⟨S4x8192x10x128, .f32⟩ : BufTy).Contents (Elt Ideal))) shapeCasts_S4x8192x10x128_S32768x1280) bitsLt_bf16_f32

/-- A row's position. -/
def place (P : Vec Ideal S4x8192 .i32) (r : Fin 32768) : EReal :=
  FloatOps.sitofp (F := Ideal) FTy.f32 (P (ix2 ⟨r.val / 8192, by have := r.isLt; omega⟩ ⟨r.val % 8192, Nat.mod_lt _ (by decide)⟩))

set_option maxHeartbeats 1000000 in
theorem term_at (Z : FVec Ideal S32768x9808 .f32) (v : FVec Ideal S16 .f32) (P : Vec Ideal S4x8192 .i32) (r : Fin 32768) (d : Fin 1280) :
    term Z v P (ix2 r d) = turn 16 128 (fun n => v (ix1 ⟨n % 16, Nat.mod_lt _ (by decide)⟩)) (fun n => Z (ix2 r ⟨(0 + n) % 9808, Nat.mod_lt _ (by decide)⟩)) (place P r) d.val := by
  have hd := d.isLt
  have zc : ∀ (a n : Nat) (ha : a < 9808), a = (0 + n) % 9808 → (Z (ix2 r ⟨a, ha⟩) : EReal) = Z (ix2 r ⟨(0 + n) % 9808, Nat.mod_lt _ (by decide)⟩) :=
    fun a n ha e => congrArg (fun q => Z (ix2 r q)) (Fin.ext e)
  have vc : ∀ (a n : Nat) (ha : a < 16), a = n % 16 → (place P r * v (ix1 ⟨a, ha⟩) : EReal) = place P r * v (ix1 ⟨n % 16, Nat.mod_lt _ (by decide)⟩) :=
    fun a n ha e => congrArg (fun q => (place P r * v (ix1 q) : EReal)) (Fin.ext e)
  obtain ⟨z, hz⟩ : ∃ z, z = turn 16 128 (fun n => v (ix1 ⟨n % 16, Nat.mod_lt _ (by decide)⟩)) (fun n => Z (ix2 r ⟨(0 + n) % 9808, Nat.mod_lt _ (by decide)⟩)) (place P r) d.val := ⟨_, rfl⟩
  rewrite [← hz]
  pointwise [term]
  by_cases h : d.val % 128 < 16
  · rewrite [dif_pos h]
    refine Eq.trans ?_ ((turn_lo h).symm.trans hz.symm)
    exact congrArg₂ (fun a b : EReal => a - b) (congrArg₂ (fun a b : EReal => a * b) (zc _ _ _ (by omega)) (congrArg Ideal.cos (vc _ _ _ (by omega))))
      (congrArg₂ (fun a b : EReal => a * b) (zc _ _ _ (by omega)) (congrArg Ideal.sin (vc _ _ _ (by omega))))
  · rewrite [dif_neg h]
    by_cases h' : d.val % 128 - 16 < 16
    · rewrite [dif_pos h']
      refine Eq.trans ?_ ((turn_mid h h').symm.trans hz.symm)
      exact congrArg₂ (fun a b : EReal => a + b) (congrArg₂ (fun a b : EReal => a * b) (zc _ _ _ (by omega)) (congrArg Ideal.cos (vc _ _ _ (by omega))))
        (congrArg₂ (fun a b : EReal => a * b) (zc _ _ _ (by omega)) (congrArg Ideal.sin (vc _ _ _ (by omega))))
    · rewrite [dif_neg h']
      refine Eq.trans ?_ ((turn_hi h h').symm.trans hz.symm)
      exact zc _ _ _ (by omega)

/-- A half's frequencies. -/
def freqs : FVec Ideal S16 .f32 := (Host.powf (F := Ideal) (broadcastInDim S16 ![] bcast_S_S16 (constant S_ .f32 0x48F42400#32)) (Host.divf (Host.negf (sitofp .f32 (iotaInDim S16 32 0))) (broadcastInDim S16 ![] bcast_S_S16 (constant S_ .f32 0x41800000#32))))

theorem freqs_at (n : Fin 16) : freqs (ix1 n) = hz 1098907648#32 n.val := by
  unfold hz
  pointwise [freqs]

theorem dot_at (H : FVec Ideal S32768x2048 .f32) (W : FVec Ideal S2048x9808 .f32) (r : Fin 32768) (n : Fin 9808) :
    (Host.dotGeneral dot_S32768x2048_S2048x9808_S32768x9808_1_0_0_1_n_n none H W : FVec Ideal S32768x9808 .f32) (ix2 r n) = ∑ k : Fin 2048, H (ix2 r k) * W (ix2 k n) := by
  pointwise []

/-- A row against a column of the projection. -/
def row (H : FVec Ideal S32768x2048 .f32) (W : FVec Ideal S2048x9808 .f32) (r : Fin 32768) (n : Nat) : EReal :=
  ∑ k : Fin 2048, H (ix2 r k) * W (ix2 k ⟨(0 + n) % 9808, Nat.mod_lt _ (by decide)⟩)

theorem whole_at (H : FVec Ideal S32768x2048 .f32) (W : FVec Ideal S2048x9808 .f32) (P : Vec Ideal S4x8192 .i32) (r : Fin 32768) (d : Fin 1280) :
    term (Host.dotGeneral dot_S32768x2048_S2048x9808_S32768x9808_1_0_0_1_n_n none H W) freqs P (ix2 r d)
      = turn 16 128 (hz 1098907648#32) (row H W r) (place P r) d.val := by
  refine (term_at _ _ _ r d).trans ?_
  refine (congrArg (fun x => turn 16 128 _ x _ d.val) (funext fun n => dot_at H W r _ : _ = row H W r)).trans ?_
  refine turn_congr fun n hn => ?_
  refine (freqs_at _).trans (congrArg (hz 1098907648#32) ?_)
  exact Nat.mod_eq_of_lt hn

/-- The reference's array at an entry. -/
theorem ref_turn (m : (ℓ : Loc nD τ sig) → Buf (Elt Ideal) ℓ) (c : Dev nD) (r : Fin 32768) (d : Fin 1280) :
    (Cert.Reference6Ideal.Value.res_main_v34 m c : Vec Ideal S32768x1280 .bf16) (ix2 r d)
      = turn 16 128 (hz 1098907648#32) (row (m ((c.tc : Thread nD τ).loc main_arg0)) (m ((c.tc : Thread nD τ).loc main_arg1)) r)
        (place (m ((c.tc : Thread nD τ).loc main_arg2)) r) d.val := by
  refine Eq.trans ?_ (whole_at _ _ _ r d)
  unfold Cert.Reference6Ideal.Value.res_main_v34 term freqs
  rfl

end Cert.Rope

end
-- ==== Proof.Rope.Value.lean ====
/-
  The turned queries and keys of the sparse branch over the extended reals: the tables of cosines and signed sines, the
  projection that reads them, the reference's array, and the claims on them.
-/
module

public import proofs.«01_k».proof.Defs
public import proofs.«01_k».proof.Proof.Rope.Turn
public import proofs.«01_k».proof.Proof.Gen.Kernel6Ideal.Frame
public import proofs.«01_k».proof.Proof.Rope.Reference
public import Idealize.ShloMosaic.Lib.Pipeline.ValueKit.Basic
public import Idealize.ShloMosaic.Lib.Pointwise

@[expose] public section

set_option maxRecDepth 16384

noncomputable section

namespace Cert.Kernel6Ideal.Turned

open Cert.Kernel6Ideal Cert.Kernel6Ideal.Gen Cert.Rope
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

local notation "𝕄" => MT nD τ sig Unit (Elt Ideal) ℕ (UR sig nD τ) ℕ

/-! ## The array -/

/-- A row against a column of the projection. -/
def A (H : FVec Ideal S32768x2048 .f32) (W : FVec Ideal S2048x9808 .f32) (r : Fin 32768) (n : Nat) : EReal :=
  ∑ k : Fin 2048, H (ix2 r k) * W (ix2 k ⟨(0 + n) % 9808, Nat.mod_lt _ (by decide)⟩)

/-- A row's position. -/
def pos (P : Vec Ideal S4x8192 .i32) (r : Fin 32768) : EReal :=
  FloatOps.sitofp (F := Ideal) FTy.f32 (P (ix2 ⟨r.val / 8192, by have := r.isLt; omega⟩ ⟨r.val % 8192, Nat.mod_lt _ (by decide)⟩))

/-- The projection, its heads turned. -/
def G (H : FVec Ideal S32768x2048 .f32) (W : FVec Ideal S2048x9808 .f32) (P : Vec Ideal S4x8192 .i32) : Vec Ideal S32768x1280 .bf16 := fun j =>
  turn 16 128 (hz 1098907648#32) (A H W (j 0)) (pos P (j 0)) (j 1).val

/-! ## The blocks' places -/

theorem tindex0 : ∀ t : Fin cfg0.N, win0_0.index t (0 : Fin 2) = t.val ∧ win0_0.index t (1 : Fin 2) = 0 :=
  (by decide +kernel : ∀ t : Fin grid0.N, _)
theorem tindexf : ∀ t : Fin cfg0.N, win0_1.index t (0 : Fin 2) = 0 ∧ win0_1.index t (1 : Fin 2) = 0 :=
  (by decide +kernel : ∀ t : Fin grid0.N, _)
theorem tindexs : ∀ t : Fin cfg0.N, win0_2.index t (0 : Fin 2) = 0 ∧ win0_2.index t (1 : Fin 2) = 0 :=
  (by decide +kernel : ∀ t : Fin grid0.N, _)
theorem tindexc : ∀ t : Fin cfg0.N, win0_5.index t (0 : Fin 2) = t.val ∧ win0_5.index t (1 : Fin 2) = 0 :=
  (by decide +kernel : ∀ t : Fin grid0.N, _)
theorem tindexd : ∀ t : Fin cfg0.N, win0_6.index t (0 : Fin 2) = t.val ∧ win0_6.index t (1 : Fin 2) = 0 :=
  (by decide +kernel : ∀ t : Fin grid0.N, _)
theorem index0 : ∀ t : Fin cfg1.N, win1_0.index t (0 : Fin 2) = t.val / 2 ∧ win1_0.index t (1 : Fin 2) = 0 :=
  (by decide +kernel : ∀ t : Fin grid1.N, _)
theorem index1 : ∀ t : Fin cfg1.N, win1_1.index t (0 : Fin 2) = 0 ∧ win1_1.index t (1 : Fin 2) = t.val % 2 :=
  (by decide +kernel : ∀ t : Fin grid1.N, _)
theorem index2 : ∀ t : Fin cfg1.N, win1_2.index t (0 : Fin 2) = t.val / 2 ∧ win1_2.index t (1 : Fin 2) = 0 :=
  (by decide +kernel : ∀ t : Fin grid1.N, _)
theorem index3 : ∀ t : Fin cfg1.N, win1_3.index t (0 : Fin 2) = t.val / 2 ∧ win1_3.index t (1 : Fin 2) = 0 :=
  (by decide +kernel : ∀ t : Fin grid1.N, _)
theorem index4 : ∀ t : Fin cfg1.N, win1_4.index t (0 : Fin 2) = t.val / 2 ∧ win1_4.index t (1 : Fin 2) = t.val % 2 :=
  (by decide +kernel : ∀ t : Fin grid1.N, _)

theorem lt_T (t : Fin cfg0.N) : t.val < 32 := t.isLt
theorem lt_N (t : Fin cfg1.N) : t.val < 64 := t.isLt

theorem temb0 (t : Fin cfg0.N) (r : Fin 1024) :
    ((cfg0.win 0).blk t).view.emb (ix2 r 0 : S1024x1.Idx) = (ix2 ⟨1024 * t.val + r.val, by have := lt_T t; omega⟩ 0 : S32768x1.Idx) := by
  obtain ⟨e0, e1⟩ := tindex0 t
  funext a
  apply Fin.ext
  match a with
  | 0 => show win0_0.index t (0 : Fin 2) * 1024 + 1 * r.val = 1024 * t.val + r.val; omega
  | 1 => show win0_0.index t (1 : Fin 2) * 1 + 1 * 0 = 0; omega
theorem tembf (t : Fin cfg0.N) (l : Fin 128) :
    ((cfg0.win 1).blk t).view.emb (ix2 0 l : S1x128.Idx) = (ix2 0 l : S1x128.Idx) := by
  obtain ⟨e0, e1⟩ := tindexf t
  funext a
  apply Fin.ext
  match a with
  | 0 => show win0_1.index t (0 : Fin 2) * 1 + 1 * 0 = 0; omega
  | 1 => show win0_1.index t (1 : Fin 2) * 128 + 1 * l.val = l.val; omega
theorem tembs (t : Fin cfg0.N) (l : Fin 128) :
    ((cfg0.win 2).blk t).view.emb (ix2 0 l : S1x128.Idx) = (ix2 0 l : S1x128.Idx) := by
  obtain ⟨e0, e1⟩ := tindexs t
  funext a
  apply Fin.ext
  match a with
  | 0 => show win0_2.index t (0 : Fin 2) * 1 + 1 * 0 = 0; omega
  | 1 => show win0_2.index t (1 : Fin 2) * 128 + 1 * l.val = l.val; omega
theorem tembc (t : Fin cfg0.N) (r : Fin 1024) (l : Fin 128) :
    ((cfg0.win 5).blk t).view.emb (ix2 r l : S1024x128.Idx) = (ix2 ⟨1024 * t.val + r.val, by have := lt_T t; omega⟩ l : S32768x128.Idx) := by
  obtain ⟨e0, e1⟩ := tindexc t
  funext a
  apply Fin.ext
  match a with
  | 0 => show win0_5.index t (0 : Fin 2) * 1024 + 1 * r.val = 1024 * t.val + r.val; omega
  | 1 => show win0_5.index t (1 : Fin 2) * 128 + 1 * l.val = l.val; omega
theorem tembd (t : Fin cfg0.N) (r : Fin 1024) (l : Fin 128) :
    ((cfg0.win 6).blk t).view.emb (ix2 r l : S1024x128.Idx) = (ix2 ⟨1024 * t.val + r.val, by have := lt_T t; omega⟩ l : S32768x128.Idx) := by
  obtain ⟨e0, e1⟩ := tindexd t
  funext a
  apply Fin.ext
  match a with
  | 0 => show win0_6.index t (0 : Fin 2) * 1024 + 1 * r.val = 1024 * t.val + r.val; omega
  | 1 => show win0_6.index t (1 : Fin 2) * 128 + 1 * l.val = l.val; omega
theorem emb0 (t : Fin cfg1.N) (r : Fin 1024) (k : Fin 2048) :
    ((cfg1.win 0).blk t).view.emb (ix2 r k : S1024x2048.Idx) = (ix2 ⟨1024 * (t.val / 2) + r.val, by have := lt_N t; omega⟩ k : S32768x2048.Idx) := by
  obtain ⟨e0, e1⟩ := index0 t
  funext a
  apply Fin.ext
  match a with
  | 0 => show win1_0.index t (0 : Fin 2) * 1024 + 1 * r.val = 1024 * (t.val / 2) + r.val; omega
  | 1 => show win1_0.index t (1 : Fin 2) * 2048 + 1 * k.val = k.val; omega
theorem emb1 (t : Fin cfg1.N) (k : Fin 2048) (d : Fin 640) :
    ((cfg1.win 1).blk t).view.emb (ix2 k d : S2048x640.Idx) = (ix2 k ⟨640 * (t.val % 2) + d.val, by omega⟩ : S2048x1280.Idx) := by
  obtain ⟨e0, e1⟩ := index1 t
  funext a
  apply Fin.ext
  match a with
  | 0 => show win1_1.index t (0 : Fin 2) * 2048 + 1 * k.val = k.val; omega
  | 1 => show win1_1.index t (1 : Fin 2) * 640 + 1 * d.val = 640 * (t.val % 2) + d.val; omega
theorem emb2 (t : Fin cfg1.N) (r : Fin 1024) (l : Fin 128) :
    ((cfg1.win 2).blk t).view.emb (ix2 r l : S1024x128.Idx) = (ix2 ⟨1024 * (t.val / 2) + r.val, by have := lt_N t; omega⟩ l : S32768x128.Idx) := by
  obtain ⟨e0, e1⟩ := index2 t
  funext a
  apply Fin.ext
  match a with
  | 0 => show win1_2.index t (0 : Fin 2) * 1024 + 1 * r.val = 1024 * (t.val / 2) + r.val; omega
  | 1 => show win1_2.index t (1 : Fin 2) * 128 + 1 * l.val = l.val; omega
theorem emb3 (t : Fin cfg1.N) (r : Fin 1024) (l : Fin 128) :
    ((cfg1.win 3).blk t).view.emb (ix2 r l : S1024x128.Idx) = (ix2 ⟨1024 * (t.val / 2) + r.val, by have := lt_N t; omega⟩ l : S32768x128.Idx) := by
  obtain ⟨e0, e1⟩ := index3 t
  funext a
  apply Fin.ext
  match a with
  | 0 => show win1_3.index t (0 : Fin 2) * 1024 + 1 * r.val = 1024 * (t.val / 2) + r.val; omega
  | 1 => show win1_3.index t (1 : Fin 2) * 128 + 1 * l.val = l.val; omega
theorem emb4 (t : Fin cfg1.N) (r : Fin 1024) (d : Fin 640) :
    ((cfg1.win 4).blk t).view.emb (ix2 r d : S1024x640.Idx)
      = (ix2 ⟨1024 * (t.val / 2) + r.val, by have := lt_N t; omega⟩ ⟨640 * (t.val % 2) + d.val, by omega⟩ : S32768x1280.Idx) := by
  obtain ⟨e0, e1⟩ := index4 t
  funext a
  apply Fin.ext
  match a with
  | 0 => show win1_4.index t (0 : Fin 2) * 1024 + 1 * r.val = 1024 * (t.val / 2) + r.val; omega
  | 1 => show win1_4.index t (1 : Fin 2) * 640 + 1 * d.val = 640 * (t.val % 2) + d.val; omega

/-! ## The tables -/

theorem cos_at (p : Vec Ideal S1024x1 .i32) (f : Vec Ideal S1x128 .f32) (r : Fin 1024) (l : Fin 128) :
    k0_pay3 p f (ix2 r l) = Ideal.cos (FloatOps.sitofp (F := Ideal) FTy.f32 (p (ix2 r 0)) * f (ix2 0 l)) := by
  pointwise [k0_pay3, k0_pay2, k0_pay1]
theorem sin_at (p : Vec Ideal S1024x1 .i32) (f s : Vec Ideal S1x128 .f32) (r : Fin 1024) (l : Fin 128) :
    k0_pay4 p f s (ix2 r l) = Ideal.sin (FloatOps.sitofp (F := Ideal) FTy.f32 (p (ix2 r 0)) * f (ix2 0 l)) * s (ix2 0 l) := by
  pointwise [k0_pay4, k0_pay2, k0_pay1]

theorem cos_out (p : Vec Ideal S1024x1 .i32) (a b e f : Vec Ideal S1x128 .f32) : out0_5 p a b e f = k0_pay3 p a := by
  unfold out0_5
  rw [View.canon_cons_unit_lit _ _ _ (by decide), View.ld_unit_lit _ _ (by decide), View.ld_unit_lit _ _ (by decide)]
theorem sin_out (p : Vec Ideal S1024x1 .i32) (a b e f : Vec Ideal S1x128 .f32) : out0_6 p a b e f = k0_pay4 p a b := by
  unfold out0_6
  rw [View.canon_cons_unit_lit _ _ _ (by decide), View.ld_unit_lit _ _ (by decide), View.ld_unit_lit _ _ (by decide), View.ld_unit_lit _ _ (by decide)]

theorem cast_at (P : IVec S4x8192 32) (r : Fin 32768) :
    shapeCast S32768x1 P shapeCasts_S4x8192_S32768x1 (ix2 r 0) = P (ix2 ⟨r.val / 8192, by have := r.isLt; omega⟩ ⟨r.val % 8192, Nat.mod_lt _ (by decide)⟩) := by
  obtain ⟨z, hz⟩ : ∃ z : Fin 1, z = 0 := ⟨_, rfl⟩
  rw [← hz]
  pointwise []

section Run

variable (m : (ℓ : Loc nD τ sig) → Buf (Elt Ideal) ℓ) (ρ : Dev nD → PrngReg) (c : Dev nD)

theorem V_pos (r : Fin 32768) : (V1 m ρ c main_v0 : Vec Ideal S32768x1 .i32) (ix2 r 0)
    = m ((c : Thread nD τ).loc main_arg2) (ix2 ⟨r.val / 8192, by have := r.isLt; omega⟩ ⟨r.val % 8192, Nat.mod_lt _ (by decide)⟩) := by
  have h : (V1 m ρ c main_v0 : Vec Ideal S32768x1 .i32) = shapeCast S32768x1 (m ((c : Thread nD τ).loc main_arg2)) shapeCasts_S4x8192_S32768x1 := by
    show StableHlo.after hostOps0 _ (Proc.devRef .tc main_v0) = _
    simp only [hostOps0, StableHlo.after_cons, StableHlo.after_nil]
    rfl
  rw [h]
  exact cast_at _ r
theorem V_freq (l : Fin 128) : (V1 m ρ c main_v17 : Vec Ideal S1x128 .f32) (ix2 0 l) = freq 16 128 (hz 1098907648#32) l.val := by
  have h : (V1 m ρ c main_v17 : Vec Ideal S1x128 .f32) = shapeCast S1x128 (shapeCast S128 (broadcastInDim S1x128 ![0, 1] bcast_S1x128_S1x128_0_1 (shapeCast S1x128 (concatenate S128 0 [⟨S16, (Host.powf (F := Ideal) (broadcastInDim S16 ![] bcast_S_S16 (constant S_ .f32 0x48F42400#32)) (Host.divf (Host.negf (sitofp .f32 (iotaInDim S16 32 0))) (broadcastInDim S16 ![] bcast_S_S16 (constant S_ .f32 0x41800000#32))))⟩, ⟨S16, (Host.powf (F := Ideal) (broadcastInDim S16 ![] bcast_S_S16 (constant S_ .f32 0x48F42400#32)) (Host.divf (Host.negf (sitofp .f32 (iotaInDim S16 32 0))) (broadcastInDim S16 ![] bcast_S_S16 (constant S_ .f32 0x41800000#32))))⟩, ⟨S96, broadcastInDim S96 ![] bcast_S_S96 (constant (F := Ideal) S_ .f32 0x00000000#32)⟩] concatenates_S16_S16_S96_S128_d0) shapeCasts_S128_S1x128)) shapeCasts_S1x128_S128) shapeCasts_S128_S1x128 := by
    show StableHlo.after hostOps0 _ (Proc.devRef .tc main_v17) = _
    simp only [hostOps0, StableHlo.after_cons, StableHlo.after_nil]
    rfl
  rw [h]
  have v : ∀ n : Fin 16, (Host.powf (F := Ideal) (broadcastInDim S16 ![] bcast_S_S16 (constant S_ .f32 0x48F42400#32)) (Host.divf (Host.negf (sitofp .f32 (iotaInDim S16 32 0))) (broadcastInDim S16 ![] bcast_S_S16 (constant S_ .f32 0x41800000#32)))) (ix1 n) = hz 1098907648#32 n.val := fun n => by
    unfold hz
    pointwise []
  revert v
  generalize (Host.powf (F := Ideal) (broadcastInDim S16 ![] bcast_S_S16 (constant S_ .f32 0x48F42400#32)) (Host.divf (Host.negf (sitofp .f32 (iotaInDim S16 32 0))) (broadcastInDim S16 ![] bcast_S_S16 (constant S_ .f32 0x41800000#32)))) = w
  intro v
  have lm := Nat.mod_eq_of_lt l.isLt
  by_cases h1 : l.val % 128 < 16
  · rewrite [freq_lo h1]
    refine Eq.trans ?_ (v ⟨l.val % 128, h1⟩)
    pointwise []
    first | rw [dif_pos h1] | (rw [dif_pos (show l.val < 16 by omega)]; exact congrArg (fun q => w (ix1 q)) (Fin.ext (by show l.val = l.val % 128; omega)))
  · by_cases h2 : l.val % 128 - 16 < 16
    · rewrite [freq_mid h1 h2]
      refine Eq.trans ?_ (v ⟨l.val % 128 - 16, h2⟩)
      pointwise []
      first | rw [dif_neg h1, dif_pos h2] | (rw [dif_neg (show ¬ l.val < 16 by omega), dif_pos (show l.val - 16 < 16 by omega)]; exact congrArg (fun q => w (ix1 q)) (Fin.ext (by show l.val - 16 = l.val % 128 - 16; omega)))
    · rewrite [freq_hi h1 h2]
      pointwise []
      first | rw [dif_neg h1, dif_neg h2] | rw [dif_neg (show ¬ l.val < 16 by omega), dif_neg (show ¬ l.val - 16 < 16 by omega)]
theorem V_sgn (l : Fin 128) : (V1 m ρ c main_v21 : Vec Ideal S1x128 .f32) (ix2 0 l) = sgn 16 128 l.val := by
  have h : (V1 m ρ c main_v21 : Vec Ideal S1x128 .f32) = shapeCast S1x128 (shapeCast S128 (broadcastInDim S1x128 ![0, 1] bcast_S1x128_S1x128_0_1 (shapeCast S1x128 (concatenate S128 0 [⟨S16, Host.negf (broadcastInDim S16 ![] bcast_S_S16 (constant (F := Ideal) S_ .f32 0x3F800000#32))⟩, ⟨S16, broadcastInDim S16 ![] bcast_S_S16 (constant (F := Ideal) S_ .f32 0x3F800000#32)⟩, ⟨S96, broadcastInDim S96 ![] bcast_S_S96 (constant (F := Ideal) S_ .f32 0x00000000#32)⟩] concatenates_S16_S16_S96_S128_d0) shapeCasts_S128_S1x128)) shapeCasts_S1x128_S128) shapeCasts_S128_S1x128 := by
    show StableHlo.after hostOps0 _ (Proc.devRef .tc main_v21) = _
    simp only [hostOps0, StableHlo.after_cons, StableHlo.after_nil]
    rfl
  rw [h]
  pointwise []
  unfold sgn
  try rw [Nat.mod_eq_of_lt l.isLt]
  split <;> rename_i h1 <;> simp [h1]

/-- The table of cosines. -/
def C : Vec Ideal S32768x128 .f32 := fun j =>
  Ideal.cos (pos (m ((c : Thread nD τ).loc main_arg2)) (j 0) * freq 16 128 (hz 1098907648#32) (j 1).val)
/-- The table of signed sines. -/
def S : Vec Ideal S32768x128 .f32 := fun j =>
  Ideal.sin (pos (m ((c : Thread nD τ).loc main_arg2)) (j 0) * freq 16 128 (hz 1098907648#32) (j 1).val) * sgn 16 128 (j 1).val

/-- The array the projection leaves. -/
def Out : Vec Ideal S32768x1280 .bf16 := G (m ((c : Thread nD τ).loc main_arg0)) (m ((c : Thread nD τ).loc main_arg1)) (m ((c : Thread nD τ).loc main_arg2))

variable {m c}

theorem tblk0_at (t : Fin cfg0.N) (r : Fin 1024) :
    FloatOps.sitofp (F := Ideal) FTy.f32 (iblk0 (V1 m ρ) c 0 t (ix2 r 0 : S1024x1.Idx))
      = pos (m ((c : Thread nD τ).loc main_arg2)) ⟨1024 * t.val + r.val, by have := lt_T t; omega⟩ := by
  unfold pos
  refine congrArg (FloatOps.sitofp (F := Ideal) FTy.f32) ?_
  show (V1 m ρ c main_v0 : Vec Ideal S32768x1 .i32) (((cfg0.win 0).blk t).view.emb (ix2 r 0 : S1024x1.Idx)) = _
  rw [temb0]
  exact V_pos m ρ c _
theorem tblkf_at (t : Fin cfg0.N) (l : Fin 128) : iblk0 (V1 m ρ) c 1 t (ix2 0 l : S1x128.Idx) = freq 16 128 (hz 1098907648#32) l.val := by
  show (V1 m ρ c main_v17 : Vec Ideal S1x128 .f32) (((cfg0.win 1).blk t).view.emb (ix2 0 l : S1x128.Idx)) = _
  rw [tembf]
  exact V_freq m ρ c _
theorem tblks_at (t : Fin cfg0.N) (l : Fin 128) : iblk0 (V1 m ρ) c 2 t (ix2 0 l : S1x128.Idx) = sgn 16 128 l.val := by
  show (V1 m ρ c main_v21 : Vec Ideal S1x128 .f32) (((cfg0.win 2).blk t).view.emb (ix2 0 l : S1x128.Idx)) = _
  rw [tembs]
  exact V_sgn m ρ c _

theorem cflushed (t : Fin cfg0.N) : (dat0 (V1 m ρ) c).flushed 5 t = ((cfg0.win 5).blk t).view.read (Elt Ideal) (C m c) := by
  funext j
  obtain ⟨r, l, rfl⟩ : ∃ r l, j = (ix2 r l : S1024x128.Idx) := ⟨_, _, eq_ix2 j⟩
  refine (congrFun (after0_5 (V1 m ρ) c t) (ix2 r l : S1024x128.Idx)).trans ?_
  refine ((congrFun (cos_out _ _ _ _ _) _).trans (cos_at _ _ r l)).trans (Eq.trans (b := C m c (ix2 ⟨1024 * t.val + r.val, by have := lt_T t; omega⟩ l)) ?_ (congrArg (C m c) (tembc t r l).symm))
  exact congrArg₂ (fun a b : EReal => Ideal.cos (a * b)) (tblk0_at ρ t r) (tblkf_at ρ t l)
theorem sflushed (t : Fin cfg0.N) : (dat0 (V1 m ρ) c).flushed 6 t = ((cfg0.win 6).blk t).view.read (Elt Ideal) (S m c) := by
  funext j
  obtain ⟨r, l, rfl⟩ : ∃ r l, j = (ix2 r l : S1024x128.Idx) := ⟨_, _, eq_ix2 j⟩
  refine (congrFun (after0_6 (V1 m ρ) c t) (ix2 r l : S1024x128.Idx)).trans ?_
  refine ((congrFun (sin_out _ _ _ _ _) _).trans (sin_at _ _ _ r l)).trans (Eq.trans (b := S m c (ix2 ⟨1024 * t.val + r.val, by have := lt_T t; omega⟩ l)) ?_ (congrArg (S m c) (tembd t r l).symm))
  exact congrArg₂ (fun a b : EReal => a * b) (congrArg₂ (fun a b : EReal => Ideal.sin (a * b)) (tblk0_at ρ t r) (tblkf_at ρ t l)) (tblks_at ρ t l)

theorem ccovered (i : S32768x128.Idx) :
    ∃ t : Fin cfg0.N, (cfg0.win 5).flush t = true ∧ i ∈ ((cfg0.win 5).blk t).view.set := by
  have i0 : (i 0).val < 32768 := (i 0).isLt
  have hN : cfg0.N = 32 := rfl
  let t : Fin cfg0.N := ⟨(i 0).val / 1024, by omega⟩
  let j : S1024x128.Idx := ix2 ⟨(i 0).val % 1024, by omega⟩ (i 1)
  refine ⟨t, flush0_5 _, ?_⟩
  have h := ((cfg0.win 5).blk t).view.emb_mem_set j
  have e : ((cfg0.win 5).blk t).view.emb j = i := by
    have tv : t.val = (i 0).val / 1024 := rfl
    refine (tembc t _ _).trans ?_
    funext a
    apply Fin.ext
    match a with
    | 0 => show 1024 * t.val + (i 0).val % 1024 = (i 0).val; omega
    | 1 => rfl
  rwa [e] at h
theorem scovered (i : S32768x128.Idx) :
    ∃ t : Fin cfg0.N, (cfg0.win 6).flush t = true ∧ i ∈ ((cfg0.win 6).blk t).view.set := by
  have i0 : (i 0).val < 32768 := (i 0).isLt
  have hN : cfg0.N = 32 := rfl
  let t : Fin cfg0.N := ⟨(i 0).val / 1024, by omega⟩
  let j : S1024x128.Idx := ix2 ⟨(i 0).val % 1024, by omega⟩ (i 1)
  refine ⟨t, flush0_6 _, ?_⟩
  have h := ((cfg0.win 6).blk t).view.emb_mem_set j
  have e : ((cfg0.win 6).blk t).view.emb j = i := by
    have tv : t.val = (i 0).val / 1024 := rfl
    refine (tembd t _ _).trans ?_
    funext a
    apply Fin.ext
    match a with
    | 0 => show 1024 * t.val + (i 0).val % 1024 = (i 0).val; omega
    | 1 => rfl
  rwa [e] at h

theorem V_C : (V3 m ρ c main_v43_0 : Vec Ideal S32768x128 .f32) = C m c :=
  (W3_of m ρ c main_v43_0 (by decide)).trans ((W2_arr m ρ c 5).trans
    ((dat0 (V1 m ρ) c).arrAt_eq_of_cover 5 _ (fun t _ => cflushed ρ t) ccovered))
theorem V_S : (V3 m ρ c main_v43_1 : Vec Ideal S32768x128 .f32) = S m c :=
  (W3_of m ρ c main_v43_1 (by decide)).trans ((W2_arr m ρ c 6).trans
    ((dat0 (V1 m ρ) c).arrAt_eq_of_cover 6 _ (fun t _ => sflushed ρ t) scovered))

end Run

/-! ## The projection -/

theorem dot_at (x : Vec Ideal S1024x2048 .bf16) (w : Vec Ideal S2048x640 .bf16) (r : Fin 1024) (d : Fin 640) :
    k1_pay2 x w (ix2 r d) = ∑ k, x (ix2 r k) * w (ix2 k d) := by
  pointwise [k1_pay2]

theorem lane : ∀ l : Fin 128, IntOp.cmpi CmpIPredicate.slt (IntOp.andi (BitVec.ofNat 32 l.val) 127#32) 16#32 = if l.val % 128 < 16 then 1#1 else 0#1 := by
  decide +kernel

/-- What the body leaves at a row and a column of the tile. -/
def T (y : FVec Ideal S1024x640 .f32) (f s : FVec Ideal S1024x128 .f32) : Vec Ideal S1024x640 .bf16 := fun j =>
  y j * f (ix2 (j 0) ⟨(j 1).val % 128, Nat.mod_lt _ (by decide)⟩)
    + (if (j 1).val % 128 < 16 then y (ix2 (j 0) ⟨((j 1).val + 16) % 640, Nat.mod_lt _ (by decide)⟩) else y (ix2 (j 0) ⟨((j 1).val - 16) % 640, Nat.mod_lt _ (by decide)⟩))
      * s (ix2 (j 0) ⟨(j 1).val % 128, Nat.mod_lt _ (by decide)⟩)

theorem T_at (y : FVec Ideal S1024x640 .f32) (f s : FVec Ideal S1024x128 .f32) (r : Fin 1024) (l : Fin 128) (o : Nat) (ho : o % 128 = 0) (hl : o + 128 ≤ 640) :
    y (ix2 r ⟨o + l.val, by omega⟩) * f (ix2 r l) + Scalar.select (IntOp.cmpi CmpIPredicate.slt (IntOp.andi (BitVec.ofNat 32 l.val) 127#32) 16#32)
        (y (ix2 r ⟨o + (l.val + 128 - 112) % 128, by omega⟩)) (y (ix2 r ⟨o + (l.val + 128 - 16) % 128, by omega⟩)) * s (ix2 r l)
      = T y f s (ix2 r ⟨o + l.val, by omega⟩) := by
  have hlt := l.isLt
  have e : (⟨(o + l.val) % 128, Nat.mod_lt _ (by decide)⟩ : Fin 128) = l := Fin.ext (by show (o + l.val) % 128 = l.val; omega)
  rw [lane]
  show _ = y (ix2 r ⟨o + l.val, _⟩) * f (ix2 r ⟨(o + l.val) % 128, _⟩)
    + (if (o + l.val) % 128 < 16 then y (ix2 r ⟨(o + l.val + 16) % 640, _⟩) else y (ix2 r ⟨(o + l.val - 16) % 640, _⟩)) * s (ix2 r ⟨(o + l.val) % 128, _⟩)
  rw [e]
  refine congrArg (fun z : EReal => y (ix2 r ⟨o + l.val, by omega⟩) * f (ix2 r l) + z * s (ix2 r l)) ?_
  by_cases h : l.val % 128 < 16
  · have h' : (o + l.val) % 128 < 16 := by omega
    rw [if_pos h, if_pos h']
    show y (ix2 r ⟨o + (l.val + 128 - 112) % 128, _⟩) = _
    refine congrArg (fun q => y (ix2 r q)) (Fin.ext ?_)
    show o + (l.val + 128 - 112) % 128 = (o + l.val + 16) % 640
    omega
  · have h' : ¬ (o + l.val) % 128 < 16 := by omega
    rw [if_neg h, if_neg h']
    show y (ix2 r ⟨o + (l.val + 128 - 16) % 128, _⟩) = _
    refine congrArg (fun q => y (ix2 r q)) (Fin.ext ?_)
    show o + (l.val + 128 - 16) % 128 = (o + l.val - 16) % 640
    omega

theorem piece0 (x : Vec Ideal S1024x2048 .bf16) (w : Vec Ideal S2048x640 .bf16) (f s : Vec Ideal S1024x128 .f32) (j : S1024x128.Idx) :
    k1_pay5 x w f s j = T (k1_pay2 x w) f s (r1_3.emb j) := by
  obtain ⟨r, l, rfl⟩ : ∃ r l, j = (ix2 r l : S1024x128.Idx) := ⟨_, _, eq_ix2 j⟩
  have e : r1_3.emb (ix2 r l) = (ix2 r ⟨0 + l.val, by omega⟩ : S1024x640.Idx) := by
    funext a
    apply Fin.ext
    match a with
    | 0 => show 0 + 1 * r.val = r.val; omega
    | 1 => show 0 + 1 * l.val = 0 + l.val; omega
  refine Eq.trans ?_ ((T_at (k1_pay2 x w) f s r l 0 (by decide) (by decide)).trans (congrArg (T (k1_pay2 x w) f s) e.symm))
  pointwise [k1_pay5, k1_pay3, k1_pay4]

theorem piece1 (x : Vec Ideal S1024x2048 .bf16) (w : Vec Ideal S2048x640 .bf16) (f s : Vec Ideal S1024x128 .f32) (j : S1024x128.Idx) :
    k1_pay6 x w f s j = T (k1_pay2 x w) f s (r1_4.emb j) := by
  obtain ⟨r, l, rfl⟩ : ∃ r l, j = (ix2 r l : S1024x128.Idx) := ⟨_, _, eq_ix2 j⟩
  have e : r1_4.emb (ix2 r l) = (ix2 r ⟨128 + l.val, by omega⟩ : S1024x640.Idx) := by
    funext a
    apply Fin.ext
    match a with
    | 0 => show 0 + 1 * r.val = r.val; omega
    | 1 => show 128 + 1 * l.val = 128 + l.val; omega
  refine Eq.trans ?_ ((T_at (k1_pay2 x w) f s r l 128 (by decide) (by decide)).trans (congrArg (T (k1_pay2 x w) f s) e.symm))
  pointwise [k1_pay6, k1_pay3, k1_pay4]

theorem piece2 (x : Vec Ideal S1024x2048 .bf16) (w : Vec Ideal S2048x640 .bf16) (f s : Vec Ideal S1024x128 .f32) (j : S1024x128.Idx) :
    k1_pay7 (k1_pay2 x w) (k1_pay3 f) (k1_pay4 s) j = T (k1_pay2 x w) f s (r1_5.emb j) := by
  obtain ⟨r, l, rfl⟩ : ∃ r l, j = (ix2 r l : S1024x128.Idx) := ⟨_, _, eq_ix2 j⟩
  have e : r1_5.emb (ix2 r l) = (ix2 r ⟨256 + l.val, by omega⟩ : S1024x640.Idx) := by
    funext a
    apply Fin.ext
    match a with
    | 0 => show 0 + 1 * r.val = r.val; omega
    | 1 => show 256 + 1 * l.val = 256 + l.val; omega
  refine Eq.trans ?_ ((T_at (k1_pay2 x w) f s r l 256 (by decide) (by decide)).trans (congrArg (T (k1_pay2 x w) f s) e.symm))
  pointwise [k1_pay7, k1_pay3, k1_pay4, k1_pay3, k1_pay4]

theorem piece3 (x : Vec Ideal S1024x2048 .bf16) (w : Vec Ideal S2048x640 .bf16) (f s : Vec Ideal S1024x128 .f32) (j : S1024x128.Idx) :
    k1_pay8 (k1_pay2 x w) (k1_pay3 f) (k1_pay4 s) j = T (k1_pay2 x w) f s (r1_6.emb j) := by
  obtain ⟨r, l, rfl⟩ : ∃ r l, j = (ix2 r l : S1024x128.Idx) := ⟨_, _, eq_ix2 j⟩
  have e : r1_6.emb (ix2 r l) = (ix2 r ⟨384 + l.val, by omega⟩ : S1024x640.Idx) := by
    funext a
    apply Fin.ext
    match a with
    | 0 => show 0 + 1 * r.val = r.val; omega
    | 1 => show 384 + 1 * l.val = 384 + l.val; omega
  refine Eq.trans ?_ ((T_at (k1_pay2 x w) f s r l 384 (by decide) (by decide)).trans (congrArg (T (k1_pay2 x w) f s) e.symm))
  pointwise [k1_pay8, k1_pay3, k1_pay4, k1_pay3, k1_pay4]

theorem piece4 (x : Vec Ideal S1024x2048 .bf16) (w : Vec Ideal S2048x640 .bf16) (f s : Vec Ideal S1024x128 .f32) (j : S1024x128.Idx) :
    k1_pay1 (k1_pay9 (k1_pay2 x w) (k1_pay3 f) (k1_pay4 s)) j = T (k1_pay2 x w) f s (r1_7.emb j) := by
  obtain ⟨r, l, rfl⟩ : ∃ r l, j = (ix2 r l : S1024x128.Idx) := ⟨_, _, eq_ix2 j⟩
  have e : r1_7.emb (ix2 r l) = (ix2 r ⟨512 + l.val, by omega⟩ : S1024x640.Idx) := by
    funext a
    apply Fin.ext
    match a with
    | 0 => show 0 + 1 * r.val = r.val; omega
    | 1 => show 512 + 1 * l.val = 512 + l.val; omega
  refine Eq.trans ?_ ((T_at (k1_pay2 x w) f s r l 512 (by decide) (by decide)).trans (congrArg (T (k1_pay2 x w) f s) e.symm))
  pointwise [k1_pay1, k1_pay9, k1_pay3, k1_pay4, k1_pay3, k1_pay4]

theorem out_eq (x : Vec Ideal S1024x2048 .bf16) (w : Vec Ideal S2048x640 .bf16) (f s : Vec Ideal S1024x128 .f32) :
    out1_4 x w f s = T (k1_pay2 x w) f s := by
  unfold out1_4 k1_pay12 k1_pay11 k1_pay10
  rw [View.ld_unit_lit _ x (by decide), View.ld_unit_lit _ w (by decide), View.ld_unit_lit _ f (by decide), View.ld_unit_lit _ s (by decide)]
  funext j
  refine View.canon_apply_of_pieces (T (k1_pay2 x w) f s) _ ?_ j (cover1_4 _ _ _ _ _ j)
  intro p hp
  simp only [List.mem_cons, List.not_mem_nil, or_false] at hp
  rcases hp with rfl | rfl | rfl | rfl | rfl
  · exact piece4 x w f s
  · exact piece3 x w f s
  · exact piece2 x w f s
  · exact piece1 x w f s
  · exact piece0 x w f s

section Run

variable (m : (ℓ : Loc nD τ sig) → Buf (Elt Ideal) ℓ) (ρ : Dev nD → PrngReg) (c : Dev nD)

theorem V_H : (V3 m ρ c main_v45 : Vec Ideal S32768x2048 .bf16) = m ((c : Thread nD τ).loc main_arg0) := by
  refine Eq.trans ?_ (W2_args m ρ c main_arg0 (by decide))
  show StableHlo.after hostOps1 (W2 m ρ c) (Proc.devRef .tc main_v45) = _
  generalize W2 m ρ c = U
  simp only [hostOps1, StableHlo.after_cons, StableHlo.after_nil]
  rfl
theorem V_W (k : Fin 2048) (f : Fin 1280) : (V3 m ρ c main_v46 : Vec Ideal S2048x1280 .bf16) (ix2 k f)
    = m ((c : Thread nD τ).loc main_arg1) (ix2 k ⟨0 + f.val, by omega⟩) := by
  have h : (V3 m ρ c main_v46 : Vec Ideal S2048x1280 .bf16) = extractStridedSlice S2048x1280 ![0, 0] (m ((c : Thread nD τ).loc main_arg1)) slices_S2048x9808_S2048x1280_0_0 := by
    refine Eq.trans ?_ (congrArg (fun z => extractStridedSlice S2048x1280 ![0, 0] z slices_S2048x9808_S2048x1280_0_0) (W2_args m ρ c main_arg1 (by decide)))
    show StableHlo.after hostOps1 (W2 m ρ c) (Proc.devRef .tc main_v46) = _
    generalize W2 m ρ c = U
    simp only [hostOps1, StableHlo.after_cons, StableHlo.after_nil]
    rfl
  rw [h]
  pointwise []
  try simp only [Nat.zero_add]

variable {m c} (t : Fin cfg1.N)

theorem iblk0_at (r : Fin 1024) (k : Fin 2048) :
    iblk1 (V3 m ρ) c 0 t (ix2 r k : S1024x2048.Idx) = m ((c : Thread nD τ).loc main_arg0) (ix2 ⟨1024 * (t.val / 2) + r.val, by have := lt_N t; omega⟩ k) := by
  show (V3 m ρ c main_v45 : Vec Ideal S32768x2048 .bf16) (((cfg1.win 0).blk t).view.emb (ix2 r k : S1024x2048.Idx)) = _
  rw [V_H, emb0]
theorem iblk1_at (k : Fin 2048) (d : Fin 640) :
    iblk1 (V3 m ρ) c 1 t (ix2 k d : S2048x640.Idx) = m ((c : Thread nD τ).loc main_arg1) (ix2 k ⟨0 + (640 * (t.val % 2) + d.val), by omega⟩) := by
  show (V3 m ρ c main_v46 : Vec Ideal S2048x1280 .bf16) (((cfg1.win 1).blk t).view.emb (ix2 k d : S2048x640.Idx)) = _
  rw [emb1]
  exact V_W m ρ c k _
theorem iblk2_at (r : Fin 1024) (l : Fin 128) :
    iblk1 (V3 m ρ) c 2 t (ix2 r l : S1024x128.Idx) = C m c (ix2 ⟨1024 * (t.val / 2) + r.val, by have := lt_N t; omega⟩ l) := by
  show (V3 m ρ c main_v43_0 : Vec Ideal S32768x128 .f32) (((cfg1.win 2).blk t).view.emb (ix2 r l : S1024x128.Idx)) = _
  rw [V_C, emb2]
theorem iblk3_at (r : Fin 1024) (l : Fin 128) :
    iblk1 (V3 m ρ) c 3 t (ix2 r l : S1024x128.Idx) = S m c (ix2 ⟨1024 * (t.val / 2) + r.val, by have := lt_N t; omega⟩ l) := by
  show (V3 m ρ c main_v43_1 : Vec Ideal S32768x128 .f32) (((cfg1.win 3).blk t).view.emb (ix2 r l : S1024x128.Idx)) = _
  rw [V_S, emb3]

/-- The tile's product is the projection's, at the tile's columns. -/
theorem acc_at (r : Fin 1024) (d : Fin 640) (n : Nat) (hn : n = 640 * (t.val % 2) + d.val) :
    k1_pay2 (iblk1 (V3 m ρ) c 0 t) (iblk1 (V3 m ρ) c 1 t) (ix2 r d)
      = A (m ((c : Thread nD τ).loc main_arg0)) (m ((c : Thread nD τ).loc main_arg1)) ⟨1024 * (t.val / 2) + r.val, by have := lt_N t; omega⟩ n := by
  refine (dot_at _ _ r d).trans ?_
  unfold A
  refine Finset.sum_congr rfl fun k _ => ?_
  refine congrArg₂ (fun a b : EReal => a * b) (iblk0_at ρ t r k) ((iblk1_at ρ t k d).trans ?_)
  refine congrArg (fun q => m ((c : Thread nD τ).loc main_arg1) (ix2 k q)) (Fin.ext ?_)
  show 0 + (640 * (t.val % 2) + d.val) = (0 + n) % 9808
  have := d.isLt
  omega

theorem left_at (r : Fin 1024) (d : Fin 640) :
    out1_4 (iblk1 (V3 m ρ) c 0 t) (iblk1 (V3 m ρ) c 1 t) (iblk1 (V3 m ρ) c 2 t) (iblk1 (V3 m ρ) c 3 t) (ix2 r d)
      = Out m c (ix2 ⟨1024 * (t.val / 2) + r.val, by have := lt_N t; omega⟩ ⟨640 * (t.val % 2) + d.val, by omega⟩) := by
  refine (congrFun (out_eq _ _ _ _) _).trans ?_
  have hd := d.isLt
  refine Eq.trans ?_ (turn_eq 16 128 (hz 1098907648#32) (A (m ((c : Thread nD τ).loc main_arg0)) (m ((c : Thread nD τ).loc main_arg1)) ⟨1024 * (t.val / 2) + r.val, by have := lt_N t; omega⟩)
    (pos (m ((c : Thread nD τ).loc main_arg2)) ⟨1024 * (t.val / 2) + r.val, by have := lt_N t; omega⟩) (640 * (t.val % 2) + d.val))
  have fm : ∀ z : Nat, z % 128 % 128 = z % 128 := fun z => Nat.mod_mod_of_dvd z (by decide)
  have fe : freq 16 128 (hz 1098907648#32) (d.val % 128) = freq 16 128 (hz 1098907648#32) (640 * (t.val % 2) + d.val) := by
    unfold freq
    rw [show d.val % 128 % 128 = (640 * (t.val % 2) + d.val) % 128 by omega]
  have se : sgn 16 128 (d.val % 128) = sgn 16 128 (640 * (t.val % 2) + d.val) := by
    unfold sgn
    rw [show d.val % 128 % 128 = (640 * (t.val % 2) + d.val) % 128 by omega]
  have ec := (iblk2_at (m := m) (c := c) ρ t r ⟨d.val % 128, Nat.mod_lt _ (by decide)⟩).trans
    (congrArg (fun z : EReal => Ideal.cos (pos (m ((c : Thread nD τ).loc main_arg2)) ⟨1024 * (t.val / 2) + r.val, by have := lt_N t; omega⟩ * z)) fe)
  have es := (iblk3_at (m := m) (c := c) ρ t r ⟨d.val % 128, Nat.mod_lt _ (by decide)⟩).trans
    (congrArg₂ (fun z y : EReal => Ideal.sin (pos (m ((c : Thread nD τ).loc main_arg2)) ⟨1024 * (t.val / 2) + r.val, by have := lt_N t; omega⟩ * z) * y) fe se)
  refine congrArg₂ (fun a b : EReal => a + b) (congrArg₂ (fun a b : EReal => a * b) (acc_at ρ t r d _ rfl) ec) (congrArg₂ (fun a b : EReal => a * b) ?_ es)
  show (if d.val % 128 < 16 then k1_pay2 (iblk1 (V3 m ρ) c 0 t) (iblk1 (V3 m ρ) c 1 t) (ix2 r ⟨(d.val + 16) % 640, _⟩)
    else k1_pay2 (iblk1 (V3 m ρ) c 0 t) (iblk1 (V3 m ρ) c 1 t) (ix2 r ⟨(d.val - 16) % 640, _⟩)) = _
  by_cases h : d.val % 128 < 16
  · rw [if_pos h, if_pos (show (640 * (t.val % 2) + d.val) % 128 < 16 by omega)]
    exact acc_at ρ t r _ _ (by show 640 * (t.val % 2) + d.val + 16 = 640 * (t.val % 2) + (d.val + 16) % 640; omega)
  · rw [if_neg h, if_neg (show ¬ (640 * (t.val % 2) + d.val) % 128 < 16 by omega)]
    exact acc_at ρ t r _ _ (by show 640 * (t.val % 2) + d.val - 16 = 640 * (t.val % 2) + (d.val - 16) % 640; omega)

theorem flushed_eq : (dat1 (V3 m ρ) c).flushed 4 t = ((cfg1.win 4).blk t).view.read (Elt Ideal) (Out m c) := by
  funext j
  obtain ⟨r, d, rfl⟩ : ∃ r d, j = (ix2 r d : S1024x640.Idx) := ⟨_, _, eq_ix2 j⟩
  refine (congrFun (after1_4 (V3 m ρ) c t) (ix2 r d : S1024x640.Idx)).trans ((left_at ρ t r d).trans (congrArg (Out m c) ?_))
  exact (emb4 t r d).symm

theorem covered (i : S32768x1280.Idx) :
    ∃ t : Fin cfg1.N, (cfg1.win 4).flush t = true ∧ i ∈ ((cfg1.win 4).blk t).view.set := by
  have i0 : (i 0).val < 32768 := (i 0).isLt
  have i1 : (i 1).val < 1280 := (i 1).isLt
  have hN : cfg1.N = 64 := rfl
  let t : Fin cfg1.N := ⟨(i 0).val / 1024 * 2 + (i 1).val / 640, by omega⟩
  let j : S1024x640.Idx := ix2 ⟨(i 0).val % 1024, by omega⟩ ⟨(i 1).val % 640, by omega⟩
  refine ⟨t, flush1_4 _, ?_⟩
  have h := ((cfg1.win 4).blk t).view.emb_mem_set j
  have e : ((cfg1.win 4).blk t).view.emb j = i := by
    have tv : t.val = (i 0).val / 1024 * 2 + (i 1).val / 640 := rfl
    refine (emb4 t _ _).trans ?_
    funext a
    apply Fin.ext
    match a with
    | 0 => show 1024 * (t.val / 2) + (i 0).val % 1024 = (i 0).val; omega
    | 1 => show 640 * (t.val % 2) + (i 1).val % 640 = (i 1).val; omega
  rwa [e] at h

theorem final : W4 m ρ c (Proc.devRef .tc main_v47) = Out m c :=
  (W4_arr m ρ c 4).trans ((dat1 (V3 m ρ) c).arrAt_eq_of_cover 4 _ (fun t _ => flushed_eq ρ t) covered)

end Run

/-- Every run ends with the result's array at `G`, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v47) = Out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v47 (by decide))).trans (final ρ),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.Kernel6Ideal.Turned

namespace Cert.Rope

open Idealize.ShloMosaic Idealize.ShloMosaic.TcCoe Idealize.SL.Sem Cert.Rope

theorem ref_at (m : (ℓ : Loc Cert.Reference6Ideal.nD Cert.Reference6Ideal.τ Cert.Reference6Ideal.sig) → Buf (Elt Ideal) ℓ) (c : Dev Cert.Reference6Ideal.nD) :
    (Cert.Reference6Ideal.Value.res_main_v34 m c : Vec Ideal Cert.Reference6Ideal.S32768x1280 .bf16)
      = Cert.Kernel6Ideal.Turned.G (m ((c.tc : Thread Cert.Reference6Ideal.nD Cert.Reference6Ideal.τ).loc Cert.Reference6Ideal.main_arg0))
        (m ((c.tc : Thread Cert.Reference6Ideal.nD Cert.Reference6Ideal.τ).loc Cert.Reference6Ideal.main_arg1))
        (m ((c.tc : Thread Cert.Reference6Ideal.nD Cert.Reference6Ideal.τ).loc Cert.Reference6Ideal.main_arg2)) := by
  funext j
  obtain ⟨r, d, rfl⟩ : ∃ r d, j = (ix2 r d : Cert.Reference6Ideal.S32768x1280.Idx) := ⟨_, _, eq_ix2 j⟩
  exact ref_turn m c r d

theorem frame_ri : Cert.quiescent_Reference6Ideal (hReference6Ideal := Cert.Reference6Ideal.Gen.facts) := by
  intro m ρ _
  exact (θ_run Cert.Reference6Ideal.defs _ _).mono
    (fun r h => ⟨fun c => (h c).2, Idealize.ShloMosaic.sem_eq_zero_of_no_sems (by decide) r.2⟩)
    (Cert.Reference6Ideal.Value.run (F := Ideal) m ρ)

theorem values : Cert.algebraic_Kernel6Ideal_Reference6Ideal (hKernel6Ideal := Cert.Kernel6Ideal.Gen.facts) (hReference6Ideal := Cert.Reference6Ideal.Gen.facts) := by
  intro m ρ m' ρ' _ same
  refine ⟨fun c => Cert.Kernel6Ideal.Turned.Out m c, Cert.Kernel6Ideal.Turned.run m ρ, ?_⟩
  refine (θ_run Cert.Reference6Ideal.defs _ _).mono (fun _ h c => ⟨(h c).1.trans ((ref_at m' c).trans ?_), (h c).2⟩) (Cert.Reference6Ideal.Value.run (F := Ideal) m' ρ')
  obtain ⟨e0, e1, e2⟩ := same c
  unfold Cert.Kernel6Ideal.Turned.Out
  rw [e0, e1, e2]

end Cert.Rope

end
-- ==== Proof.Index.Reference.lean ====
/-
  The reference's turned projection at an entry, over the extended reals.
-/
module

public import proofs.«01_k».proof.Defs
public import proofs.«01_k».proof.Proof.Rope.Turn
public import proofs.«01_k».proof.Proof.Gen.Reference7Ideal.Run
public import Idealize.ShloMosaic.Lib.Pointwise

@[expose] public section

set_option maxRecDepth 16384

noncomputable section

namespace Cert.Index

open Idealize.ShloMosaic Idealize.ShloMosaic.TcCoe Idealize.SL.Sem Cert.Rope
open Cert.Reference7Ideal Cert.Reference7Ideal.Gen

/-- The reference's term over a product `Z` and a half's frequencies `v`. -/
def term (Z : FVec Ideal S32768x9808 .f32) (v : FVec Ideal S8 .f32) (P : Vec Ideal S4x8192 .i32) : FVec Ideal S32768x1024 .bf16 :=
  truncf .bf16 (shapeCast _ ((concatenate S4x8192x16x64 3 [⟨S4x8192x16x8, ((subf (mulf (extractStridedSlice S4x8192x16x8 ![0, 0, 0, 0] (shapeCast _ (extractStridedSlice S32768x1024 ![0, 4608] Z slices_S32768x9808_S32768x1024_0_4608) shapeCasts_S32768x1024_S4x8192x16x64) slices_S4x8192x16x64_S4x8192x16x8_0_0_0_0) (broadcastInDim S4x8192x16x8 ![0, 1, 2, 3] bcast_S4x8192x1x8_S4x8192x16x8_0_1_2_3 (broadcastInDim S4x8192x1x8 ![0, 1, 3] bcast_S4x8192x8_S4x8192x1x8_0_1_3 (Host.cos (mulf (broadcastInDim S4x8192x8 ![0, 1, 2] bcast_S4x8192x1_S4x8192x8_0_1_2 (broadcastInDim S4x8192x1 ![0, 1] bcast_S4x8192_S4x8192x1_0_1 (sitofp .f32 P))) (broadcastInDim S4x8192x8 ![0, 1, 2] bcast_S1x1x8_S4x8192x8_0_1_2 (broadcastInDim S1x1x8 ![2] bcast_S8_S1x1x8_2 v))))))) (mulf (extractStridedSlice S4x8192x16x8 ![0, 0, 0, 8] (shapeCast _ (extractStridedSlice S32768x1024 ![0, 4608] Z slices_S32768x9808_S32768x1024_0_4608) shapeCasts_S32768x1024_S4x8192x16x64) slices_S4x8192x16x64_S4x8192x16x8_0_0_0_8) (broadcastInDim S4x8192x16x8 ![0, 1, 2, 3] bcast_S4x8192x1x8_S4x8192x16x8_0_1_2_3 (broadcastInDim S4x8192x1x8 ![0, 1, 3] bcast_S4x8192x8_S4x8192x1x8_0_1_3 (Host.sin (mulf (broadcastInDim S4x8192x8 ![0, 1, 2] bcast_S4x8192x1_S4x8192x8_0_1_2 (broadcastInDim S4x8192x1 ![0, 1] bcast_S4x8192_S4x8192x1_0_1 (sitofp .f32 P))) (broadcastInDim S4x8192x8 ![0, 1, 2] bcast_S1x1x8_S4x8192x8_0_1_2 (broadcastInDim S1x1x8 ![2] bcast_S8_S1x1x8_2 v)))))))) : (⟨S4x8192x16x8, .f32⟩ : BufTy).Contents (Elt Ideal))⟩, ⟨S4x8192x16x8, ((addf (mulf (extractStridedSlice S4x8192x16x8 ![0, 0, 0, 8] (shapeCast _ (extractStridedSlice S32768x1024 ![0, 4608] Z slices_S32768x9808_S32768x1024_0_4608) shapeCasts_S32768x1024_S4x8192x16x64) slices_S4x8192x16x64_S4x8192x16x8_0_0_0_8) (broadcastInDim S4x8192x16x8 ![0, 1, 2, 3] bcast_S4x8192x1x8_S4x8192x16x8_0_1_2_3 (broadcastInDim S4x8192x1x8 ![0, 1, 3] bcast_S4x8192x8_S4x8192x1x8_0_1_3 (Host.cos (mulf (broadcastInDim S4x8192x8 ![0, 1, 2] bcast_S4x8192x1_S4x8192x8_0_1_2 (broadcastInDim S4x8192x1 ![0, 1] bcast_S4x8192_S4x8192x1_0_1 (sitofp .f32 P))) (broadcastInDim S4x8192x8 ![0, 1, 2] bcast_S1x1x8_S4x8192x8_0_1_2 (broadcastInDim S1x1x8 ![2] bcast_S8_S1x1x8_2 v))))))) (mulf (extractStridedSlice S4x8192x16x8 ![0, 0, 0, 0] (shapeCast _ (extractStridedSlice S32768x1024 ![0, 4608] Z slices_S32768x9808_S32768x1024_0_4608) shapeCasts_S32768x1024_S4x8192x16x64) slices_S4x8192x16x64_S4x8192x16x8_0_0_0_0) (broadcastInDim S4x8192x16x8 ![0, 1, 2, 3] bcast_S4x8192x1x8_S4x8192x16x8_0_1_2_3 (broadcastInDim S4x8192x1x8 ![0, 1, 3] bcast_S4x8192x8_S4x8192x1x8_0_1_3 (Host.sin (mulf (broadcastInDim S4x8192x8 ![0, 1, 2] bcast_S4x8192x1_S4x8192x8_0_1_2 (broadcastInDim S4x8192x1 ![0, 1] bcast_S4x8192_S4x8192x1_0_1 (sitofp .f32 P))) (broadcastInDim S4x8192x8 ![0, 1, 2] bcast_S1x1x8_S4x8192x8_0_1_2 (broadcastInDim S1x1x8 ![2] bcast_S8_S1x1x8_2 v)))))))) : (⟨S4x8192x16x8, .f32⟩ : BufTy).Contents (Elt Ideal))⟩, ⟨S4x8192x16x48, ((extractStridedSlice S4x8192x16x48 ![0, 0, 0, 16] (shapeCast _ (extractStridedSlice S32768x1024 ![0, 4608] Z slices_S32768x9808_S32768x1024_0_4608) shapeCasts_S32768x1024_S4x8192x16x64) slices_S4x8192x16x64_S4x8192x16x48_0_0_0_16) : (⟨S4x8192x16x48, .f32⟩ : BufTy).Contents (Elt Ideal))⟩] concatenates_S4x8192x16x8_S4x8192x16x8_S4x8192x16x48_S4x8192x16x64_d3 : (⟨S4x8192x16x64, .f32⟩ : BufTy).Contents (Elt Ideal))) shapeCasts_S4x8192x16x64_S32768x1024) bitsLt_bf16_f32

/-- A row's position. -/
def place (P : Vec Ideal S4x8192 .i32) (r : Fin 32768) : EReal :=
  FloatOps.sitofp (F := Ideal) FTy.f32 (P (ix2 ⟨r.val / 8192, by have := r.isLt; omega⟩ ⟨r.val % 8192, Nat.mod_lt _ (by decide)⟩))

set_option maxHeartbeats 1000000 in
theorem term_at (Z : FVec Ideal S32768x9808 .f32) (v : FVec Ideal S8 .f32) (P : Vec Ideal S4x8192 .i32) (r : Fin 32768) (d : Fin 1024) :
    term Z v P (ix2 r d) = turn 8 64 (fun n => v (ix1 ⟨n % 8, Nat.mod_lt _ (by decide)⟩)) (fun n => Z (ix2 r ⟨(4608 + n) % 9808, Nat.mod_lt _ (by decide)⟩)) (place P r) d.val := by
  have hd := d.isLt
  have zc : ∀ (a n : Nat) (ha : a < 9808), a = (4608 + n) % 9808 → (Z (ix2 r ⟨a, ha⟩) : EReal) = Z (ix2 r ⟨(4608 + n) % 9808, Nat.mod_lt _ (by decide)⟩) :=
    fun a n ha e => congrArg (fun q => Z (ix2 r q)) (Fin.ext e)
  have vc : ∀ (a n : Nat) (ha : a < 8), a = n % 8 → (place P r * v (ix1 ⟨a, ha⟩) : EReal) = place P r * v (ix1 ⟨n % 8, Nat.mod_lt _ (by decide)⟩) :=
    fun a n ha e => congrArg (fun q => (place P r * v (ix1 q) : EReal)) (Fin.ext e)
  obtain ⟨z, hz⟩ : ∃ z, z = turn 8 64 (fun n => v (ix1 ⟨n % 8, Nat.mod_lt _ (by decide)⟩)) (fun n => Z (ix2 r ⟨(4608 + n) % 9808, Nat.mod_lt _ (by decide)⟩)) (place P r) d.val := ⟨_, rfl⟩
  rewrite [← hz]
  pointwise [term]
  by_cases h : d.val % 64 < 8
  · rewrite [dif_pos h]
    refine Eq.trans ?_ ((turn_lo h).symm.trans hz.symm)
    exact congrArg₂ (fun a b : EReal => a - b) (congrArg₂ (fun a b : EReal => a * b) (zc _ _ _ (by omega)) (congrArg Ideal.cos (vc _ _ _ (by omega))))
      (congrArg₂ (fun a b : EReal => a * b) (zc _ _ _ (by omega)) (congrArg Ideal.sin (vc _ _ _ (by omega))))
  · rewrite [dif_neg h]
    by_cases h' : d.val % 64 - 8 < 8
    · rewrite [dif_pos h']
      refine Eq.trans ?_ ((turn_mid h h').symm.trans hz.symm)
      exact congrArg₂ (fun a b : EReal => a + b) (congrArg₂ (fun a b : EReal => a * b) (zc _ _ _ (by omega)) (congrArg Ideal.cos (vc _ _ _ (by omega))))
        (congrArg₂ (fun a b : EReal => a * b) (zc _ _ _ (by omega)) (congrArg Ideal.sin (vc _ _ _ (by omega))))
    · rewrite [dif_neg h']
      refine Eq.trans ?_ ((turn_hi h h').symm.trans hz.symm)
      exact zc _ _ _ (by omega)

/-- A half's frequencies. -/
def freqs : FVec Ideal S8 .f32 := (Host.powf (F := Ideal) (broadcastInDim S8 ![] bcast_S_S8 (constant S_ .f32 0x48F42400#32)) (Host.divf (Host.negf (sitofp .f32 (iotaInDim S8 32 0))) (broadcastInDim S8 ![] bcast_S_S8 (constant S_ .f32 0x41000000#32))))

theorem freqs_at (n : Fin 8) : freqs (ix1 n) = hz 1090519040#32 n.val := by
  unfold hz
  pointwise [freqs]

theorem dot_at (H : FVec Ideal S32768x2048 .f32) (W : FVec Ideal S2048x9808 .f32) (r : Fin 32768) (n : Fin 9808) :
    (Host.dotGeneral dot_S32768x2048_S2048x9808_S32768x9808_1_0_0_1_n_n none H W : FVec Ideal S32768x9808 .f32) (ix2 r n) = ∑ k : Fin 2048, H (ix2 r k) * W (ix2 k n) := by
  pointwise []

/-- A row against a column of the projection. -/
def row (H : FVec Ideal S32768x2048 .f32) (W : FVec Ideal S2048x9808 .f32) (r : Fin 32768) (n : Nat) : EReal :=
  ∑ k : Fin 2048, H (ix2 r k) * W (ix2 k ⟨(4608 + n) % 9808, Nat.mod_lt _ (by decide)⟩)

theorem whole_at (H : FVec Ideal S32768x2048 .f32) (W : FVec Ideal S2048x9808 .f32) (P : Vec Ideal S4x8192 .i32) (r : Fin 32768) (d : Fin 1024) :
    term (Host.dotGeneral dot_S32768x2048_S2048x9808_S32768x9808_1_0_0_1_n_n none H W) freqs P (ix2 r d)
      = turn 8 64 (hz 1090519040#32) (row H W r) (place P r) d.val := by
  refine (term_at _ _ _ r d).trans ?_
  refine (congrArg (fun x => turn 8 64 _ x _ d.val) (funext fun n => dot_at H W r _ : _ = row H W r)).trans ?_
  refine turn_congr fun n hn => ?_
  refine (freqs_at _).trans (congrArg (hz 1090519040#32) ?_)
  exact Nat.mod_eq_of_lt hn

/-- The reference's array at an entry. -/
theorem ref_turn (m : (ℓ : Loc nD τ sig) → Buf (Elt Ideal) ℓ) (c : Dev nD) (r : Fin 32768) (d : Fin 1024) :
    (Cert.Reference7Ideal.Value.res_main_v34 m c : Vec Ideal S32768x1024 .bf16) (ix2 r d)
      = turn 8 64 (hz 1090519040#32) (row (m ((c.tc : Thread nD τ).loc main_arg0)) (m ((c.tc : Thread nD τ).loc main_arg1)) r)
        (place (m ((c.tc : Thread nD τ).loc main_arg2)) r) d.val := by
  refine Eq.trans ?_ (whole_at _ _ _ r d)
  unfold Cert.Reference7Ideal.Value.res_main_v34 term freqs
  rfl

end Cert.Index

end
-- ==== Proof.Index.Value.lean ====
/-
  The turned index queries over the extended reals: the tables of cosines and signed sines, the projection that reads
  them, the reference's array, and the claims on them.
-/
module

public import proofs.«01_k».proof.Defs
public import proofs.«01_k».proof.Proof.Rope.Turn
public import proofs.«01_k».proof.Proof.Gen.Kernel7Ideal.Frame
public import proofs.«01_k».proof.Proof.Index.Reference
public import Idealize.ShloMosaic.Lib.Pipeline.ValueKit.Basic
public import Idealize.ShloMosaic.Lib.Pointwise

@[expose] public section

set_option maxRecDepth 16384

noncomputable section

namespace Cert.Kernel7Ideal.Turned

open Cert.Kernel7Ideal Cert.Kernel7Ideal.Gen Cert.Rope
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

local notation "𝕄" => MT nD τ sig Unit (Elt Ideal) ℕ (UR sig nD τ) ℕ

/-! ## The array -/

/-- A row against a column of the projection. -/
def A (H : FVec Ideal S32768x2048 .f32) (W : FVec Ideal S2048x9808 .f32) (r : Fin 32768) (n : Nat) : EReal :=
  ∑ k : Fin 2048, H (ix2 r k) * W (ix2 k ⟨(4608 + n) % 9808, Nat.mod_lt _ (by decide)⟩)

/-- A row's position. -/
def pos (P : Vec Ideal S4x8192 .i32) (r : Fin 32768) : EReal :=
  FloatOps.sitofp (F := Ideal) FTy.f32 (P (ix2 ⟨r.val / 8192, by have := r.isLt; omega⟩ ⟨r.val % 8192, Nat.mod_lt _ (by decide)⟩))

/-- The projection, its heads turned. -/
def G (H : FVec Ideal S32768x2048 .f32) (W : FVec Ideal S2048x9808 .f32) (P : Vec Ideal S4x8192 .i32) : Vec Ideal S32768x1024 .bf16 := fun j =>
  turn 8 64 (hz 1090519040#32) (A H W (j 0)) (pos P (j 0)) (j 1).val

/-! ## The blocks' places -/

theorem tindex0 : ∀ t : Fin cfg0.N, win0_0.index t (0 : Fin 2) = t.val ∧ win0_0.index t (1 : Fin 2) = 0 :=
  (by decide +kernel : ∀ t : Fin grid0.N, _)
theorem tindexf : ∀ t : Fin cfg0.N, win0_3.index t (0 : Fin 2) = 0 ∧ win0_3.index t (1 : Fin 2) = 0 :=
  (by decide +kernel : ∀ t : Fin grid0.N, _)
theorem tindexs : ∀ t : Fin cfg0.N, win0_4.index t (0 : Fin 2) = 0 ∧ win0_4.index t (1 : Fin 2) = 0 :=
  (by decide +kernel : ∀ t : Fin grid0.N, _)
theorem tindexc : ∀ t : Fin cfg0.N, win0_7.index t (0 : Fin 2) = t.val ∧ win0_7.index t (1 : Fin 2) = 0 :=
  (by decide +kernel : ∀ t : Fin grid0.N, _)
theorem tindexd : ∀ t : Fin cfg0.N, win0_8.index t (0 : Fin 2) = t.val ∧ win0_8.index t (1 : Fin 2) = 0 :=
  (by decide +kernel : ∀ t : Fin grid0.N, _)
theorem index0 : ∀ t : Fin cfg1.N, win1_0.index t (0 : Fin 2) = t.val / 2 ∧ win1_0.index t (1 : Fin 2) = 0 :=
  (by decide +kernel : ∀ t : Fin grid1.N, _)
theorem index1 : ∀ t : Fin cfg1.N, win1_1.index t (0 : Fin 2) = 0 ∧ win1_1.index t (1 : Fin 2) = t.val % 2 :=
  (by decide +kernel : ∀ t : Fin grid1.N, _)
theorem index2 : ∀ t : Fin cfg1.N, win1_2.index t (0 : Fin 2) = t.val / 2 ∧ win1_2.index t (1 : Fin 2) = 0 :=
  (by decide +kernel : ∀ t : Fin grid1.N, _)
theorem index3 : ∀ t : Fin cfg1.N, win1_3.index t (0 : Fin 2) = t.val / 2 ∧ win1_3.index t (1 : Fin 2) = 0 :=
  (by decide +kernel : ∀ t : Fin grid1.N, _)
theorem index4 : ∀ t : Fin cfg1.N, win1_4.index t (0 : Fin 2) = t.val / 2 ∧ win1_4.index t (1 : Fin 2) = t.val % 2 :=
  (by decide +kernel : ∀ t : Fin grid1.N, _)

theorem lt_T (t : Fin cfg0.N) : t.val < 32 := t.isLt
theorem lt_N (t : Fin cfg1.N) : t.val < 64 := t.isLt

theorem temb0 (t : Fin cfg0.N) (r : Fin 1024) :
    ((cfg0.win 0).blk t).view.emb (ix2 r 0 : S1024x1.Idx) = (ix2 ⟨1024 * t.val + r.val, by have := lt_T t; omega⟩ 0 : S32768x1.Idx) := by
  obtain ⟨e0, e1⟩ := tindex0 t
  funext a
  apply Fin.ext
  match a with
  | 0 => show win0_0.index t (0 : Fin 2) * 1024 + 1 * r.val = 1024 * t.val + r.val; omega
  | 1 => show win0_0.index t (1 : Fin 2) * 1 + 1 * 0 = 0; omega
theorem tembf (t : Fin cfg0.N) (l : Fin 128) :
    ((cfg0.win 3).blk t).view.emb (ix2 0 l : S1x128.Idx) = (ix2 0 l : S1x128.Idx) := by
  obtain ⟨e0, e1⟩ := tindexf t
  funext a
  apply Fin.ext
  match a with
  | 0 => show win0_3.index t (0 : Fin 2) * 1 + 1 * 0 = 0; omega
  | 1 => show win0_3.index t (1 : Fin 2) * 128 + 1 * l.val = l.val; omega
theorem tembs (t : Fin cfg0.N) (l : Fin 128) :
    ((cfg0.win 4).blk t).view.emb (ix2 0 l : S1x128.Idx) = (ix2 0 l : S1x128.Idx) := by
  obtain ⟨e0, e1⟩ := tindexs t
  funext a
  apply Fin.ext
  match a with
  | 0 => show win0_4.index t (0 : Fin 2) * 1 + 1 * 0 = 0; omega
  | 1 => show win0_4.index t (1 : Fin 2) * 128 + 1 * l.val = l.val; omega
theorem tembc (t : Fin cfg0.N) (r : Fin 1024) (l : Fin 128) :
    ((cfg0.win 7).blk t).view.emb (ix2 r l : S1024x128.Idx) = (ix2 ⟨1024 * t.val + r.val, by have := lt_T t; omega⟩ l : S32768x128.Idx) := by
  obtain ⟨e0, e1⟩ := tindexc t
  funext a
  apply Fin.ext
  match a with
  | 0 => show win0_7.index t (0 : Fin 2) * 1024 + 1 * r.val = 1024 * t.val + r.val; omega
  | 1 => show win0_7.index t (1 : Fin 2) * 128 + 1 * l.val = l.val; omega
theorem tembd (t : Fin cfg0.N) (r : Fin 1024) (l : Fin 128) :
    ((cfg0.win 8).blk t).view.emb (ix2 r l : S1024x128.Idx) = (ix2 ⟨1024 * t.val + r.val, by have := lt_T t; omega⟩ l : S32768x128.Idx) := by
  obtain ⟨e0, e1⟩ := tindexd t
  funext a
  apply Fin.ext
  match a with
  | 0 => show win0_8.index t (0 : Fin 2) * 1024 + 1 * r.val = 1024 * t.val + r.val; omega
  | 1 => show win0_8.index t (1 : Fin 2) * 128 + 1 * l.val = l.val; omega
theorem emb0 (t : Fin cfg1.N) (r : Fin 1024) (k : Fin 2048) :
    ((cfg1.win 0).blk t).view.emb (ix2 r k : S1024x2048.Idx) = (ix2 ⟨1024 * (t.val / 2) + r.val, by have := lt_N t; omega⟩ k : S32768x2048.Idx) := by
  obtain ⟨e0, e1⟩ := index0 t
  funext a
  apply Fin.ext
  match a with
  | 0 => show win1_0.index t (0 : Fin 2) * 1024 + 1 * r.val = 1024 * (t.val / 2) + r.val; omega
  | 1 => show win1_0.index t (1 : Fin 2) * 2048 + 1 * k.val = k.val; omega
theorem emb1 (t : Fin cfg1.N) (k : Fin 2048) (d : Fin 512) :
    ((cfg1.win 1).blk t).view.emb (ix2 k d : S2048x512.Idx) = (ix2 k ⟨512 * (t.val % 2) + d.val, by omega⟩ : S2048x1024.Idx) := by
  obtain ⟨e0, e1⟩ := index1 t
  funext a
  apply Fin.ext
  match a with
  | 0 => show win1_1.index t (0 : Fin 2) * 2048 + 1 * k.val = k.val; omega
  | 1 => show win1_1.index t (1 : Fin 2) * 512 + 1 * d.val = 512 * (t.val % 2) + d.val; omega
theorem emb2 (t : Fin cfg1.N) (r : Fin 1024) (l : Fin 128) :
    ((cfg1.win 2).blk t).view.emb (ix2 r l : S1024x128.Idx) = (ix2 ⟨1024 * (t.val / 2) + r.val, by have := lt_N t; omega⟩ l : S32768x128.Idx) := by
  obtain ⟨e0, e1⟩ := index2 t
  funext a
  apply Fin.ext
  match a with
  | 0 => show win1_2.index t (0 : Fin 2) * 1024 + 1 * r.val = 1024 * (t.val / 2) + r.val; omega
  | 1 => show win1_2.index t (1 : Fin 2) * 128 + 1 * l.val = l.val; omega
theorem emb3 (t : Fin cfg1.N) (r : Fin 1024) (l : Fin 128) :
    ((cfg1.win 3).blk t).view.emb (ix2 r l : S1024x128.Idx) = (ix2 ⟨1024 * (t.val / 2) + r.val, by have := lt_N t; omega⟩ l : S32768x128.Idx) := by
  obtain ⟨e0, e1⟩ := index3 t
  funext a
  apply Fin.ext
  match a with
  | 0 => show win1_3.index t (0 : Fin 2) * 1024 + 1 * r.val = 1024 * (t.val / 2) + r.val; omega
  | 1 => show win1_3.index t (1 : Fin 2) * 128 + 1 * l.val = l.val; omega
theorem emb4 (t : Fin cfg1.N) (r : Fin 1024) (d : Fin 512) :
    ((cfg1.win 4).blk t).view.emb (ix2 r d : S1024x512.Idx)
      = (ix2 ⟨1024 * (t.val / 2) + r.val, by have := lt_N t; omega⟩ ⟨512 * (t.val % 2) + d.val, by omega⟩ : S32768x1024.Idx) := by
  obtain ⟨e0, e1⟩ := index4 t
  funext a
  apply Fin.ext
  match a with
  | 0 => show win1_4.index t (0 : Fin 2) * 1024 + 1 * r.val = 1024 * (t.val / 2) + r.val; omega
  | 1 => show win1_4.index t (1 : Fin 2) * 512 + 1 * d.val = 512 * (t.val % 2) + d.val; omega

/-! ## The tables -/

theorem cos_at (p : Vec Ideal S1024x1 .i32) (f : Vec Ideal S1x128 .f32) (r : Fin 1024) (l : Fin 128) :
    k0_pay6 p f (ix2 r l) = Ideal.cos (FloatOps.sitofp (F := Ideal) FTy.f32 (p (ix2 r 0)) * f (ix2 0 l)) := by
  pointwise [k0_pay6, k0_pay5, k0_pay1]
theorem sin_at (p : Vec Ideal S1024x1 .i32) (f s : Vec Ideal S1x128 .f32) (r : Fin 1024) (l : Fin 128) :
    k0_pay7 p f s (ix2 r l) = Ideal.sin (FloatOps.sitofp (F := Ideal) FTy.f32 (p (ix2 r 0)) * f (ix2 0 l)) * s (ix2 0 l) := by
  pointwise [k0_pay7, k0_pay5, k0_pay1]

theorem cos_out (p : Vec Ideal S1024x1 .i32) (a b e f : Vec Ideal S1x128 .f32) : out0_7 p a b e f = k0_pay6 p e := by
  unfold out0_7
  rw [View.canon_cons_unit_lit _ _ _ (by decide), View.ld_unit_lit _ _ (by decide), View.ld_unit_lit _ _ (by decide)]
theorem sin_out (p : Vec Ideal S1024x1 .i32) (a b e f : Vec Ideal S1x128 .f32) : out0_8 p a b e f = k0_pay7 p e f := by
  unfold out0_8
  rw [View.canon_cons_unit_lit _ _ _ (by decide), View.ld_unit_lit _ _ (by decide), View.ld_unit_lit _ _ (by decide), View.ld_unit_lit _ _ (by decide)]

theorem cast_at (P : IVec S4x8192 32) (r : Fin 32768) :
    shapeCast S32768x1 P shapeCasts_S4x8192_S32768x1 (ix2 r 0) = P (ix2 ⟨r.val / 8192, by have := r.isLt; omega⟩ ⟨r.val % 8192, Nat.mod_lt _ (by decide)⟩) := by
  obtain ⟨z, hz⟩ : ∃ z : Fin 1, z = 0 := ⟨_, rfl⟩
  rw [← hz]
  pointwise []

section Run

variable (m : (ℓ : Loc nD τ sig) → Buf (Elt Ideal) ℓ) (ρ : Dev nD → PrngReg) (c : Dev nD)

theorem V_pos (r : Fin 32768) : (V1 m ρ c main_v0 : Vec Ideal S32768x1 .i32) (ix2 r 0)
    = m ((c : Thread nD τ).loc main_arg2) (ix2 ⟨r.val / 8192, by have := r.isLt; omega⟩ ⟨r.val % 8192, Nat.mod_lt _ (by decide)⟩) := by
  have h : (V1 m ρ c main_v0 : Vec Ideal S32768x1 .i32) = shapeCast S32768x1 (m ((c : Thread nD τ).loc main_arg2)) shapeCasts_S4x8192_S32768x1 := by
    show StableHlo.after hostOps0 _ (Proc.devRef .tc main_v0) = _
    simp only [hostOps0, StableHlo.after_cons, StableHlo.after_nil]
    rfl
  rw [h]
  exact cast_at _ r
theorem V_freq (l : Fin 128) : (V1 m ρ c main_v38 : Vec Ideal S1x128 .f32) (ix2 0 l) = freq 8 64 (hz 1090519040#32) l.val := by
  have h : (V1 m ρ c main_v38 : Vec Ideal S1x128 .f32) = shapeCast S1x128 (shapeCast S128 (broadcastInDim S2x64 ![0, 1] bcast_S1x64_S2x64_0_1 (shapeCast S1x64 (concatenate S64 0 [⟨S8, (Host.powf (F := Ideal) (broadcastInDim S8 ![] bcast_S_S8 (constant S_ .f32 0x48F42400#32)) (Host.divf (Host.negf (sitofp .f32 (iotaInDim S8 32 0))) (broadcastInDim S8 ![] bcast_S_S8 (constant S_ .f32 0x41000000#32))))⟩, ⟨S8, (Host.powf (F := Ideal) (broadcastInDim S8 ![] bcast_S_S8 (constant S_ .f32 0x48F42400#32)) (Host.divf (Host.negf (sitofp .f32 (iotaInDim S8 32 0))) (broadcastInDim S8 ![] bcast_S_S8 (constant S_ .f32 0x41000000#32))))⟩, ⟨S48, broadcastInDim S48 ![] bcast_S_S48 (constant (F := Ideal) S_ .f32 0x00000000#32)⟩] concatenates_S8_S8_S48_S64_d0) shapeCasts_S64_S1x64)) shapeCasts_S2x64_S128) shapeCasts_S128_S1x128 := by
    show StableHlo.after hostOps0 _ (Proc.devRef .tc main_v38) = _
    simp only [hostOps0, StableHlo.after_cons, StableHlo.after_nil]
    rfl
  rw [h]
  have v : ∀ n : Fin 8, (Host.powf (F := Ideal) (broadcastInDim S8 ![] bcast_S_S8 (constant S_ .f32 0x48F42400#32)) (Host.divf (Host.negf (sitofp .f32 (iotaInDim S8 32 0))) (broadcastInDim S8 ![] bcast_S_S8 (constant S_ .f32 0x41000000#32)))) (ix1 n) = hz 1090519040#32 n.val := fun n => by
    unfold hz
    pointwise []
  revert v
  generalize (Host.powf (F := Ideal) (broadcastInDim S8 ![] bcast_S_S8 (constant S_ .f32 0x48F42400#32)) (Host.divf (Host.negf (sitofp .f32 (iotaInDim S8 32 0))) (broadcastInDim S8 ![] bcast_S_S8 (constant S_ .f32 0x41000000#32)))) = w
  intro v
  have lm := Nat.mod_eq_of_lt l.isLt
  by_cases h1 : l.val % 64 < 8
  · rewrite [freq_lo h1]
    refine Eq.trans ?_ (v ⟨l.val % 64, h1⟩)
    pointwise []
    first | rw [dif_pos h1] | (rw [dif_pos (show l.val < 8 by omega)]; exact congrArg (fun q => w (ix1 q)) (Fin.ext (by show l.val = l.val % 64; omega)))
  · by_cases h2 : l.val % 64 - 8 < 8
    · rewrite [freq_mid h1 h2]
      refine Eq.trans ?_ (v ⟨l.val % 64 - 8, h2⟩)
      pointwise []
      first | rw [dif_neg h1, dif_pos h2] | (rw [dif_neg (show ¬ l.val < 8 by omega), dif_pos (show l.val - 8 < 8 by omega)]; exact congrArg (fun q => w (ix1 q)) (Fin.ext (by show l.val - 8 = l.val % 64 - 8; omega)))
    · rewrite [freq_hi h1 h2]
      pointwise []
      first | rw [dif_neg h1, dif_neg h2] | rw [dif_neg (show ¬ l.val < 8 by omega), dif_neg (show ¬ l.val - 8 < 8 by omega)]
theorem V_sgn (l : Fin 128) : (V1 m ρ c main_v42 : Vec Ideal S1x128 .f32) (ix2 0 l) = sgn 8 64 l.val := by
  have h : (V1 m ρ c main_v42 : Vec Ideal S1x128 .f32) = shapeCast S1x128 (shapeCast S128 (broadcastInDim S2x64 ![0, 1] bcast_S1x64_S2x64_0_1 (shapeCast S1x64 (concatenate S64 0 [⟨S8, Host.negf (broadcastInDim S8 ![] bcast_S_S8 (constant (F := Ideal) S_ .f32 0x3F800000#32))⟩, ⟨S8, broadcastInDim S8 ![] bcast_S_S8 (constant (F := Ideal) S_ .f32 0x3F800000#32)⟩, ⟨S48, broadcastInDim S48 ![] bcast_S_S48 (constant (F := Ideal) S_ .f32 0x00000000#32)⟩] concatenates_S8_S8_S48_S64_d0) shapeCasts_S64_S1x64)) shapeCasts_S2x64_S128) shapeCasts_S128_S1x128 := by
    show StableHlo.after hostOps0 _ (Proc.devRef .tc main_v42) = _
    simp only [hostOps0, StableHlo.after_cons, StableHlo.after_nil]
    rfl
  rw [h]
  pointwise []
  unfold sgn
  try rw [Nat.mod_eq_of_lt l.isLt]
  split <;> rename_i h1 <;> simp [h1]

/-- The table of cosines. -/
def C : Vec Ideal S32768x128 .f32 := fun j =>
  Ideal.cos (pos (m ((c : Thread nD τ).loc main_arg2)) (j 0) * freq 8 64 (hz 1090519040#32) (j 1).val)
/-- The table of signed sines. -/
def S : Vec Ideal S32768x128 .f32 := fun j =>
  Ideal.sin (pos (m ((c : Thread nD τ).loc main_arg2)) (j 0) * freq 8 64 (hz 1090519040#32) (j 1).val) * sgn 8 64 (j 1).val

/-- The array the projection leaves. -/
def Out : Vec Ideal S32768x1024 .bf16 := G (m ((c : Thread nD τ).loc main_arg0)) (m ((c : Thread nD τ).loc main_arg1)) (m ((c : Thread nD τ).loc main_arg2))

variable {m c}

theorem tblk0_at (t : Fin cfg0.N) (r : Fin 1024) :
    FloatOps.sitofp (F := Ideal) FTy.f32 (iblk0 (V1 m ρ) c 0 t (ix2 r 0 : S1024x1.Idx))
      = pos (m ((c : Thread nD τ).loc main_arg2)) ⟨1024 * t.val + r.val, by have := lt_T t; omega⟩ := by
  unfold pos
  refine congrArg (FloatOps.sitofp (F := Ideal) FTy.f32) ?_
  show (V1 m ρ c main_v0 : Vec Ideal S32768x1 .i32) (((cfg0.win 0).blk t).view.emb (ix2 r 0 : S1024x1.Idx)) = _
  rw [temb0]
  exact V_pos m ρ c _
theorem tblkf_at (t : Fin cfg0.N) (l : Fin 128) : iblk0 (V1 m ρ) c 3 t (ix2 0 l : S1x128.Idx) = freq 8 64 (hz 1090519040#32) l.val := by
  show (V1 m ρ c main_v38 : Vec Ideal S1x128 .f32) (((cfg0.win 3).blk t).view.emb (ix2 0 l : S1x128.Idx)) = _
  rw [tembf]
  exact V_freq m ρ c _
theorem tblks_at (t : Fin cfg0.N) (l : Fin 128) : iblk0 (V1 m ρ) c 4 t (ix2 0 l : S1x128.Idx) = sgn 8 64 l.val := by
  show (V1 m ρ c main_v42 : Vec Ideal S1x128 .f32) (((cfg0.win 4).blk t).view.emb (ix2 0 l : S1x128.Idx)) = _
  rw [tembs]
  exact V_sgn m ρ c _

theorem cflushed (t : Fin cfg0.N) : (dat0 (V1 m ρ) c).flushed 7 t = ((cfg0.win 7).blk t).view.read (Elt Ideal) (C m c) := by
  funext j
  obtain ⟨r, l, rfl⟩ : ∃ r l, j = (ix2 r l : S1024x128.Idx) := ⟨_, _, eq_ix2 j⟩
  refine (congrFun (after0_7 (V1 m ρ) c t) (ix2 r l : S1024x128.Idx)).trans ?_
  refine ((congrFun (cos_out _ _ _ _ _) _).trans (cos_at _ _ r l)).trans (Eq.trans (b := C m c (ix2 ⟨1024 * t.val + r.val, by have := lt_T t; omega⟩ l)) ?_ (congrArg (C m c) (tembc t r l).symm))
  exact congrArg₂ (fun a b : EReal => Ideal.cos (a * b)) (tblk0_at ρ t r) (tblkf_at ρ t l)
theorem sflushed (t : Fin cfg0.N) : (dat0 (V1 m ρ) c).flushed 8 t = ((cfg0.win 8).blk t).view.read (Elt Ideal) (S m c) := by
  funext j
  obtain ⟨r, l, rfl⟩ : ∃ r l, j = (ix2 r l : S1024x128.Idx) := ⟨_, _, eq_ix2 j⟩
  refine (congrFun (after0_8 (V1 m ρ) c t) (ix2 r l : S1024x128.Idx)).trans ?_
  refine ((congrFun (sin_out _ _ _ _ _) _).trans (sin_at _ _ _ r l)).trans (Eq.trans (b := S m c (ix2 ⟨1024 * t.val + r.val, by have := lt_T t; omega⟩ l)) ?_ (congrArg (S m c) (tembd t r l).symm))
  exact congrArg₂ (fun a b : EReal => a * b) (congrArg₂ (fun a b : EReal => Ideal.sin (a * b)) (tblk0_at ρ t r) (tblkf_at ρ t l)) (tblks_at ρ t l)

theorem ccovered (i : S32768x128.Idx) :
    ∃ t : Fin cfg0.N, (cfg0.win 7).flush t = true ∧ i ∈ ((cfg0.win 7).blk t).view.set := by
  have i0 : (i 0).val < 32768 := (i 0).isLt
  have hN : cfg0.N = 32 := rfl
  let t : Fin cfg0.N := ⟨(i 0).val / 1024, by omega⟩
  let j : S1024x128.Idx := ix2 ⟨(i 0).val % 1024, by omega⟩ (i 1)
  refine ⟨t, flush0_7 _, ?_⟩
  have h := ((cfg0.win 7).blk t).view.emb_mem_set j
  have e : ((cfg0.win 7).blk t).view.emb j = i := by
    have tv : t.val = (i 0).val / 1024 := rfl
    refine (tembc t _ _).trans ?_
    funext a
    apply Fin.ext
    match a with
    | 0 => show 1024 * t.val + (i 0).val % 1024 = (i 0).val; omega
    | 1 => rfl
  rwa [e] at h
theorem scovered (i : S32768x128.Idx) :
    ∃ t : Fin cfg0.N, (cfg0.win 8).flush t = true ∧ i ∈ ((cfg0.win 8).blk t).view.set := by
  have i0 : (i 0).val < 32768 := (i 0).isLt
  have hN : cfg0.N = 32 := rfl
  let t : Fin cfg0.N := ⟨(i 0).val / 1024, by omega⟩
  let j : S1024x128.Idx := ix2 ⟨(i 0).val % 1024, by omega⟩ (i 1)
  refine ⟨t, flush0_8 _, ?_⟩
  have h := ((cfg0.win 8).blk t).view.emb_mem_set j
  have e : ((cfg0.win 8).blk t).view.emb j = i := by
    have tv : t.val = (i 0).val / 1024 := rfl
    refine (tembd t _ _).trans ?_
    funext a
    apply Fin.ext
    match a with
    | 0 => show 1024 * t.val + (i 0).val % 1024 = (i 0).val; omega
    | 1 => rfl
  rwa [e] at h

theorem V_C : (V3 m ρ c main_v43_2 : Vec Ideal S32768x128 .f32) = C m c :=
  (W3_of m ρ c main_v43_2 (by decide)).trans ((W2_arr m ρ c 7).trans
    ((dat0 (V1 m ρ) c).arrAt_eq_of_cover 7 _ (fun t _ => cflushed ρ t) ccovered))
theorem V_S : (V3 m ρ c main_v43_3 : Vec Ideal S32768x128 .f32) = S m c :=
  (W3_of m ρ c main_v43_3 (by decide)).trans ((W2_arr m ρ c 8).trans
    ((dat0 (V1 m ρ) c).arrAt_eq_of_cover 8 _ (fun t _ => sflushed ρ t) scovered))

end Run

/-! ## The projection -/

theorem dot_at (x : Vec Ideal S1024x2048 .bf16) (w : Vec Ideal S2048x512 .bf16) (r : Fin 1024) (d : Fin 512) :
    k1_pay3 x w (ix2 r d) = ∑ k, x (ix2 r k) * w (ix2 k d) := by
  pointwise [k1_pay3]

theorem lane : ∀ l : Fin 128, IntOp.cmpi CmpIPredicate.slt (IntOp.andi (BitVec.ofNat 32 l.val) 63#32) 8#32 = if l.val % 64 < 8 then 1#1 else 0#1 := by
  decide +kernel

/-- What the body leaves at a row and a column of the tile. -/
def T (y : FVec Ideal S1024x512 .f32) (f s : FVec Ideal S1024x128 .f32) : Vec Ideal S1024x512 .bf16 := fun j =>
  y j * f (ix2 (j 0) ⟨(j 1).val % 128, Nat.mod_lt _ (by decide)⟩)
    + (if (j 1).val % 64 < 8 then y (ix2 (j 0) ⟨((j 1).val + 8) % 512, Nat.mod_lt _ (by decide)⟩) else y (ix2 (j 0) ⟨((j 1).val - 8) % 512, Nat.mod_lt _ (by decide)⟩))
      * s (ix2 (j 0) ⟨(j 1).val % 128, Nat.mod_lt _ (by decide)⟩)

theorem T_at (y : FVec Ideal S1024x512 .f32) (f s : FVec Ideal S1024x128 .f32) (r : Fin 1024) (l : Fin 128) (o : Nat) (ho : o % 128 = 0) (hl : o + 128 ≤ 512) :
    y (ix2 r ⟨o + l.val, by omega⟩) * f (ix2 r l) + Scalar.select (IntOp.cmpi CmpIPredicate.slt (IntOp.andi (BitVec.ofNat 32 l.val) 63#32) 8#32)
        (y (ix2 r ⟨o + (l.val + 128 - 120) % 128, by omega⟩)) (y (ix2 r ⟨o + (l.val + 128 - 8) % 128, by omega⟩)) * s (ix2 r l)
      = T y f s (ix2 r ⟨o + l.val, by omega⟩) := by
  have hlt := l.isLt
  have e : (⟨(o + l.val) % 128, Nat.mod_lt _ (by decide)⟩ : Fin 128) = l := Fin.ext (by show (o + l.val) % 128 = l.val; omega)
  rw [lane]
  show _ = y (ix2 r ⟨o + l.val, _⟩) * f (ix2 r ⟨(o + l.val) % 128, _⟩)
    + (if (o + l.val) % 64 < 8 then y (ix2 r ⟨(o + l.val + 8) % 512, _⟩) else y (ix2 r ⟨(o + l.val - 8) % 512, _⟩)) * s (ix2 r ⟨(o + l.val) % 128, _⟩)
  rw [e]
  refine congrArg (fun z : EReal => y (ix2 r ⟨o + l.val, by omega⟩) * f (ix2 r l) + z * s (ix2 r l)) ?_
  by_cases h : l.val % 64 < 8
  · have h' : (o + l.val) % 64 < 8 := by omega
    rw [if_pos h, if_pos h']
    show y (ix2 r ⟨o + (l.val + 128 - 120) % 128, _⟩) = _
    refine congrArg (fun q => y (ix2 r q)) (Fin.ext ?_)
    show o + (l.val + 128 - 120) % 128 = (o + l.val + 8) % 512
    omega
  · have h' : ¬ (o + l.val) % 64 < 8 := by omega
    rw [if_neg h, if_neg h']
    show y (ix2 r ⟨o + (l.val + 128 - 8) % 128, _⟩) = _
    refine congrArg (fun q => y (ix2 r q)) (Fin.ext ?_)
    show o + (l.val + 128 - 8) % 128 = (o + l.val - 8) % 512
    omega

theorem piece0 (x : Vec Ideal S1024x2048 .bf16) (w : Vec Ideal S2048x512 .bf16) (f s : Vec Ideal S1024x128 .f32) (j : S1024x128.Idx) :
    k1_pay6 x w f s j = T (k1_pay3 x w) f s (r1_3.emb j) := by
  obtain ⟨r, l, rfl⟩ : ∃ r l, j = (ix2 r l : S1024x128.Idx) := ⟨_, _, eq_ix2 j⟩
  have e : r1_3.emb (ix2 r l) = (ix2 r ⟨0 + l.val, by omega⟩ : S1024x512.Idx) := by
    funext a
    apply Fin.ext
    match a with
    | 0 => show 0 + 1 * r.val = r.val; omega
    | 1 => show 0 + 1 * l.val = 0 + l.val; omega
  refine Eq.trans ?_ ((T_at (k1_pay3 x w) f s r l 0 (by decide) (by decide)).trans (congrArg (T (k1_pay3 x w) f s) e.symm))
  pointwise [k1_pay6, k1_pay4, k1_pay5]

theorem piece1 (x : Vec Ideal S1024x2048 .bf16) (w : Vec Ideal S2048x512 .bf16) (f s : Vec Ideal S1024x128 .f32) (j : S1024x128.Idx) :
    k1_pay7 x w f s j = T (k1_pay3 x w) f s (r1_4.emb j) := by
  obtain ⟨r, l, rfl⟩ : ∃ r l, j = (ix2 r l : S1024x128.Idx) := ⟨_, _, eq_ix2 j⟩
  have e : r1_4.emb (ix2 r l) = (ix2 r ⟨128 + l.val, by omega⟩ : S1024x512.Idx) := by
    funext a
    apply Fin.ext
    match a with
    | 0 => show 0 + 1 * r.val = r.val; omega
    | 1 => show 128 + 1 * l.val = 128 + l.val; omega
  refine Eq.trans ?_ ((T_at (k1_pay3 x w) f s r l 128 (by decide) (by decide)).trans (congrArg (T (k1_pay3 x w) f s) e.symm))
  pointwise [k1_pay7, k1_pay4, k1_pay5]

theorem piece2 (x : Vec Ideal S1024x2048 .bf16) (w : Vec Ideal S2048x512 .bf16) (f s : Vec Ideal S1024x128 .f32) (j : S1024x128.Idx) :
    k1_pay1 (k1_pay3 x w) (k1_pay4 f) (k1_pay5 s) j = T (k1_pay3 x w) f s (r1_5.emb j) := by
  obtain ⟨r, l, rfl⟩ : ∃ r l, j = (ix2 r l : S1024x128.Idx) := ⟨_, _, eq_ix2 j⟩
  have e : r1_5.emb (ix2 r l) = (ix2 r ⟨256 + l.val, by omega⟩ : S1024x512.Idx) := by
    funext a
    apply Fin.ext
    match a with
    | 0 => show 0 + 1 * r.val = r.val; omega
    | 1 => show 256 + 1 * l.val = 256 + l.val; omega
  refine Eq.trans ?_ ((T_at (k1_pay3 x w) f s r l 256 (by decide) (by decide)).trans (congrArg (T (k1_pay3 x w) f s) e.symm))
  pointwise [k1_pay1, k1_pay4, k1_pay5, k1_pay4, k1_pay5]

theorem piece3 (x : Vec Ideal S1024x2048 .bf16) (w : Vec Ideal S2048x512 .bf16) (f s : Vec Ideal S1024x128 .f32) (j : S1024x128.Idx) :
    k1_pay2 (k1_pay3 x w) (k1_pay4 f) (k1_pay5 s) j = T (k1_pay3 x w) f s (r1_6.emb j) := by
  obtain ⟨r, l, rfl⟩ : ∃ r l, j = (ix2 r l : S1024x128.Idx) := ⟨_, _, eq_ix2 j⟩
  have e : r1_6.emb (ix2 r l) = (ix2 r ⟨384 + l.val, by omega⟩ : S1024x512.Idx) := by
    funext a
    apply Fin.ext
    match a with
    | 0 => show 0 + 1 * r.val = r.val; omega
    | 1 => show 384 + 1 * l.val = 384 + l.val; omega
  refine Eq.trans ?_ ((T_at (k1_pay3 x w) f s r l 384 (by decide) (by decide)).trans (congrArg (T (k1_pay3 x w) f s) e.symm))
  pointwise [k1_pay2, k1_pay4, k1_pay5, k1_pay4, k1_pay5]

theorem out_eq (x : Vec Ideal S1024x2048 .bf16) (w : Vec Ideal S2048x512 .bf16) (f s : Vec Ideal S1024x128 .f32) :
    out1_4 x w f s = T (k1_pay3 x w) f s := by
  unfold out1_4 k1_pay10 k1_pay9 k1_pay8
  rw [View.ld_unit_lit _ x (by decide), View.ld_unit_lit _ w (by decide), View.ld_unit_lit _ f (by decide), View.ld_unit_lit _ s (by decide)]
  funext j
  refine View.canon_apply_of_pieces (T (k1_pay3 x w) f s) _ ?_ j (cover1_4 _ _ _ _ j)
  intro p hp
  simp only [List.mem_cons, List.not_mem_nil, or_false] at hp
  rcases hp with rfl | rfl | rfl | rfl
  · exact piece3 x w f s
  · exact piece2 x w f s
  · exact piece1 x w f s
  · exact piece0 x w f s

section Run

variable (m : (ℓ : Loc nD τ sig) → Buf (Elt Ideal) ℓ) (ρ : Dev nD → PrngReg) (c : Dev nD)

theorem V_H : (V3 m ρ c main_v45 : Vec Ideal S32768x2048 .bf16) = m ((c : Thread nD τ).loc main_arg0) := by
  refine Eq.trans ?_ (W2_args m ρ c main_arg0 (by decide))
  show StableHlo.after hostOps1 (W2 m ρ c) (Proc.devRef .tc main_v45) = _
  generalize W2 m ρ c = U
  simp only [hostOps1, StableHlo.after_cons, StableHlo.after_nil]
  rfl
theorem V_W (k : Fin 2048) (f : Fin 1024) : (V3 m ρ c main_v46 : Vec Ideal S2048x1024 .bf16) (ix2 k f)
    = m ((c : Thread nD τ).loc main_arg1) (ix2 k ⟨4608 + f.val, by omega⟩) := by
  have h : (V3 m ρ c main_v46 : Vec Ideal S2048x1024 .bf16) = extractStridedSlice S2048x1024 ![0, 4608] (m ((c : Thread nD τ).loc main_arg1)) slices_S2048x9808_S2048x1024_0_4608 := by
    refine Eq.trans ?_ (congrArg (fun z => extractStridedSlice S2048x1024 ![0, 4608] z slices_S2048x9808_S2048x1024_0_4608) (W2_args m ρ c main_arg1 (by decide)))
    show StableHlo.after hostOps1 (W2 m ρ c) (Proc.devRef .tc main_v46) = _
    generalize W2 m ρ c = U
    simp only [hostOps1, StableHlo.after_cons, StableHlo.after_nil]
    rfl
  rw [h]
  pointwise []
  try simp only [Nat.zero_add]

variable {m c} (t : Fin cfg1.N)

theorem iblk0_at (r : Fin 1024) (k : Fin 2048) :
    iblk1 (V3 m ρ) c 0 t (ix2 r k : S1024x2048.Idx) = m ((c : Thread nD τ).loc main_arg0) (ix2 ⟨1024 * (t.val / 2) + r.val, by have := lt_N t; omega⟩ k) := by
  show (V3 m ρ c main_v45 : Vec Ideal S32768x2048 .bf16) (((cfg1.win 0).blk t).view.emb (ix2 r k : S1024x2048.Idx)) = _
  rw [V_H, emb0]
theorem iblk1_at (k : Fin 2048) (d : Fin 512) :
    iblk1 (V3 m ρ) c 1 t (ix2 k d : S2048x512.Idx) = m ((c : Thread nD τ).loc main_arg1) (ix2 k ⟨4608 + (512 * (t.val % 2) + d.val), by omega⟩) := by
  show (V3 m ρ c main_v46 : Vec Ideal S2048x1024 .bf16) (((cfg1.win 1).blk t).view.emb (ix2 k d : S2048x512.Idx)) = _
  rw [emb1]
  exact V_W m ρ c k _
theorem iblk2_at (r : Fin 1024) (l : Fin 128) :
    iblk1 (V3 m ρ) c 2 t (ix2 r l : S1024x128.Idx) = C m c (ix2 ⟨1024 * (t.val / 2) + r.val, by have := lt_N t; omega⟩ l) := by
  show (V3 m ρ c main_v43_2 : Vec Ideal S32768x128 .f32) (((cfg1.win 2).blk t).view.emb (ix2 r l : S1024x128.Idx)) = _
  rw [V_C, emb2]
theorem iblk3_at (r : Fin 1024) (l : Fin 128) :
    iblk1 (V3 m ρ) c 3 t (ix2 r l : S1024x128.Idx) = S m c (ix2 ⟨1024 * (t.val / 2) + r.val, by have := lt_N t; omega⟩ l) := by
  show (V3 m ρ c main_v43_3 : Vec Ideal S32768x128 .f32) (((cfg1.win 3).blk t).view.emb (ix2 r l : S1024x128.Idx)) = _
  rw [V_S, emb3]

/-- The tile's product is the projection's, at the tile's columns. -/
theorem acc_at (r : Fin 1024) (d : Fin 512) (n : Nat) (hn : n = 512 * (t.val % 2) + d.val) :
    k1_pay3 (iblk1 (V3 m ρ) c 0 t) (iblk1 (V3 m ρ) c 1 t) (ix2 r d)
      = A (m ((c : Thread nD τ).loc main_arg0)) (m ((c : Thread nD τ).loc main_arg1)) ⟨1024 * (t.val / 2) + r.val, by have := lt_N t; omega⟩ n := by
  refine (dot_at _ _ r d).trans ?_
  unfold A
  refine Finset.sum_congr rfl fun k _ => ?_
  refine congrArg₂ (fun a b : EReal => a * b) (iblk0_at ρ t r k) ((iblk1_at ρ t k d).trans ?_)
  refine congrArg (fun q => m ((c : Thread nD τ).loc main_arg1) (ix2 k q)) (Fin.ext ?_)
  show 4608 + (512 * (t.val % 2) + d.val) = (4608 + n) % 9808
  have := d.isLt
  omega

theorem left_at (r : Fin 1024) (d : Fin 512) :
    out1_4 (iblk1 (V3 m ρ) c 0 t) (iblk1 (V3 m ρ) c 1 t) (iblk1 (V3 m ρ) c 2 t) (iblk1 (V3 m ρ) c 3 t) (ix2 r d)
      = Out m c (ix2 ⟨1024 * (t.val / 2) + r.val, by have := lt_N t; omega⟩ ⟨512 * (t.val % 2) + d.val, by omega⟩) := by
  refine (congrFun (out_eq _ _ _ _) _).trans ?_
  have hd := d.isLt
  refine Eq.trans ?_ (turn_eq 8 64 (hz 1090519040#32) (A (m ((c : Thread nD τ).loc main_arg0)) (m ((c : Thread nD τ).loc main_arg1)) ⟨1024 * (t.val / 2) + r.val, by have := lt_N t; omega⟩)
    (pos (m ((c : Thread nD τ).loc main_arg2)) ⟨1024 * (t.val / 2) + r.val, by have := lt_N t; omega⟩) (512 * (t.val % 2) + d.val))
  have fm : ∀ z : Nat, z % 128 % 64 = z % 64 := fun z => Nat.mod_mod_of_dvd z (by decide)
  have fe : freq 8 64 (hz 1090519040#32) (d.val % 128) = freq 8 64 (hz 1090519040#32) (512 * (t.val % 2) + d.val) := by
    unfold freq
    rw [show d.val % 128 % 64 = (512 * (t.val % 2) + d.val) % 64 by omega]
  have se : sgn 8 64 (d.val % 128) = sgn 8 64 (512 * (t.val % 2) + d.val) := by
    unfold sgn
    rw [show d.val % 128 % 64 = (512 * (t.val % 2) + d.val) % 64 by omega]
  have ec := (iblk2_at (m := m) (c := c) ρ t r ⟨d.val % 128, Nat.mod_lt _ (by decide)⟩).trans
    (congrArg (fun z : EReal => Ideal.cos (pos (m ((c : Thread nD τ).loc main_arg2)) ⟨1024 * (t.val / 2) + r.val, by have := lt_N t; omega⟩ * z)) fe)
  have es := (iblk3_at (m := m) (c := c) ρ t r ⟨d.val % 128, Nat.mod_lt _ (by decide)⟩).trans
    (congrArg₂ (fun z y : EReal => Ideal.sin (pos (m ((c : Thread nD τ).loc main_arg2)) ⟨1024 * (t.val / 2) + r.val, by have := lt_N t; omega⟩ * z) * y) fe se)
  refine congrArg₂ (fun a b : EReal => a + b) (congrArg₂ (fun a b : EReal => a * b) (acc_at ρ t r d _ rfl) ec) (congrArg₂ (fun a b : EReal => a * b) ?_ es)
  show (if d.val % 64 < 8 then k1_pay3 (iblk1 (V3 m ρ) c 0 t) (iblk1 (V3 m ρ) c 1 t) (ix2 r ⟨(d.val + 8) % 512, _⟩)
    else k1_pay3 (iblk1 (V3 m ρ) c 0 t) (iblk1 (V3 m ρ) c 1 t) (ix2 r ⟨(d.val - 8) % 512, _⟩)) = _
  by_cases h : d.val % 64 < 8
  · rw [if_pos h, if_pos (show (512 * (t.val % 2) + d.val) % 64 < 8 by omega)]
    exact acc_at ρ t r _ _ (by show 512 * (t.val % 2) + d.val + 8 = 512 * (t.val % 2) + (d.val + 8) % 512; omega)
  · rw [if_neg h, if_neg (show ¬ (512 * (t.val % 2) + d.val) % 64 < 8 by omega)]
    exact acc_at ρ t r _ _ (by show 512 * (t.val % 2) + d.val - 8 = 512 * (t.val % 2) + (d.val - 8) % 512; omega)

theorem flushed_eq : (dat1 (V3 m ρ) c).flushed 4 t = ((cfg1.win 4).blk t).view.read (Elt Ideal) (Out m c) := by
  funext j
  obtain ⟨r, d, rfl⟩ : ∃ r d, j = (ix2 r d : S1024x512.Idx) := ⟨_, _, eq_ix2 j⟩
  refine (congrFun (after1_4 (V3 m ρ) c t) (ix2 r d : S1024x512.Idx)).trans ((left_at ρ t r d).trans (congrArg (Out m c) ?_))
  exact (emb4 t r d).symm

theorem covered (i : S32768x1024.Idx) :
    ∃ t : Fin cfg1.N, (cfg1.win 4).flush t = true ∧ i ∈ ((cfg1.win 4).blk t).view.set := by
  have i0 : (i 0).val < 32768 := (i 0).isLt
  have i1 : (i 1).val < 1024 := (i 1).isLt
  have hN : cfg1.N = 64 := rfl
  let t : Fin cfg1.N := ⟨(i 0).val / 1024 * 2 + (i 1).val / 512, by omega⟩
  let j : S1024x512.Idx := ix2 ⟨(i 0).val % 1024, by omega⟩ ⟨(i 1).val % 512, by omega⟩
  refine ⟨t, flush1_4 _, ?_⟩
  have h := ((cfg1.win 4).blk t).view.emb_mem_set j
  have e : ((cfg1.win 4).blk t).view.emb j = i := by
    have tv : t.val = (i 0).val / 1024 * 2 + (i 1).val / 512 := rfl
    refine (emb4 t _ _).trans ?_
    funext a
    apply Fin.ext
    match a with
    | 0 => show 1024 * (t.val / 2) + (i 0).val % 1024 = (i 0).val; omega
    | 1 => show 512 * (t.val % 2) + (i 1).val % 512 = (i 1).val; omega
  rwa [e] at h

theorem final : W4 m ρ c (Proc.devRef .tc main_v47) = Out m c :=
  (W4_arr m ρ c 4).trans ((dat1 (V3 m ρ) c).arrAt_eq_of_cover 4 _ (fun t _ => flushed_eq ρ t) covered)

end Run

/-- Every run ends with the result's array at `G`, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v47) = Out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v47 (by decide))).trans (final ρ),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.Kernel7Ideal.Turned

namespace Cert.Index

open Idealize.ShloMosaic Idealize.ShloMosaic.TcCoe Idealize.SL.Sem Cert.Rope

theorem ref_at (m : (ℓ : Loc Cert.Reference7Ideal.nD Cert.Reference7Ideal.τ Cert.Reference7Ideal.sig) → Buf (Elt Ideal) ℓ) (c : Dev Cert.Reference7Ideal.nD) :
    (Cert.Reference7Ideal.Value.res_main_v34 m c : Vec Ideal Cert.Reference7Ideal.S32768x1024 .bf16)
      = Cert.Kernel7Ideal.Turned.G (m ((c.tc : Thread Cert.Reference7Ideal.nD Cert.Reference7Ideal.τ).loc Cert.Reference7Ideal.main_arg0))
        (m ((c.tc : Thread Cert.Reference7Ideal.nD Cert.Reference7Ideal.τ).loc Cert.Reference7Ideal.main_arg1))
        (m ((c.tc : Thread Cert.Reference7Ideal.nD Cert.Reference7Ideal.τ).loc Cert.Reference7Ideal.main_arg2)) := by
  funext j
  obtain ⟨r, d, rfl⟩ : ∃ r d, j = (ix2 r d : Cert.Reference7Ideal.S32768x1024.Idx) := ⟨_, _, eq_ix2 j⟩
  exact ref_turn m c r d

theorem frame_ri : Cert.quiescent_Reference7Ideal (hReference7Ideal := Cert.Reference7Ideal.Gen.facts) := by
  intro m ρ _
  exact (θ_run Cert.Reference7Ideal.defs _ _).mono
    (fun r h => ⟨fun c => (h c).2, Idealize.ShloMosaic.sem_eq_zero_of_no_sems (by decide) r.2⟩)
    (Cert.Reference7Ideal.Value.run (F := Ideal) m ρ)

theorem values : Cert.algebraic_Kernel7Ideal_Reference7Ideal (hKernel7Ideal := Cert.Kernel7Ideal.Gen.facts) (hReference7Ideal := Cert.Reference7Ideal.Gen.facts) := by
  intro m ρ m' ρ' _ same
  refine ⟨fun c => Cert.Kernel7Ideal.Turned.Out m c, Cert.Kernel7Ideal.Turned.run m ρ, ?_⟩
  refine (θ_run Cert.Reference7Ideal.defs _ _).mono (fun _ h c => ⟨(h c).1.trans ((ref_at m' c).trans ?_), (h c).2⟩) (Cert.Reference7Ideal.Value.run (F := Ideal) m' ρ')
  obtain ⟨e0, e1, e2⟩ := same c
  unfold Cert.Kernel7Ideal.Turned.Out
  rw [e0, e1, e2]

end Cert.Index

end
-- ==== Proof.lean ====
/-
  The stick-breaking attention call: both of its programs and the reference run to their ends with the argument kept and
  every counter at zero, the two named constants are what the program for the reals puts in place of the literals, and
  at finite arguments kernel and reference end with the same array. The experts' call: both of its programs and the
  reference run to their ends with the arguments kept and every counter at zero, and on routed arguments kernel and
  reference end with the same array. The projections of the gates, of the plain columns and of
  the sparse branch's rotated queries, keys and index queries, and the merge: the same, for any arguments.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Launch
public import proofs.«01_k».proof.Proof.Gen.Kernel2.Skeleton
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Kernel3
public import proofs.«01_k».proof.Proof.Gen.Kernel3.Launch
public import proofs.«01_k».proof.Proof.Gen.Kernel3.Skeleton
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Launch
public import proofs.«01_k».proof.Proof.Gen.Kernel4.Skeleton
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Launch
public import proofs.«01_k».proof.Proof.Gen.Kernel4Ideal.Skeleton
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Launch
public import proofs.«01_k».proof.Proof.Gen.Kernel5.Skeleton
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Launch
public import proofs.«01_k».proof.Proof.Gen.Kernel5Ideal.Skeleton
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Launch
public import proofs.«01_k».proof.Proof.Gen.Kernel6.Skeleton
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Launch
public import proofs.«01_k».proof.Proof.Gen.Kernel6Ideal.Skeleton
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Launch
public import proofs.«01_k».proof.Proof.Gen.Kernel7.Skeleton
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Launch
public import proofs.«01_k».proof.Proof.Gen.Kernel7Ideal.Skeleton
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.P.Frame
public import proofs.«01_k».proof.Proof.PI.Frame
public import proofs.«01_k».proof.Proof.Value.Ref
public import proofs.«01_k».proof.Proof.Experts.Same
public import proofs.«01_k».proof.Proof.Experts.Claims
public import proofs.«01_k».proof.Proof.Gate.Value
public import proofs.«01_k».proof.Proof.Plain.Value
public import proofs.«01_k».proof.Proof.Merge.Value
public import proofs.«01_k».proof.Proof.Rope.Value
public import proofs.«01_k».proof.Proof.Index.Value
public import Idealize.ShloMosaic.Adequacy
public import Idealize.ShloMosaic.Init

@[expose] public section

noncomputable section

namespace Cert.Proof

open Idealize.ShloMosaic Idealize.SL.Sem

theorem frame_p : Cert.quiescent_Kernel (hKernel := Cert.Kernel.Gen.facts) :=
  fun m ρ _ => Cert.Kernel.Stick.frame m ρ

theorem frame_pi : Cert.quiescent_KernelIdeal (hKernelIdeal := Cert.KernelIdeal.Gen.facts) :=
  fun m ρ _ => Cert.KernelIdeal.Stick.frame m ρ

theorem frame_ri : Cert.quiescent_ReferenceIdeal (hReferenceIdeal := Cert.ReferenceIdeal.Gen.facts) := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem kept : Cert.preserves_Kernel_KernelIdeal :=
  ⟨IdealRules.named_const.statement Cert.KernelIdeal.κ "mask" .f32 0xF149F2CA#32 ⊥ rfl,
    IdealRules.named_const.statement Cert.KernelIdeal.κ "dead" .f32 0xC2D40000#32 ⊥ rfl⟩

/-! ## The values -/

/-- The precondition's one broadcast. -/
theorem pre_facts : Cert.Pre_finite.Facts := ⟨by decide⟩

theorem inf_bits : Ideal.ofBits .f32 0x7F800000#32 = (⊤ : EReal) := by
  simp [Ideal.ofBits, Ideal.ieee]

/-- Under the precondition an argument is an array of reals. -/
theorem real_of_finite (a : FVec Ideal Cert.Pre_finite.S32768x3328 .f32)
    (h : @Cert.Pre_finite.fn pre_facts Ideal _ a = fun _ => 1#1) (j : Cert.Pre_finite.S32768x3328.Idx) :
    a j = ((a j).toReal : EReal) := by
  have k := congrFun h j
  have e : max (a j) (-(a j)) < Ideal.ofBits .f32 0x7F800000#32 := (Ideal.cmp_olt_eq_one _ _).mp k
  rw [inf_bits, max_lt_iff] at e
  refine (EReal.coe_toReal e.1.ne ?_).symm
  rintro b
  rw [b] at e
  exact absurd e.2 (by simp)

/-- The argument's real array, on each device. -/
def realOf (m : (ℓ : Loc Cert.KernelIdeal.nD Cert.KernelIdeal.τ Cert.KernelIdeal.sig) → Buf (Elt Ideal) ℓ) (c : Dev Cert.KernelIdeal.nD) (r k : ℕ) : ℝ :=
  (m ((c.tc : Thread Cert.KernelIdeal.nD Cert.KernelIdeal.τ).loc Cert.KernelIdeal.main_arg0)
    (ix2 (⟨r % 32768, Nat.mod_lt _ (by decide)⟩ : Fin 32768) (⟨k % 3328, Nat.mod_lt _ (by decide)⟩ : Fin 3328)) : EReal).toReal

theorem real_at (m : (ℓ : Loc Cert.KernelIdeal.nD Cert.KernelIdeal.τ Cert.KernelIdeal.sig) → Buf (Elt Ideal) ℓ)
    (h : Cert.Pre_KernelIdeal_finite (hPre_finite := pre_facts) m) (c : Dev Cert.KernelIdeal.nD) :
    Cert.KernelIdeal.Stick.IsX m c (realOf m c) := by
  intro j
  refine (real_of_finite _ (h c) j).trans ?_
  have j0 : (j 0).val < 32768 := (j 0).isLt
  have j1 : (j 1).val < 3328 := (j 1).isLt
  have e : (ix2 (⟨(j 0).val % 32768, Nat.mod_lt _ (by decide)⟩ : Fin 32768) (⟨(j 1).val % 3328, Nat.mod_lt _ (by decide)⟩ : Fin 3328)) = j := by
    funext a
    apply Fin.ext
    match a with
    | 0 => show (j 0).val % 32768 = (j 0).val; omega
    | 1 => show (j 1).val % 3328 = (j 1).val; omega
  unfold realOf
  rw [e]

theorem values : Cert.algebraic_KernelIdeal_ReferenceIdeal_pre_finite (hKernelIdeal := Cert.KernelIdeal.Gen.facts)
    (hReferenceIdeal := Cert.ReferenceIdeal.Gen.facts) (hPre_finite := pre_facts) := by
  intro m ρ m' ρ' h same
  refine ⟨fun c => Cert.KernelIdeal.Stick.G (realOf m c), ?_, ?_⟩
  · exact Cert.KernelIdeal.Stick.run m ρ (realOf m) (real_at m h)
  · exact Cert.ReferenceIdeal.Stick.run m' ρ' (realOf m) fun c j => (congrFun (same c) j).trans (real_at m h c j)

/-- What the experts' precondition's text needs. -/
theorem routed_facts : Cert.Pre_routed.Facts := ⟨by decide, by decide⟩

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts,
  Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts, pre_facts, routed_facts,
  frame_p, frame_pi, fun m ρ _ => frame_pi m ρ trivial, frame_ri, fun m ρ _ => frame_ri m ρ trivial,
  Cert.Experts.frame_p (hPre := routed_facts), Cert.Experts.frame_pi (hPre := routed_facts), Cert.Experts.frame_ri, fun m ρ _ => Cert.Experts.frame_ri m ρ trivial,
  fun m ρ _ => Cert.Kernel3.Gen.frame m ρ, fun m ρ _ => Cert.Kernel3Ideal.Gen.frame m ρ, Cert.Gate.frame_ri,
  fun m ρ _ => Cert.Kernel4.Gen.frame m ρ, fun m ρ _ => Cert.Kernel4Ideal.Gen.frame m ρ, Cert.Plain.frame_ri,
  fun m ρ _ => Cert.Kernel5.Gen.frame m ρ, fun m ρ _ => Cert.Kernel5Ideal.Gen.frame m ρ, Cert.Merge.frame_ri,
  fun m ρ _ => Cert.Kernel6.Gen.frame m ρ, fun m ρ _ => Cert.Kernel6Ideal.Gen.frame m ρ, Cert.Rope.frame_ri,
  fun m ρ _ => Cert.Kernel7.Gen.frame m ρ, fun m ρ _ => Cert.Kernel7Ideal.Gen.frame m ρ, Cert.Index.frame_ri,
  kept, values, trivial, Cert.Experts.values (hPre := routed_facts), trivial, Cert.Gate.values, trivial, Cert.Plain.values, trivial, Cert.Merge.values, trivial, Cert.Rope.values, trivial, Cert.Index.values⟩

end Cert.Proof

end
